-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1536, 768]⟩ ⟨2, ![1536, 12288]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![768, 1536]⟩ ⟨2, ![12288, 1536]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1536x768 : Shape := ⟨2, ![1536, 768]⟩
abbrev S768x1536 : Shape := ⟨2, ![768, 1536]⟩
abbrev S1536x1536 : Shape := ⟨2, ![1536, 1536]⟩
abbrev S1536x576 : Shape := ⟨2, ![1536, 576]⟩
abbrev S1536x512 : Shape := ⟨2, ![1536, 512]⟩
abbrev S1536x448 : Shape := ⟨2, ![1536, 448]⟩
abbrev S1440x576 : Shape := ⟨2, ![1440, 576]⟩
abbrev S1440x512 : Shape := ⟨2, ![1440, 512]⟩
abbrev S1440x448 : Shape := ⟨2, ![1440, 448]⟩
abbrev S12 : Shape := ⟨1, ![12]⟩
abbrev S_ : Shape := ⟨0, ![]⟩
abbrev S96x768 : Shape := ⟨2, ![96, 768]⟩
abbrev S768x576 : Shape := ⟨2, ![768, 576]⟩
abbrev S1 : Shape := ⟨1, ![1]⟩
abbrev S768x512 : Shape := ⟨2, ![768, 512]⟩
abbrev S768x448 : Shape := ⟨2, ![768, 448]⟩
abbrev S384x448 : Shape := ⟨2, ![384, 448]⟩
abbrev S384x512 : Shape := ⟨2, ![384, 512]⟩
abbrev S384x576 : Shape := ⟨2, ![384, 576]⟩
abbrev S192x512 : Shape := ⟨2, ![192, 512]⟩
abbrev S192x576 : Shape := ⟨2, ![192, 576]⟩
abbrev S192x448 : Shape := ⟨2, ![192, 448]⟩
abbrev S96x448 : Shape := ⟨2, ![96, 448]⟩
abbrev S96x576 : Shape := ⟨2, ![96, 576]⟩
abbrev S96x512 : Shape := ⟨2, ![96, 512]⟩

abbrev nBuf : Space → Nat
  | .hbm => 3
  | .vmem => 9
  | .smem => 0
  | _ => 0

abbrev bufTy : (tb : Table) → Fin (tcTables nBuf tb) → BufTy
  | .hbm, ⟨0, _⟩ => ⟨S1536x768, .bf16⟩
  | .hbm, ⟨1, _⟩ => ⟨S768x1536, .bf16⟩
  | .hbm, ⟨2, _⟩ => ⟨S1536x1536, .bf16⟩
  | .local _ .vmem, ⟨0, _⟩ => ⟨S1536x768, .bf16⟩
  | .local _ .vmem, ⟨1, _⟩ => ⟨S768x1536, .bf16⟩
  | .local _ .vmem, ⟨2, _⟩ => ⟨S1536x1536, .bf16⟩
  | .local _ .vmem, ⟨3, _⟩ => ⟨S1536x576, .bf16⟩
  | .local _ .vmem, ⟨4, _⟩ => ⟨S1536x512, .bf16⟩
  | .local _ .vmem, ⟨5, _⟩ => ⟨S1536x448, .bf16⟩
  | .local _ .vmem, ⟨6, _⟩ => ⟨S1440x576, .bf16⟩
  | .local _ .vmem, ⟨7, _⟩ => ⟨S1440x512, .bf16⟩
  | .local _ .vmem, ⟨8, _⟩ => ⟨S1440x448, .bf16⟩
  | _, _ => ⟨S1536x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  (ofTc nBuf bufTy 1 51 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v7 : BitVec 32 := Scalar.xori v2 c3_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v13 : BitVec 32 := Scalar.xori v2 c8_i32
  let c1_i32_10 : BitVec 32 := 1#32
  let v14 : BitVec 32 := Scalar.muli v13 c1_i32_10
  let v15 : BitVec 32 := Scalar.addi c0_i32_11 v14
  v15.toNat
def k0_off1 (d0 : Dev nD) : Fin 2 → Nat :=
  let c0_i32_38 : BitVec 32 := 0#32
  let c8_i32_37 : BitVec 32 := 8#32
  let c1_i32_36 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_33 : BitVec 32 := 1#32
  let v56 : BitVec 32 := Scalar.andi v2 c1_i32_33
  let c1_i32_34 : BitVec 32 := 1#32
  let v57 : BitVec 32 := Scalar.shrsi v2 c1_i32_34
  let c1_i32_35 : BitVec 32 := 1#32
  let v58 : BitVec 32 := Scalar.andi v57 c1_i32_35
  let v59 : BitVec 32 := Scalar.xori v56 v58
  let v60 : BitVec 32 := Scalar.subi c1_i32_36 v59
  let v61 : BitVec 32 := Scalar.muli c8_i32_37 v60
  let v62 : BitVec 32 := Scalar.addi c0_i32_38 v61
  let c96_i32 : BitVec 32 := 96#32
  let v65 : BitVec 32 := Scalar.muli v62 c96_i32
  let c0_i32_48 : BitVec 32 := 0#32
  ![v65.toNat, 0]
def k0_dev5 (d0 : Dev nD) : Nat :=
  let c0_i32_45 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_41 : BitVec 32 := 1#32
  let v66 : BitVec 32 := Scalar.xori v2 c1_i32_41
  let c1_i32_44 : BitVec 32 := 1#32
  let v67 : BitVec 32 := Scalar.muli v66 c1_i32_44
  let v68 : BitVec 32 := Scalar.addi c0_i32_45 v67
  v68.toNat
def k0_off2 (d0 : Dev nD) : Fin 2 → Nat :=
  let c0_i32_90 : BitVec 32 := 0#32
  let c8_i32_89 : BitVec 32 := 8#32
  let c1_i32_88 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_86 : BitVec 32 := 1#32
  let v115 : BitVec 32 := Scalar.shrsi v2 c1_i32_86
  let c1_i32_87 : BitVec 32 := 1#32
  let v116 : BitVec 32 := Scalar.andi v115 c1_i32_87
  let v117 : BitVec 32 := Scalar.subi c1_i32_88 v116
  let v118 : BitVec 32 := Scalar.muli c8_i32_89 v117
  let v119 : BitVec 32 := Scalar.addi c0_i32_90 v118
  let c96_i32_93 : BitVec 32 := 96#32
  let v122 : BitVec 32 := Scalar.muli v119 c96_i32_93
  let c0_i32_101 : BitVec 32 := 0#32
  ![v122.toNat, 0]
def k0_dev6 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_94 : BitVec 32 := 3#32
  let v123 : BitVec 32 := Scalar.xori v2 c3_i32_94
  let c1_i32_97 : BitVec 32 := 1#32
  let v124 : BitVec 32 := Scalar.muli v123 c1_i32_97
  let v125 : BitVec 32 := Scalar.addi c0_i32_98 v124
  v125.toNat
def k0_off3 (d0 : Dev nD) : Fin 2 → Nat :=
  let c0_i32_141 : BitVec 32 := 0#32
  let c8_i32_140 : BitVec 32 := 8#32
  let c1_i32_139 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v172 : BitVec 32 := Scalar.shrsi v2 c2_i32
  let c1_i32_138 : BitVec 32 := 1#32
  let v173 : BitVec 32 := Scalar.andi v172 c1_i32_138
  let v174 : BitVec 32 := Scalar.subi c1_i32_139 v173
  let v175 : BitVec 32 := Scalar.muli c8_i32_140 v174
  let v176 : BitVec 32 := Scalar.addi c0_i32_141 v175
  let c96_i32_144 : BitVec 32 := 96#32
  let v179 : BitVec 32 := Scalar.muli v176 c96_i32_144
  let c0_i32_152 : BitVec 32 := 0#32
  ![v179.toNat, 0]
def k0_dev7 (d0 : Dev nD) : Nat :=
  let c0_i32_149 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_145 : BitVec 32 := 4#32
  let v180 : BitVec 32 := Scalar.xori v2 c4_i32_145
  let c1_i32_148 : BitVec 32 := 1#32
  let v181 : BitVec 32 := Scalar.muli v180 c1_i32_148
  let v182 : BitVec 32 := Scalar.addi c0_i32_149 v181
  v182.toNat
def k0_off4 (d0 : Dev nD) : Fin 2 → Nat :=
  let c0_i32_143 : BitVec 32 := 0#32
  let c8_i32_142 : BitVec 32 := 8#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v172 : BitVec 32 := Scalar.shrsi v2 c2_i32
  let c1_i32_138 : BitVec 32 := 1#32
  let v173 : BitVec 32 := Scalar.andi v172 c1_i32_138
  let v177 : BitVec 32 := Scalar.muli c8_i32_142 v173
  let v178 : BitVec 32 := Scalar.addi c0_i32_143 v177
  let c96_i32_166 : BitVec 32 := 96#32
  let v199 : BitVec 32 := Scalar.muli v178 c96_i32_166
  let v200 : Index := Scalar.indexCast v199
  let c0_167 : Index := 0#32
  ![v200.toNat, 0]
def k0_off5 (d0 : Dev nD) : Fin 2 → Nat :=
  let c0_i32_143 : BitVec 32 := 0#32
  let c8_i32_142 : BitVec 32 := 8#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v172 : BitVec 32 := Scalar.shrsi v2 c2_i32
  let c1_i32_138 : BitVec 32 := 1#32
  let v173 : BitVec 32 := Scalar.andi v172 c1_i32_138
  let v177 : BitVec 32 := Scalar.muli c8_i32_142 v173
  let v178 : BitVec 32 := Scalar.addi c0_i32_143 v177
  let c4_i32_175 : BitVec 32 := 4#32
  let c1_i32_174 : BitVec 32 := 1#32
  let c3_i32_172 : BitVec 32 := 3#32
  let v209 : BitVec 32 := Scalar.shrsi v2 c3_i32_172
  let c1_i32_173 : BitVec 32 := 1#32
  let v210 : BitVec 32 := Scalar.andi v209 c1_i32_173
  let v211 : BitVec 32 := Scalar.subi c1_i32_174 v210
  let v212 : BitVec 32 := Scalar.muli c4_i32_175 v211
  let v213 : BitVec 32 := Scalar.addi v178 v212
  let c96_i32_177 : BitVec 32 := 96#32
  let v216 : BitVec 32 := Scalar.muli v213 c96_i32_177
  let c0_i32_183 : BitVec 32 := 0#32
  ![v216.toNat, 0]
def k0_dev8 (d0 : Dev nD) : Nat :=
  let c0_i32_181 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_178 : BitVec 32 := 8#32
  let v217 : BitVec 32 := Scalar.xori v2 c8_i32_178
  let c1_i32_180 : BitVec 32 := 1#32
  let v218 : BitVec 32 := Scalar.muli v217 c1_i32_180
  let v219 : BitVec 32 := Scalar.addi c0_i32_181 v218
  v219.toNat
def k0_off6 (d0 : Dev nD) : Fin 2 → Nat :=
  let c0_i32_92 : BitVec 32 := 0#32
  let c8_i32_91 : BitVec 32 := 8#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_86 : BitVec 32 := 1#32
  let v115 : BitVec 32 := Scalar.shrsi v2 c1_i32_86
  let c1_i32_87 : BitVec 32 := 1#32
  let v116 : BitVec 32 := Scalar.andi v115 c1_i32_87
  let v120 : BitVec 32 := Scalar.muli c8_i32_91 v116
  let v121 : BitVec 32 := Scalar.addi c0_i32_92 v120
  let c96_i32_197 : BitVec 32 := 96#32
  let v236 : BitVec 32 := Scalar.muli v121 c96_i32_197
  let v237 : Index := Scalar.indexCast v236
  let c0_198 : Index := 0#32
  ![v237.toNat, 0]
def k0_off7 (d0 : Dev nD) : Fin 2 → Nat :=
  let c0_i32_92 : BitVec 32 := 0#32
  let c8_i32_91 : BitVec 32 := 8#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_86 : BitVec 32 := 1#32
  let v115 : BitVec 32 := Scalar.shrsi v2 c1_i32_86
  let c1_i32_87 : BitVec 32 := 1#32
  let v116 : BitVec 32 := Scalar.andi v115 c1_i32_87
  let v120 : BitVec 32 := Scalar.muli c8_i32_91 v116
  let v121 : BitVec 32 := Scalar.addi c0_i32_92 v120
  let c4_i32_207 : BitVec 32 := 4#32
  let c1_i32_206 : BitVec 32 := 1#32
  let c1_i32_203 : BitVec 32 := 1#32
  let v246 : BitVec 32 := Scalar.andi v2 c1_i32_203
  let c1_i32_204 : BitVec 32 := 1#32
  let v247 : BitVec 32 := Scalar.shrsi v2 c1_i32_204
  let c1_i32_205 : BitVec 32 := 1#32
  let v248 : BitVec 32 := Scalar.andi v247 c1_i32_205
  let v249 : BitVec 32 := Scalar.xori v246 v248
  let v250 : BitVec 32 := Scalar.subi c1_i32_206 v249
  let v251 : BitVec 32 := Scalar.muli c4_i32_207 v250
  let v252 : BitVec 32 := Scalar.addi v121 v251
  let c96_i32_209 : BitVec 32 := 96#32
  let v255 : BitVec 32 := Scalar.muli v252 c96_i32_209
  let c0_i32_216 : BitVec 32 := 0#32
  ![v255.toNat, 0]
def k0_dev9 (d0 : Dev nD) : Nat :=
  let c0_i32_213 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_210 : BitVec 32 := 1#32
  let v256 : BitVec 32 := Scalar.xori v2 c1_i32_210
  let c1_i32_212 : BitVec 32 := 1#32
  let v257 : BitVec 32 := Scalar.muli v256 c1_i32_212
  let v258 : BitVec 32 := Scalar.addi c0_i32_213 v257
  v258.toNat
def k0_off8 (d0 : Dev nD) : Fin 2 → Nat :=
  let c0_i32_40 : BitVec 32 := 0#32
  let c8_i32_39 : BitVec 32 := 8#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_33 : BitVec 32 := 1#32
  let v56 : BitVec 32 := Scalar.andi v2 c1_i32_33
  let c1_i32_34 : BitVec 32 := 1#32
  let v57 : BitVec 32 := Scalar.shrsi v2 c1_i32_34
  let c1_i32_35 : BitVec 32 := 1#32
  let v58 : BitVec 32 := Scalar.andi v57 c1_i32_35
  let v59 : BitVec 32 := Scalar.xori v56 v58
  let v63 : BitVec 32 := Scalar.muli c8_i32_39 v59
  let v64 : BitVec 32 := Scalar.addi c0_i32_40 v63
  let c96_i32_230 : BitVec 32 := 96#32
  let v275 : BitVec 32 := Scalar.muli v64 c96_i32_230
  let v276 : Index := Scalar.indexCast v275
  let c0_231 : Index := 0#32
  ![v276.toNat, 0]
def k0_off9 (d0 : Dev nD) : Fin 2 → Nat :=
  let c0_i32_40 : BitVec 32 := 0#32
  let c8_i32_39 : BitVec 32 := 8#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_33 : BitVec 32 := 1#32
  let v56 : BitVec 32 := Scalar.andi v2 c1_i32_33
  let c1_i32_34 : BitVec 32 := 1#32
  let v57 : BitVec 32 := Scalar.shrsi v2 c1_i32_34
  let c1_i32_35 : BitVec 32 := 1#32
  let v58 : BitVec 32 := Scalar.andi v57 c1_i32_35
  let v59 : BitVec 32 := Scalar.xori v56 v58
  let v63 : BitVec 32 := Scalar.muli c8_i32_39 v59
  let v64 : BitVec 32 := Scalar.addi c0_i32_40 v63
  let c4_i32_239 : BitVec 32 := 4#32
  let c1_i32_238 : BitVec 32 := 1#32
  let c1_i32_236 : BitVec 32 := 1#32
  let v285 : BitVec 32 := Scalar.shrsi v2 c1_i32_236
  let c1_i32_237 : BitVec 32 := 1#32
  let v286 : BitVec 32 := Scalar.andi v285 c1_i32_237
  let v287 : BitVec 32 := Scalar.subi c1_i32_238 v286
  let v288 : BitVec 32 := Scalar.muli c4_i32_239 v287
  let v289 : BitVec 32 := Scalar.addi v64 v288
  let c96_i32_241 : BitVec 32 := 96#32
  let v292 : BitVec 32 := Scalar.muli v289 c96_i32_241
  let c0_i32_249 : BitVec 32 := 0#32
  ![v292.toNat, 0]
def k0_dev10 (d0 : Dev nD) : Nat :=
  let c0_i32_246 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_242 : BitVec 32 := 3#32
  let v293 : BitVec 32 := Scalar.xori v2 c3_i32_242
  let c1_i32_245 : BitVec 32 := 1#32
  let v294 : BitVec 32 := Scalar.muli v293 c1_i32_245
  let v295 : BitVec 32 := Scalar.addi c0_i32_246 v294
  v295.toNat
def k0_off10 (d0 : Dev nD) : Fin 2 → Nat :=
  let c0_i32_92 : BitVec 32 := 0#32
  let c8_i32_91 : BitVec 32 := 8#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_86 : BitVec 32 := 1#32
  let v115 : BitVec 32 := Scalar.shrsi v2 c1_i32_86
  let c1_i32_87 : BitVec 32 := 1#32
  let v116 : BitVec 32 := Scalar.andi v115 c1_i32_87
  let v120 : BitVec 32 := Scalar.muli c8_i32_91 v116
  let v121 : BitVec 32 := Scalar.addi c0_i32_92 v120
  let c4_i32_208 : BitVec 32 := 4#32
  let c1_i32_203 : BitVec 32 := 1#32
  let v246 : BitVec 32 := Scalar.andi v2 c1_i32_203
  let c1_i32_204 : BitVec 32 := 1#32
  let v247 : BitVec 32 := Scalar.shrsi v2 c1_i32_204
  let c1_i32_205 : BitVec 32 := 1#32
  let v248 : BitVec 32 := Scalar.andi v247 c1_i32_205
  let v249 : BitVec 32 := Scalar.xori v246 v248
  let v253 : BitVec 32 := Scalar.muli c4_i32_208 v249
  let v254 : BitVec 32 := Scalar.addi v121 v253
  let c96_i32_263 : BitVec 32 := 96#32
  let v312 : BitVec 32 := Scalar.muli v254 c96_i32_263
  let v313 : Index := Scalar.indexCast v312
  let c0_264 : Index := 0#32
  ![v313.toNat, 0]
def k0_off11 (d0 : Dev nD) : Fin 2 → Nat :=
  let c0_i32_92 : BitVec 32 := 0#32
  let c8_i32_91 : BitVec 32 := 8#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_86 : BitVec 32 := 1#32
  let v115 : BitVec 32 := Scalar.shrsi v2 c1_i32_86
  let c1_i32_87 : BitVec 32 := 1#32
  let v116 : BitVec 32 := Scalar.andi v115 c1_i32_87
  let v120 : BitVec 32 := Scalar.muli c8_i32_91 v116
  let v121 : BitVec 32 := Scalar.addi c0_i32_92 v120
  let c4_i32_208 : BitVec 32 := 4#32
  let c1_i32_203 : BitVec 32 := 1#32
  let v246 : BitVec 32 := Scalar.andi v2 c1_i32_203
  let c1_i32_204 : BitVec 32 := 1#32
  let v247 : BitVec 32 := Scalar.shrsi v2 c1_i32_204
  let c1_i32_205 : BitVec 32 := 1#32
  let v248 : BitVec 32 := Scalar.andi v247 c1_i32_205
  let v249 : BitVec 32 := Scalar.xori v246 v248
  let v253 : BitVec 32 := Scalar.muli c4_i32_208 v249
  let v254 : BitVec 32 := Scalar.addi v121 v253
  let c2_i32_272 : BitVec 32 := 2#32
  let c1_i32_271 : BitVec 32 := 1#32
  let c3_i32_269 : BitVec 32 := 3#32
  let v322 : BitVec 32 := Scalar.shrsi v2 c3_i32_269
  let c1_i32_270 : BitVec 32 := 1#32
  let v323 : BitVec 32 := Scalar.andi v322 c1_i32_270
  let v324 : BitVec 32 := Scalar.subi c1_i32_271 v323
  let v325 : BitVec 32 := Scalar.muli c2_i32_272 v324
  let v326 : BitVec 32 := Scalar.addi v254 v325
  let c96_i32_274 : BitVec 32 := 96#32
  let v329 : BitVec 32 := Scalar.muli v326 c96_i32_274
  let c0_i32_280 : BitVec 32 := 0#32
  ![v329.toNat, 0]
def k0_dev11 (d0 : Dev nD) : Nat :=
  let c0_i32_278 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_275 : BitVec 32 := 8#32
  let v330 : BitVec 32 := Scalar.xori v2 c8_i32_275
  let c1_i32_277 : BitVec 32 := 1#32
  let v331 : BitVec 32 := Scalar.muli v330 c1_i32_277
  let v332 : BitVec 32 := Scalar.addi c0_i32_278 v331
  v332.toNat
def k0_off12 (d0 : Dev nD) : Fin 2 → Nat :=
  let c0_i32_40 : BitVec 32 := 0#32
  let c8_i32_39 : BitVec 32 := 8#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_33 : BitVec 32 := 1#32
  let v56 : BitVec 32 := Scalar.andi v2 c1_i32_33
  let c1_i32_34 : BitVec 32 := 1#32
  let v57 : BitVec 32 := Scalar.shrsi v2 c1_i32_34
  let c1_i32_35 : BitVec 32 := 1#32
  let v58 : BitVec 32 := Scalar.andi v57 c1_i32_35
  let v59 : BitVec 32 := Scalar.xori v56 v58
  let v63 : BitVec 32 := Scalar.muli c8_i32_39 v59
  let v64 : BitVec 32 := Scalar.addi c0_i32_40 v63
  let c4_i32_240 : BitVec 32 := 4#32
  let c1_i32_236 : BitVec 32 := 1#32
  let v285 : BitVec 32 := Scalar.shrsi v2 c1_i32_236
  let c1_i32_237 : BitVec 32 := 1#32
  let v286 : BitVec 32 := Scalar.andi v285 c1_i32_237
  let v290 : BitVec 32 := Scalar.muli c4_i32_240 v286
  let v291 : BitVec 32 := Scalar.addi v64 v290
  let c96_i32_294 : BitVec 32 := 96#32
  let v349 : BitVec 32 := Scalar.muli v291 c96_i32_294
  let v350 : Index := Scalar.indexCast v349
  let c0_295 : Index := 0#32
  ![v350.toNat, 0]
def k0_off13 (d0 : Dev nD) : Fin 2 → Nat :=
  let c0_i32_40 : BitVec 32 := 0#32
  let c8_i32_39 : BitVec 32 := 8#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_33 : BitVec 32 := 1#32
  let v56 : BitVec 32 := Scalar.andi v2 c1_i32_33
  let c1_i32_34 : BitVec 32 := 1#32
  let v57 : BitVec 32 := Scalar.shrsi v2 c1_i32_34
  let c1_i32_35 : BitVec 32 := 1#32
  let v58 : BitVec 32 := Scalar.andi v57 c1_i32_35
  let v59 : BitVec 32 := Scalar.xori v56 v58
  let v63 : BitVec 32 := Scalar.muli c8_i32_39 v59
  let v64 : BitVec 32 := Scalar.addi c0_i32_40 v63
  let c4_i32_240 : BitVec 32 := 4#32
  let c1_i32_236 : BitVec 32 := 1#32
  let v285 : BitVec 32 := Scalar.shrsi v2 c1_i32_236
  let c1_i32_237 : BitVec 32 := 1#32
  let v286 : BitVec 32 := Scalar.andi v285 c1_i32_237
  let v290 : BitVec 32 := Scalar.muli c4_i32_240 v286
  let v291 : BitVec 32 := Scalar.addi v64 v290
  let c2_i32_303 : BitVec 32 := 2#32
  let c1_i32_302 : BitVec 32 := 1#32
  let c2_i32_300 : BitVec 32 := 2#32
  let v359 : BitVec 32 := Scalar.shrsi v2 c2_i32_300
  let c1_i32_301 : BitVec 32 := 1#32
  let v360 : BitVec 32 := Scalar.andi v359 c1_i32_301
  let v361 : BitVec 32 := Scalar.subi c1_i32_302 v360
  let v362 : BitVec 32 := Scalar.muli c2_i32_303 v361
  let v363 : BitVec 32 := Scalar.addi v291 v362
  let c96_i32_305 : BitVec 32 := 96#32
  let v366 : BitVec 32 := Scalar.muli v363 c96_i32_305
  let c0_i32_313 : BitVec 32 := 0#32
  ![v366.toNat, 0]
def k0_dev12 (d0 : Dev nD) : Nat :=
  let c0_i32_310 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_306 : BitVec 32 := 4#32
  let v367 : BitVec 32 := Scalar.xori v2 c4_i32_306
  let c1_i32_309 : BitVec 32 := 1#32
  let v368 : BitVec 32 := Scalar.muli v367 c1_i32_309
  let v369 : BitVec 32 := Scalar.addi c0_i32_310 v368
  v369.toNat
def k0_off14 (d0 : Dev nD) : Fin 2 → Nat :=
  let c0_i32_143 : BitVec 32 := 0#32
  let c8_i32_142 : BitVec 32 := 8#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v172 : BitVec 32 := Scalar.shrsi v2 c2_i32
  let c1_i32_138 : BitVec 32 := 1#32
  let v173 : BitVec 32 := Scalar.andi v172 c1_i32_138
  let v177 : BitVec 32 := Scalar.muli c8_i32_142 v173
  let v178 : BitVec 32 := Scalar.addi c0_i32_143 v177
  let c4_i32_176 : BitVec 32 := 4#32
  let c3_i32_172 : BitVec 32 := 3#32
  let v209 : BitVec 32 := Scalar.shrsi v2 c3_i32_172
  let c1_i32_173 : BitVec 32 := 1#32
  let v210 : BitVec 32 := Scalar.andi v209 c1_i32_173
  let v214 : BitVec 32 := Scalar.muli c4_i32_176 v210
  let v215 : BitVec 32 := Scalar.addi v178 v214
  let c96_i32_327 : BitVec 32 := 96#32
  let v386 : BitVec 32 := Scalar.muli v215 c96_i32_327
  let v387 : Index := Scalar.indexCast v386
  let c0_328 : Index := 0#32
  ![v387.toNat, 0]
def k0_off15 (d0 : Dev nD) : Fin 2 → Nat :=
  let c0_i32_143 : BitVec 32 := 0#32
  let c8_i32_142 : BitVec 32 := 8#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v172 : BitVec 32 := Scalar.shrsi v2 c2_i32
  let c1_i32_138 : BitVec 32 := 1#32
  let v173 : BitVec 32 := Scalar.andi v172 c1_i32_138
  let v177 : BitVec 32 := Scalar.muli c8_i32_142 v173
  let v178 : BitVec 32 := Scalar.addi c0_i32_143 v177
  let c4_i32_176 : BitVec 32 := 4#32
  let c3_i32_172 : BitVec 32 := 3#32
  let v209 : BitVec 32 := Scalar.shrsi v2 c3_i32_172
  let c1_i32_173 : BitVec 32 := 1#32
  let v210 : BitVec 32 := Scalar.andi v209 c1_i32_173
  let v214 : BitVec 32 := Scalar.muli c4_i32_176 v210
  let v215 : BitVec 32 := Scalar.addi v178 v214
  let c2_i32_337 : BitVec 32 := 2#32
  let c1_i32_336 : BitVec 32 := 1#32
  let c1_i32_333 : BitVec 32 := 1#32
  let v396 : BitVec 32 := Scalar.andi v2 c1_i32_333
  let c1_i32_334 : BitVec 32 := 1#32
  let v397 : BitVec 32 := Scalar.shrsi v2 c1_i32_334
  let c1_i32_335 : BitVec 32 := 1#32
  let v398 : BitVec 32 := Scalar.andi v397 c1_i32_335
  let v399 : BitVec 32 := Scalar.xori v396 v398
  let v400 : BitVec 32 := Scalar.subi c1_i32_336 v399
  let v401 : BitVec 32 := Scalar.muli c2_i32_337 v400
  let v402 : BitVec 32 := Scalar.addi v215 v401
  let c96_i32_339 : BitVec 32 := 96#32
  let v405 : BitVec 32 := Scalar.muli v402 c96_i32_339
  let c0_i32_346 : BitVec 32 := 0#32
  ![v405.toNat, 0]
def k0_dev13 (d0 : Dev nD) : Nat :=
  let c0_i32_343 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_340 : BitVec 32 := 1#32
  let v406 : BitVec 32 := Scalar.xori v2 c1_i32_340
  let c1_i32_342 : BitVec 32 := 1#32
  let v407 : BitVec 32 := Scalar.muli v406 c1_i32_342
  let v408 : BitVec 32 := Scalar.addi c0_i32_343 v407
  v408.toNat
def k0_off16 (d0 : Dev nD) : Fin 2 → Nat :=
  let c0_i32_143 : BitVec 32 := 0#32
  let c8_i32_142 : BitVec 32 := 8#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v172 : BitVec 32 := Scalar.shrsi v2 c2_i32
  let c1_i32_138 : BitVec 32 := 1#32
  let v173 : BitVec 32 := Scalar.andi v172 c1_i32_138
  let v177 : BitVec 32 := Scalar.muli c8_i32_142 v173
  let v178 : BitVec 32 := Scalar.addi c0_i32_143 v177
  let c4_i32_176 : BitVec 32 := 4#32
  let c3_i32_172 : BitVec 32 := 3#32
  let v209 : BitVec 32 := Scalar.shrsi v2 c3_i32_172
  let c1_i32_173 : BitVec 32 := 1#32
  let v210 : BitVec 32 := Scalar.andi v209 c1_i32_173
  let v214 : BitVec 32 := Scalar.muli c4_i32_176 v210
  let v215 : BitVec 32 := Scalar.addi v178 v214
  let c2_i32_338 : BitVec 32 := 2#32
  let c1_i32_333 : BitVec 32 := 1#32
  let v396 : BitVec 32 := Scalar.andi v2 c1_i32_333
  let c1_i32_334 : BitVec 32 := 1#32
  let v397 : BitVec 32 := Scalar.shrsi v2 c1_i32_334
  let c1_i32_335 : BitVec 32 := 1#32
  let v398 : BitVec 32 := Scalar.andi v397 c1_i32_335
  let v399 : BitVec 32 := Scalar.xori v396 v398
  let v403 : BitVec 32 := Scalar.muli c2_i32_338 v399
  let v404 : BitVec 32 := Scalar.addi v215 v403
  let c96_i32_360 : BitVec 32 := 96#32
  let v425 : BitVec 32 := Scalar.muli v404 c96_i32_360
  let v426 : Index := Scalar.indexCast v425
  let c0_361 : Index := 0#32
  ![v426.toNat, 0]
def k0_off17 (d0 : Dev nD) : Fin 2 → Nat :=
  let c0_i32_143 : BitVec 32 := 0#32
  let c8_i32_142 : BitVec 32 := 8#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v172 : BitVec 32 := Scalar.shrsi v2 c2_i32
  let c1_i32_138 : BitVec 32 := 1#32
  let v173 : BitVec 32 := Scalar.andi v172 c1_i32_138
  let v177 : BitVec 32 := Scalar.muli c8_i32_142 v173
  let v178 : BitVec 32 := Scalar.addi c0_i32_143 v177
  let c4_i32_176 : BitVec 32 := 4#32
  let c3_i32_172 : BitVec 32 := 3#32
  let v209 : BitVec 32 := Scalar.shrsi v2 c3_i32_172
  let c1_i32_173 : BitVec 32 := 1#32
  let v210 : BitVec 32 := Scalar.andi v209 c1_i32_173
  let v214 : BitVec 32 := Scalar.muli c4_i32_176 v210
  let v215 : BitVec 32 := Scalar.addi v178 v214
  let c2_i32_338 : BitVec 32 := 2#32
  let c1_i32_333 : BitVec 32 := 1#32
  let v396 : BitVec 32 := Scalar.andi v2 c1_i32_333
  let c1_i32_334 : BitVec 32 := 1#32
  let v397 : BitVec 32 := Scalar.shrsi v2 c1_i32_334
  let c1_i32_335 : BitVec 32 := 1#32
  let v398 : BitVec 32 := Scalar.andi v397 c1_i32_335
  let v399 : BitVec 32 := Scalar.xori v396 v398
  let v403 : BitVec 32 := Scalar.muli c2_i32_338 v399
  let v404 : BitVec 32 := Scalar.addi v215 v403
  let c1_i32_369 : BitVec 32 := 1#32
  let c1_i32_368 : BitVec 32 := 1#32
  let c1_i32_366 : BitVec 32 := 1#32
  let v435 : BitVec 32 := Scalar.shrsi v2 c1_i32_366
  let c1_i32_367 : BitVec 32 := 1#32
  let v436 : BitVec 32 := Scalar.andi v435 c1_i32_367
  let v437 : BitVec 32 := Scalar.subi c1_i32_368 v436
  let v438 : BitVec 32 := Scalar.muli c1_i32_369 v437
  let v439 : BitVec 32 := Scalar.addi v404 v438
  let c96_i32_371 : BitVec 32 := 96#32
  let v442 : BitVec 32 := Scalar.muli v439 c96_i32_371
  let c0_i32_377 : BitVec 32 := 0#32
  ![v442.toNat, 0]
def k0_dev14 (d0 : Dev nD) : Nat :=
  let c0_i32_375 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_372 : BitVec 32 := 3#32
  let v443 : BitVec 32 := Scalar.xori v2 c3_i32_372
  let c1_i32_374 : BitVec 32 := 1#32
  let v444 : BitVec 32 := Scalar.muli v443 c1_i32_374
  let v445 : BitVec 32 := Scalar.addi c0_i32_375 v444
  v445.toNat
def k0_off18 (d0 : Dev nD) : Fin 2 → Nat :=
  let c0_i32_40 : BitVec 32 := 0#32
  let c8_i32_39 : BitVec 32 := 8#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_33 : BitVec 32 := 1#32
  let v56 : BitVec 32 := Scalar.andi v2 c1_i32_33
  let c1_i32_34 : BitVec 32 := 1#32
  let v57 : BitVec 32 := Scalar.shrsi v2 c1_i32_34
  let c1_i32_35 : BitVec 32 := 1#32
  let v58 : BitVec 32 := Scalar.andi v57 c1_i32_35
  let v59 : BitVec 32 := Scalar.xori v56 v58
  let v63 : BitVec 32 := Scalar.muli c8_i32_39 v59
  let v64 : BitVec 32 := Scalar.addi c0_i32_40 v63
  let c4_i32_240 : BitVec 32 := 4#32
  let c1_i32_236 : BitVec 32 := 1#32
  let v285 : BitVec 32 := Scalar.shrsi v2 c1_i32_236
  let c1_i32_237 : BitVec 32 := 1#32
  let v286 : BitVec 32 := Scalar.andi v285 c1_i32_237
  let v290 : BitVec 32 := Scalar.muli c4_i32_240 v286
  let v291 : BitVec 32 := Scalar.addi v64 v290
  let c2_i32_304 : BitVec 32 := 2#32
  let c2_i32_300 : BitVec 32 := 2#32
  let v359 : BitVec 32 := Scalar.shrsi v2 c2_i32_300
  let c1_i32_301 : BitVec 32 := 1#32
  let v360 : BitVec 32 := Scalar.andi v359 c1_i32_301
  let v364 : BitVec 32 := Scalar.muli c2_i32_304 v360
  let v365 : BitVec 32 := Scalar.addi v291 v364
  let c96_i32_391 : BitVec 32 := 96#32
  let v462 : BitVec 32 := Scalar.muli v365 c96_i32_391
  let v463 : Index := Scalar.indexCast v462
  let c0_392 : Index := 0#32
  ![v463.toNat, 0]
def k0_off19 (d0 : Dev nD) : Fin 2 → Nat :=
  let c0_i32_40 : BitVec 32 := 0#32
  let c8_i32_39 : BitVec 32 := 8#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_33 : BitVec 32 := 1#32
  let v56 : BitVec 32 := Scalar.andi v2 c1_i32_33
  let c1_i32_34 : BitVec 32 := 1#32
  let v57 : BitVec 32 := Scalar.shrsi v2 c1_i32_34
  let c1_i32_35 : BitVec 32 := 1#32
  let v58 : BitVec 32 := Scalar.andi v57 c1_i32_35
  let v59 : BitVec 32 := Scalar.xori v56 v58
  let v63 : BitVec 32 := Scalar.muli c8_i32_39 v59
  let v64 : BitVec 32 := Scalar.addi c0_i32_40 v63
  let c4_i32_240 : BitVec 32 := 4#32
  let c1_i32_236 : BitVec 32 := 1#32
  let v285 : BitVec 32 := Scalar.shrsi v2 c1_i32_236
  let c1_i32_237 : BitVec 32 := 1#32
  let v286 : BitVec 32 := Scalar.andi v285 c1_i32_237
  let v290 : BitVec 32 := Scalar.muli c4_i32_240 v286
  let v291 : BitVec 32 := Scalar.addi v64 v290
  let c2_i32_304 : BitVec 32 := 2#32
  let c2_i32_300 : BitVec 32 := 2#32
  let v359 : BitVec 32 := Scalar.shrsi v2 c2_i32_300
  let c1_i32_301 : BitVec 32 := 1#32
  let v360 : BitVec 32 := Scalar.andi v359 c1_i32_301
  let v364 : BitVec 32 := Scalar.muli c2_i32_304 v360
  let v365 : BitVec 32 := Scalar.addi v291 v364
  let c1_i32_400 : BitVec 32 := 1#32
  let c1_i32_399 : BitVec 32 := 1#32
  let c3_i32_397 : BitVec 32 := 3#32
  let v472 : BitVec 32 := Scalar.shrsi v2 c3_i32_397
  let c1_i32_398 : BitVec 32 := 1#32
  let v473 : BitVec 32 := Scalar.andi v472 c1_i32_398
  let v474 : BitVec 32 := Scalar.subi c1_i32_399 v473
  let v475 : BitVec 32 := Scalar.muli c1_i32_400 v474
  let v476 : BitVec 32 := Scalar.addi v365 v475
  let c96_i32_402 : BitVec 32 := 96#32
  let v479 : BitVec 32 := Scalar.muli v476 c96_i32_402
  let c0_i32_410 : BitVec 32 := 0#32
  ![v479.toNat, 0]
def k0_dev15 (d0 : Dev nD) : Nat :=
  let c0_i32_407 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_403 : BitVec 32 := 8#32
  let v480 : BitVec 32 := Scalar.xori v2 c8_i32_403
  let c1_i32_406 : BitVec 32 := 1#32
  let v481 : BitVec 32 := Scalar.muli v480 c1_i32_406
  let v482 : BitVec 32 := Scalar.addi c0_i32_407 v481
  v482.toNat
def k0_off20 (d0 : Dev nD) : Fin 2 → Nat :=
  let c0_i32_92 : BitVec 32 := 0#32
  let c8_i32_91 : BitVec 32 := 8#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_86 : BitVec 32 := 1#32
  let v115 : BitVec 32 := Scalar.shrsi v2 c1_i32_86
  let c1_i32_87 : BitVec 32 := 1#32
  let v116 : BitVec 32 := Scalar.andi v115 c1_i32_87
  let v120 : BitVec 32 := Scalar.muli c8_i32_91 v116
  let v121 : BitVec 32 := Scalar.addi c0_i32_92 v120
  let c4_i32_208 : BitVec 32 := 4#32
  let c1_i32_203 : BitVec 32 := 1#32
  let v246 : BitVec 32 := Scalar.andi v2 c1_i32_203
  let c1_i32_204 : BitVec 32 := 1#32
  let v247 : BitVec 32 := Scalar.shrsi v2 c1_i32_204
  let c1_i32_205 : BitVec 32 := 1#32
  let v248 : BitVec 32 := Scalar.andi v247 c1_i32_205
  let v249 : BitVec 32 := Scalar.xori v246 v248
  let v253 : BitVec 32 := Scalar.muli c4_i32_208 v249
  let v254 : BitVec 32 := Scalar.addi v121 v253
  let c2_i32_273 : BitVec 32 := 2#32
  let c3_i32_269 : BitVec 32 := 3#32
  let v322 : BitVec 32 := Scalar.shrsi v2 c3_i32_269
  let c1_i32_270 : BitVec 32 := 1#32
  let v323 : BitVec 32 := Scalar.andi v322 c1_i32_270
  let v327 : BitVec 32 := Scalar.muli c2_i32_273 v323
  let v328 : BitVec 32 := Scalar.addi v254 v327
  let c96_i32_424 : BitVec 32 := 96#32
  let v499 : BitVec 32 := Scalar.muli v328 c96_i32_424
  let v500 : Index := Scalar.indexCast v499
  let c0_425 : Index := 0#32
  ![v500.toNat, 0]
def k0_off21 (d0 : Dev nD) : Fin 2 → Nat :=
  let c0_i32_92 : BitVec 32 := 0#32
  let c8_i32_91 : BitVec 32 := 8#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_86 : BitVec 32 := 1#32
  let v115 : BitVec 32 := Scalar.shrsi v2 c1_i32_86
  let c1_i32_87 : BitVec 32 := 1#32
  let v116 : BitVec 32 := Scalar.andi v115 c1_i32_87
  let v120 : BitVec 32 := Scalar.muli c8_i32_91 v116
  let v121 : BitVec 32 := Scalar.addi c0_i32_92 v120
  let c4_i32_208 : BitVec 32 := 4#32
  let c1_i32_203 : BitVec 32 := 1#32
  let v246 : BitVec 32 := Scalar.andi v2 c1_i32_203
  let c1_i32_204 : BitVec 32 := 1#32
  let v247 : BitVec 32 := Scalar.shrsi v2 c1_i32_204
  let c1_i32_205 : BitVec 32 := 1#32
  let v248 : BitVec 32 := Scalar.andi v247 c1_i32_205
  let v249 : BitVec 32 := Scalar.xori v246 v248
  let v253 : BitVec 32 := Scalar.muli c4_i32_208 v249
  let v254 : BitVec 32 := Scalar.addi v121 v253
  let c2_i32_273 : BitVec 32 := 2#32
  let c3_i32_269 : BitVec 32 := 3#32
  let v322 : BitVec 32 := Scalar.shrsi v2 c3_i32_269
  let c1_i32_270 : BitVec 32 := 1#32
  let v323 : BitVec 32 := Scalar.andi v322 c1_i32_270
  let v327 : BitVec 32 := Scalar.muli c2_i32_273 v323
  let v328 : BitVec 32 := Scalar.addi v254 v327
  let c1_i32_433 : BitVec 32 := 1#32
  let c1_i32_432 : BitVec 32 := 1#32
  let c2_i32_430 : BitVec 32 := 2#32
  let v509 : BitVec 32 := Scalar.shrsi v2 c2_i32_430
  let c1_i32_431 : BitVec 32 := 1#32
  let v510 : BitVec 32 := Scalar.andi v509 c1_i32_431
  let v511 : BitVec 32 := Scalar.subi c1_i32_432 v510
  let v512 : BitVec 32 := Scalar.muli c1_i32_433 v511
  let v513 : BitVec 32 := Scalar.addi v328 v512
  let c96_i32_435 : BitVec 32 := 96#32
  let v516 : BitVec 32 := Scalar.muli v513 c96_i32_435
  let c0_i32_442 : BitVec 32 := 0#32
  ![v516.toNat, 0]
def k0_dev16 (d0 : Dev nD) : Nat :=
  let c0_i32_439 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_436 : BitVec 32 := 4#32
  let v517 : BitVec 32 := Scalar.xori v2 c4_i32_436
  let c1_i32_438 : BitVec 32 := 1#32
  let v518 : BitVec 32 := Scalar.muli v517 c1_i32_438
  let v519 : BitVec 32 := Scalar.addi c0_i32_439 v518
  v519.toNat
def k0_off22 (d0 : Dev nD) : Fin 2 → Nat :=
  let c0_i32_143 : BitVec 32 := 0#32
  let c8_i32_142 : BitVec 32 := 8#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v172 : BitVec 32 := Scalar.shrsi v2 c2_i32
  let c1_i32_138 : BitVec 32 := 1#32
  let v173 : BitVec 32 := Scalar.andi v172 c1_i32_138
  let v177 : BitVec 32 := Scalar.muli c8_i32_142 v173
  let v178 : BitVec 32 := Scalar.addi c0_i32_143 v177
  let c4_i32_176 : BitVec 32 := 4#32
  let c3_i32_172 : BitVec 32 := 3#32
  let v209 : BitVec 32 := Scalar.shrsi v2 c3_i32_172
  let c1_i32_173 : BitVec 32 := 1#32
  let v210 : BitVec 32 := Scalar.andi v209 c1_i32_173
  let v214 : BitVec 32 := Scalar.muli c4_i32_176 v210
  let v215 : BitVec 32 := Scalar.addi v178 v214
  let c2_i32_338 : BitVec 32 := 2#32
  let c1_i32_333 : BitVec 32 := 1#32
  let v396 : BitVec 32 := Scalar.andi v2 c1_i32_333
  let c1_i32_334 : BitVec 32 := 1#32
  let v397 : BitVec 32 := Scalar.shrsi v2 c1_i32_334
  let c1_i32_335 : BitVec 32 := 1#32
  let v398 : BitVec 32 := Scalar.andi v397 c1_i32_335
  let v399 : BitVec 32 := Scalar.xori v396 v398
  let v403 : BitVec 32 := Scalar.muli c2_i32_338 v399
  let v404 : BitVec 32 := Scalar.addi v215 v403
  let c1_i32_370 : BitVec 32 := 1#32
  let c1_i32_366 : BitVec 32 := 1#32
  let v435 : BitVec 32 := Scalar.shrsi v2 c1_i32_366
  let c1_i32_367 : BitVec 32 := 1#32
  let v436 : BitVec 32 := Scalar.andi v435 c1_i32_367
  let v440 : BitVec 32 := Scalar.muli c1_i32_370 v436
  let v441 : BitVec 32 := Scalar.addi v404 v440
  let c96_i32_456 : BitVec 32 := 96#32
  let v536 : BitVec 32 := Scalar.muli v441 c96_i32_456
  let v537 : Index := Scalar.indexCast v536
  let c0_457 : Index := 0#32
  ![v537.toNat, 0]
def k0_off23 (d0 : Dev nD) : Fin 2 → Nat :=
  let c0_i32_143 : BitVec 32 := 0#32
  let c8_i32_142 : BitVec 32 := 8#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v172 : BitVec 32 := Scalar.shrsi v2 c2_i32
  let c1_i32_138 : BitVec 32 := 1#32
  let v173 : BitVec 32 := Scalar.andi v172 c1_i32_138
  let v177 : BitVec 32 := Scalar.muli c8_i32_142 v173
  let v178 : BitVec 32 := Scalar.addi c0_i32_143 v177
  let c4_i32_176 : BitVec 32 := 4#32
  let c3_i32_172 : BitVec 32 := 3#32
  let v209 : BitVec 32 := Scalar.shrsi v2 c3_i32_172
  let c1_i32_173 : BitVec 32 := 1#32
  let v210 : BitVec 32 := Scalar.andi v209 c1_i32_173
  let v214 : BitVec 32 := Scalar.muli c4_i32_176 v210
  let v215 : BitVec 32 := Scalar.addi v178 v214
  let c2_i32_338 : BitVec 32 := 2#32
  let c1_i32_333 : BitVec 32 := 1#32
  let v396 : BitVec 32 := Scalar.andi v2 c1_i32_333
  let c1_i32_334 : BitVec 32 := 1#32
  let v397 : BitVec 32 := Scalar.shrsi v2 c1_i32_334
  let c1_i32_335 : BitVec 32 := 1#32
  let v398 : BitVec 32 := Scalar.andi v397 c1_i32_335
  let v399 : BitVec 32 := Scalar.xori v396 v398
  let v403 : BitVec 32 := Scalar.muli c2_i32_338 v399
  let v404 : BitVec 32 := Scalar.addi v215 v403
  let c1_i32_370 : BitVec 32 := 1#32
  let c1_i32_366 : BitVec 32 := 1#32
  let v435 : BitVec 32 := Scalar.shrsi v2 c1_i32_366
  let c1_i32_367 : BitVec 32 := 1#32
  let v436 : BitVec 32 := Scalar.andi v435 c1_i32_367
  let v440 : BitVec 32 := Scalar.muli c1_i32_370 v436
  let v441 : BitVec 32 := Scalar.addi v404 v440
  let c96_i32_469 : BitVec 32 := 96#32
  let v563 : BitVec 32 := Scalar.muli v441 c96_i32_469
  let c0_i32_475 : BitVec 32 := 0#32
  ![v563.toNat, 0]
def k0_dev17 (d0 : Dev nD) : Nat :=
  let c0_i32_474 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_470 : BitVec 32 := 3#32
  let v564 : BitVec 32 := Scalar.xori v2 c3_i32_470
  let c1_i32_473 : BitVec 32 := 1#32
  let v565 : BitVec 32 := Scalar.muli v564 c1_i32_473
  let v566 : BitVec 32 := Scalar.addi c0_i32_474 v565
  v566.toNat
def k0_off24 (d0 : Dev nD) : Fin 2 → Nat :=
  let c0_i32_92 : BitVec 32 := 0#32
  let c8_i32_91 : BitVec 32 := 8#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_86 : BitVec 32 := 1#32
  let v115 : BitVec 32 := Scalar.shrsi v2 c1_i32_86
  let c1_i32_87 : BitVec 32 := 1#32
  let v116 : BitVec 32 := Scalar.andi v115 c1_i32_87
  let v120 : BitVec 32 := Scalar.muli c8_i32_91 v116
  let v121 : BitVec 32 := Scalar.addi c0_i32_92 v120
  let c4_i32_208 : BitVec 32 := 4#32
  let c1_i32_203 : BitVec 32 := 1#32
  let v246 : BitVec 32 := Scalar.andi v2 c1_i32_203
  let c1_i32_204 : BitVec 32 := 1#32
  let v247 : BitVec 32 := Scalar.shrsi v2 c1_i32_204
  let c1_i32_205 : BitVec 32 := 1#32
  let v248 : BitVec 32 := Scalar.andi v247 c1_i32_205
  let v249 : BitVec 32 := Scalar.xori v246 v248
  let v253 : BitVec 32 := Scalar.muli c4_i32_208 v249
  let v254 : BitVec 32 := Scalar.addi v121 v253
  let c2_i32_273 : BitVec 32 := 2#32
  let c3_i32_269 : BitVec 32 := 3#32
  let v322 : BitVec 32 := Scalar.shrsi v2 c3_i32_269
  let c1_i32_270 : BitVec 32 := 1#32
  let v323 : BitVec 32 := Scalar.andi v322 c1_i32_270
  let v327 : BitVec 32 := Scalar.muli c2_i32_273 v323
  let v328 : BitVec 32 := Scalar.addi v254 v327
  let c1_i32_434 : BitVec 32 := 1#32
  let c2_i32_430 : BitVec 32 := 2#32
  let v509 : BitVec 32 := Scalar.shrsi v2 c2_i32_430
  let c1_i32_431 : BitVec 32 := 1#32
  let v510 : BitVec 32 := Scalar.andi v509 c1_i32_431
  let v514 : BitVec 32 := Scalar.muli c1_i32_434 v510
  let v515 : BitVec 32 := Scalar.addi v328 v514
  let c96_i32_490 : BitVec 32 := 96#32
  let v583 : BitVec 32 := Scalar.muli v515 c96_i32_490
  let v584 : Index := Scalar.indexCast v583
  let c0_491 : Index := 0#32
  ![v584.toNat, 0]
def k0_off25 (d0 : Dev nD) : Fin 2 → Nat :=
  let c0_i32_92 : BitVec 32 := 0#32
  let c8_i32_91 : BitVec 32 := 8#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_86 : BitVec 32 := 1#32
  let v115 : BitVec 32 := Scalar.shrsi v2 c1_i32_86
  let c1_i32_87 : BitVec 32 := 1#32
  let v116 : BitVec 32 := Scalar.andi v115 c1_i32_87
  let v120 : BitVec 32 := Scalar.muli c8_i32_91 v116
  let v121 : BitVec 32 := Scalar.addi c0_i32_92 v120
  let c4_i32_208 : BitVec 32 := 4#32
  let c1_i32_203 : BitVec 32 := 1#32
  let v246 : BitVec 32 := Scalar.andi v2 c1_i32_203
  let c1_i32_204 : BitVec 32 := 1#32
  let v247 : BitVec 32 := Scalar.shrsi v2 c1_i32_204
  let c1_i32_205 : BitVec 32 := 1#32
  let v248 : BitVec 32 := Scalar.andi v247 c1_i32_205
  let v249 : BitVec 32 := Scalar.xori v246 v248
  let v253 : BitVec 32 := Scalar.muli c4_i32_208 v249
  let v254 : BitVec 32 := Scalar.addi v121 v253
  let c2_i32_273 : BitVec 32 := 2#32
  let c3_i32_269 : BitVec 32 := 3#32
  let v322 : BitVec 32 := Scalar.shrsi v2 c3_i32_269
  let c1_i32_270 : BitVec 32 := 1#32
  let v323 : BitVec 32 := Scalar.andi v322 c1_i32_270
  let v327 : BitVec 32 := Scalar.muli c2_i32_273 v323
  let v328 : BitVec 32 := Scalar.addi v254 v327
  let c1_i32_434 : BitVec 32 := 1#32
  let c2_i32_430 : BitVec 32 := 2#32
  let v509 : BitVec 32 := Scalar.shrsi v2 c2_i32_430
  let c1_i32_431 : BitVec 32 := 1#32
  let v510 : BitVec 32 := Scalar.andi v509 c1_i32_431
  let v514 : BitVec 32 := Scalar.muli c1_i32_434 v510
  let v515 : BitVec 32 := Scalar.addi v328 v514
  let c96_i32_503 : BitVec 32 := 96#32
  let v610 : BitVec 32 := Scalar.muli v515 c96_i32_503
  let c0_i32_509 : BitVec 32 := 0#32
  ![v610.toNat, 0]
def k0_dev18 (d0 : Dev nD) : Nat :=
  let c0_i32_508 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_504 : BitVec 32 := 4#32
  let v611 : BitVec 32 := Scalar.xori v2 c4_i32_504
  let c1_i32_507 : BitVec 32 := 1#32
  let v612 : BitVec 32 := Scalar.muli v611 c1_i32_507
  let v613 : BitVec 32 := Scalar.addi c0_i32_508 v612
  v613.toNat
def k0_off26 (d0 : Dev nD) : Fin 2 → Nat :=
  let c0_i32_40 : BitVec 32 := 0#32
  let c8_i32_39 : BitVec 32 := 8#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_33 : BitVec 32 := 1#32
  let v56 : BitVec 32 := Scalar.andi v2 c1_i32_33
  let c1_i32_34 : BitVec 32 := 1#32
  let v57 : BitVec 32 := Scalar.shrsi v2 c1_i32_34
  let c1_i32_35 : BitVec 32 := 1#32
  let v58 : BitVec 32 := Scalar.andi v57 c1_i32_35
  let v59 : BitVec 32 := Scalar.xori v56 v58
  let v63 : BitVec 32 := Scalar.muli c8_i32_39 v59
  let v64 : BitVec 32 := Scalar.addi c0_i32_40 v63
  let c4_i32_240 : BitVec 32 := 4#32
  let c1_i32_236 : BitVec 32 := 1#32
  let v285 : BitVec 32 := Scalar.shrsi v2 c1_i32_236
  let c1_i32_237 : BitVec 32 := 1#32
  let v286 : BitVec 32 := Scalar.andi v285 c1_i32_237
  let v290 : BitVec 32 := Scalar.muli c4_i32_240 v286
  let v291 : BitVec 32 := Scalar.addi v64 v290
  let c2_i32_304 : BitVec 32 := 2#32
  let c2_i32_300 : BitVec 32 := 2#32
  let v359 : BitVec 32 := Scalar.shrsi v2 c2_i32_300
  let c1_i32_301 : BitVec 32 := 1#32
  let v360 : BitVec 32 := Scalar.andi v359 c1_i32_301
  let v364 : BitVec 32 := Scalar.muli c2_i32_304 v360
  let v365 : BitVec 32 := Scalar.addi v291 v364
  let c1_i32_401 : BitVec 32 := 1#32
  let c3_i32_397 : BitVec 32 := 3#32
  let v472 : BitVec 32 := Scalar.shrsi v2 c3_i32_397
  let c1_i32_398 : BitVec 32 := 1#32
  let v473 : BitVec 32 := Scalar.andi v472 c1_i32_398
  let v477 : BitVec 32 := Scalar.muli c1_i32_401 v473
  let v478 : BitVec 32 := Scalar.addi v365 v477
  let c96_i32_524 : BitVec 32 := 96#32
  let v630 : BitVec 32 := Scalar.muli v478 c96_i32_524
  let v631 : Index := Scalar.indexCast v630
  let c0_525 : Index := 0#32
  ![v631.toNat, 0]
def k0_off27 (d0 : Dev nD) : Fin 2 → Nat :=
  let c0_i32_40 : BitVec 32 := 0#32
  let c8_i32_39 : BitVec 32 := 8#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_33 : BitVec 32 := 1#32
  let v56 : BitVec 32 := Scalar.andi v2 c1_i32_33
  let c1_i32_34 : BitVec 32 := 1#32
  let v57 : BitVec 32 := Scalar.shrsi v2 c1_i32_34
  let c1_i32_35 : BitVec 32 := 1#32
  let v58 : BitVec 32 := Scalar.andi v57 c1_i32_35
  let v59 : BitVec 32 := Scalar.xori v56 v58
  let v63 : BitVec 32 := Scalar.muli c8_i32_39 v59
  let v64 : BitVec 32 := Scalar.addi c0_i32_40 v63
  let c4_i32_240 : BitVec 32 := 4#32
  let c1_i32_236 : BitVec 32 := 1#32
  let v285 : BitVec 32 := Scalar.shrsi v2 c1_i32_236
  let c1_i32_237 : BitVec 32 := 1#32
  let v286 : BitVec 32 := Scalar.andi v285 c1_i32_237
  let v290 : BitVec 32 := Scalar.muli c4_i32_240 v286
  let v291 : BitVec 32 := Scalar.addi v64 v290
  let c2_i32_304 : BitVec 32 := 2#32
  let c2_i32_300 : BitVec 32 := 2#32
  let v359 : BitVec 32 := Scalar.shrsi v2 c2_i32_300
  let c1_i32_301 : BitVec 32 := 1#32
  let v360 : BitVec 32 := Scalar.andi v359 c1_i32_301
  let v364 : BitVec 32 := Scalar.muli c2_i32_304 v360
  let v365 : BitVec 32 := Scalar.addi v291 v364
  let c1_i32_401 : BitVec 32 := 1#32
  let c3_i32_397 : BitVec 32 := 3#32
  let v472 : BitVec 32 := Scalar.shrsi v2 c3_i32_397
  let c1_i32_398 : BitVec 32 := 1#32
  let v473 : BitVec 32 := Scalar.andi v472 c1_i32_398
  let v477 : BitVec 32 := Scalar.muli c1_i32_401 v473
  let v478 : BitVec 32 := Scalar.addi v365 v477
  let c96_i32_537 : BitVec 32 := 96#32
  let v657 : BitVec 32 := Scalar.muli v478 c96_i32_537
  let c0_i32_543 : BitVec 32 := 0#32
  ![v657.toNat, 0]
def k0_dev19 (d0 : Dev nD) : Nat :=
  let c0_i32_542 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_538 : BitVec 32 := 8#32
  let v658 : BitVec 32 := Scalar.xori v2 c8_i32_538
  let c1_i32_541 : BitVec 32 := 1#32
  let v659 : BitVec 32 := Scalar.muli v658 c1_i32_541
  let v660 : BitVec 32 := Scalar.addi c0_i32_542 v659
  v660.toNat
def k0_off28 (d0 : Dev nD) : Fin 2 → Nat :=
  let c0_i32_143 : BitVec 32 := 0#32
  let c8_i32_142 : BitVec 32 := 8#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v172 : BitVec 32 := Scalar.shrsi v2 c2_i32
  let c1_i32_138 : BitVec 32 := 1#32
  let v173 : BitVec 32 := Scalar.andi v172 c1_i32_138
  let v177 : BitVec 32 := Scalar.muli c8_i32_142 v173
  let v178 : BitVec 32 := Scalar.addi c0_i32_143 v177
  let c4_i32_176 : BitVec 32 := 4#32
  let c3_i32_172 : BitVec 32 := 3#32
  let v209 : BitVec 32 := Scalar.shrsi v2 c3_i32_172
  let c1_i32_173 : BitVec 32 := 1#32
  let v210 : BitVec 32 := Scalar.andi v209 c1_i32_173
  let v214 : BitVec 32 := Scalar.muli c4_i32_176 v210
  let v215 : BitVec 32 := Scalar.addi v178 v214
  let c2_i32_338 : BitVec 32 := 2#32
  let c1_i32_333 : BitVec 32 := 1#32
  let v396 : BitVec 32 := Scalar.andi v2 c1_i32_333
  let c1_i32_334 : BitVec 32 := 1#32
  let v397 : BitVec 32 := Scalar.shrsi v2 c1_i32_334
  let c1_i32_335 : BitVec 32 := 1#32
  let v398 : BitVec 32 := Scalar.andi v397 c1_i32_335
  let v399 : BitVec 32 := Scalar.xori v396 v398
  let v403 : BitVec 32 := Scalar.muli c2_i32_338 v399
  let v404 : BitVec 32 := Scalar.addi v215 v403
  let c1_i32_370 : BitVec 32 := 1#32
  let c1_i32_366 : BitVec 32 := 1#32
  let v435 : BitVec 32 := Scalar.shrsi v2 c1_i32_366
  let c1_i32_367 : BitVec 32 := 1#32
  let v436 : BitVec 32 := Scalar.andi v435 c1_i32_367
  let v440 : BitVec 32 := Scalar.muli c1_i32_370 v436
  let v441 : BitVec 32 := Scalar.addi v404 v440
  let c1_i32_556 : BitVec 32 := 1#32
  let v677 : BitVec 32 := Scalar.shrsi v2 c1_i32_556
  let c1_i32_557 : BitVec 32 := 1#32
  let v678 : BitVec 32 := Scalar.andi v677 c1_i32_557
  let c1_i32_558 : BitVec 32 := 1#32
  let v679 : BitVec 32 := Scalar.muli v678 c1_i32_558
  let v680 : BitVec 32 := Scalar.subi v441 v679
  let c96_i32_560 : BitVec 32 := 96#32
  let v682 : BitVec 32 := Scalar.muli v680 c96_i32_560
  let c0_i32_566 : BitVec 32 := 0#32
  ![v682.toNat, 0]
def k0_dev20 (d0 : Dev nD) : Nat :=
  let c0_i32_565 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_561 : BitVec 32 := 1#32
  let v683 : BitVec 32 := Scalar.xori v2 c1_i32_561
  let c1_i32_564 : BitVec 32 := 1#32
  let v684 : BitVec 32 := Scalar.muli v683 c1_i32_564
  let v685 : BitVec 32 := Scalar.addi c0_i32_565 v684
  v685.toNat
def k0_off29 (d0 : Dev nD) : Fin 2 → Nat :=
  let c0_i32_92 : BitVec 32 := 0#32
  let c8_i32_91 : BitVec 32 := 8#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_86 : BitVec 32 := 1#32
  let v115 : BitVec 32 := Scalar.shrsi v2 c1_i32_86
  let c1_i32_87 : BitVec 32 := 1#32
  let v116 : BitVec 32 := Scalar.andi v115 c1_i32_87
  let v120 : BitVec 32 := Scalar.muli c8_i32_91 v116
  let v121 : BitVec 32 := Scalar.addi c0_i32_92 v120
  let c4_i32_208 : BitVec 32 := 4#32
  let c1_i32_203 : BitVec 32 := 1#32
  let v246 : BitVec 32 := Scalar.andi v2 c1_i32_203
  let c1_i32_204 : BitVec 32 := 1#32
  let v247 : BitVec 32 := Scalar.shrsi v2 c1_i32_204
  let c1_i32_205 : BitVec 32 := 1#32
  let v248 : BitVec 32 := Scalar.andi v247 c1_i32_205
  let v249 : BitVec 32 := Scalar.xori v246 v248
  let v253 : BitVec 32 := Scalar.muli c4_i32_208 v249
  let v254 : BitVec 32 := Scalar.addi v121 v253
  let c2_i32_273 : BitVec 32 := 2#32
  let c3_i32_269 : BitVec 32 := 3#32
  let v322 : BitVec 32 := Scalar.shrsi v2 c3_i32_269
  let c1_i32_270 : BitVec 32 := 1#32
  let v323 : BitVec 32 := Scalar.andi v322 c1_i32_270
  let v327 : BitVec 32 := Scalar.muli c2_i32_273 v323
  let v328 : BitVec 32 := Scalar.addi v254 v327
  let c1_i32_434 : BitVec 32 := 1#32
  let c2_i32_430 : BitVec 32 := 2#32
  let v509 : BitVec 32 := Scalar.shrsi v2 c2_i32_430
  let c1_i32_431 : BitVec 32 := 1#32
  let v510 : BitVec 32 := Scalar.andi v509 c1_i32_431
  let v514 : BitVec 32 := Scalar.muli c1_i32_434 v510
  let v515 : BitVec 32 := Scalar.addi v328 v514
  let c2_i32_579 : BitVec 32 := 2#32
  let v702 : BitVec 32 := Scalar.shrsi v2 c2_i32_579
  let c1_i32_580 : BitVec 32 := 1#32
  let v703 : BitVec 32 := Scalar.andi v702 c1_i32_580
  let c1_i32_581 : BitVec 32 := 1#32
  let v704 : BitVec 32 := Scalar.muli v703 c1_i32_581
  let v705 : BitVec 32 := Scalar.subi v515 v704
  let c96_i32_583 : BitVec 32 := 96#32
  let v707 : BitVec 32 := Scalar.muli v705 c96_i32_583
  let c0_i32_589 : BitVec 32 := 0#32
  ![v707.toNat, 0]
def k0_dev21 (d0 : Dev nD) : Nat :=
  let c0_i32_588 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_584 : BitVec 32 := 8#32
  let v708 : BitVec 32 := Scalar.xori v2 c8_i32_584
  let c1_i32_587 : BitVec 32 := 1#32
  let v709 : BitVec 32 := Scalar.muli v708 c1_i32_587
  let v710 : BitVec 32 := Scalar.addi c0_i32_588 v709
  v710.toNat
def k0_off30 (d0 : Dev nD) : Fin 2 → Nat :=
  let c0_i32_40 : BitVec 32 := 0#32
  let c8_i32_39 : BitVec 32 := 8#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_33 : BitVec 32 := 1#32
  let v56 : BitVec 32 := Scalar.andi v2 c1_i32_33
  let c1_i32_34 : BitVec 32 := 1#32
  let v57 : BitVec 32 := Scalar.shrsi v2 c1_i32_34
  let c1_i32_35 : BitVec 32 := 1#32
  let v58 : BitVec 32 := Scalar.andi v57 c1_i32_35
  let v59 : BitVec 32 := Scalar.xori v56 v58
  let v63 : BitVec 32 := Scalar.muli c8_i32_39 v59
  let v64 : BitVec 32 := Scalar.addi c0_i32_40 v63
  let c4_i32_240 : BitVec 32 := 4#32
  let c1_i32_236 : BitVec 32 := 1#32
  let v285 : BitVec 32 := Scalar.shrsi v2 c1_i32_236
  let c1_i32_237 : BitVec 32 := 1#32
  let v286 : BitVec 32 := Scalar.andi v285 c1_i32_237
  let v290 : BitVec 32 := Scalar.muli c4_i32_240 v286
  let v291 : BitVec 32 := Scalar.addi v64 v290
  let c2_i32_304 : BitVec 32 := 2#32
  let c2_i32_300 : BitVec 32 := 2#32
  let v359 : BitVec 32 := Scalar.shrsi v2 c2_i32_300
  let c1_i32_301 : BitVec 32 := 1#32
  let v360 : BitVec 32 := Scalar.andi v359 c1_i32_301
  let v364 : BitVec 32 := Scalar.muli c2_i32_304 v360
  let v365 : BitVec 32 := Scalar.addi v291 v364
  let c1_i32_401 : BitVec 32 := 1#32
  let c3_i32_397 : BitVec 32 := 3#32
  let v472 : BitVec 32 := Scalar.shrsi v2 c3_i32_397
  let c1_i32_398 : BitVec 32 := 1#32
  let v473 : BitVec 32 := Scalar.andi v472 c1_i32_398
  let v477 : BitVec 32 := Scalar.muli c1_i32_401 v473
  let v478 : BitVec 32 := Scalar.addi v365 v477
  let c3_i32_602 : BitVec 32 := 3#32
  let v727 : BitVec 32 := Scalar.shrsi v2 c3_i32_602
  let c1_i32_603 : BitVec 32 := 1#32
  let v728 : BitVec 32 := Scalar.andi v727 c1_i32_603
  let c1_i32_604 : BitVec 32 := 1#32
  let v729 : BitVec 32 := Scalar.muli v728 c1_i32_604
  let v730 : BitVec 32 := Scalar.subi v478 v729
  let c96_i32_606 : BitVec 32 := 96#32
  let v732 : BitVec 32 := Scalar.muli v730 c96_i32_606
  let c0_i32_612 : BitVec 32 := 0#32
  ![v732.toNat, 0]
def k0_dev22 (d0 : Dev nD) : Nat :=
  let c0_i32_611 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_607 : BitVec 32 := 4#32
  let v733 : BitVec 32 := Scalar.xori v2 c4_i32_607
  let c1_i32_610 : BitVec 32 := 1#32
  let v734 : BitVec 32 := Scalar.muli v733 c1_i32_610
  let v735 : BitVec 32 := Scalar.addi c0_i32_611 v734
  v735.toNat
def k0_off31 (d0 : Dev nD) : Fin 2 → Nat :=
  let c0_i32_143 : BitVec 32 := 0#32
  let c8_i32_142 : BitVec 32 := 8#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v172 : BitVec 32 := Scalar.shrsi v2 c2_i32
  let c1_i32_138 : BitVec 32 := 1#32
  let v173 : BitVec 32 := Scalar.andi v172 c1_i32_138
  let v177 : BitVec 32 := Scalar.muli c8_i32_142 v173
  let v178 : BitVec 32 := Scalar.addi c0_i32_143 v177
  let c4_i32_176 : BitVec 32 := 4#32
  let c3_i32_172 : BitVec 32 := 3#32
  let v209 : BitVec 32 := Scalar.shrsi v2 c3_i32_172
  let c1_i32_173 : BitVec 32 := 1#32
  let v210 : BitVec 32 := Scalar.andi v209 c1_i32_173
  let v214 : BitVec 32 := Scalar.muli c4_i32_176 v210
  let v215 : BitVec 32 := Scalar.addi v178 v214
  let c2_i32_338 : BitVec 32 := 2#32
  let c1_i32_333 : BitVec 32 := 1#32
  let v396 : BitVec 32 := Scalar.andi v2 c1_i32_333
  let c1_i32_334 : BitVec 32 := 1#32
  let v397 : BitVec 32 := Scalar.shrsi v2 c1_i32_334
  let c1_i32_335 : BitVec 32 := 1#32
  let v398 : BitVec 32 := Scalar.andi v397 c1_i32_335
  let v399 : BitVec 32 := Scalar.xori v396 v398
  let v403 : BitVec 32 := Scalar.muli c2_i32_338 v399
  let v404 : BitVec 32 := Scalar.addi v215 v403
  let c1_i32_370 : BitVec 32 := 1#32
  let c1_i32_366 : BitVec 32 := 1#32
  let v435 : BitVec 32 := Scalar.shrsi v2 c1_i32_366
  let c1_i32_367 : BitVec 32 := 1#32
  let v436 : BitVec 32 := Scalar.andi v435 c1_i32_367
  let v440 : BitVec 32 := Scalar.muli c1_i32_370 v436
  let v441 : BitVec 32 := Scalar.addi v404 v440
  let c1_i32_556 : BitVec 32 := 1#32
  let v677 : BitVec 32 := Scalar.shrsi v2 c1_i32_556
  let c1_i32_557 : BitVec 32 := 1#32
  let v678 : BitVec 32 := Scalar.andi v677 c1_i32_557
  let c1_i32_558 : BitVec 32 := 1#32
  let v679 : BitVec 32 := Scalar.muli v678 c1_i32_558
  let v680 : BitVec 32 := Scalar.subi v441 v679
  let c1_i32_625 : BitVec 32 := 1#32
  let v752 : BitVec 32 := Scalar.andi v2 c1_i32_625
  let c1_i32_626 : BitVec 32 := 1#32
  let v753 : BitVec 32 := Scalar.shrsi v2 c1_i32_626
  let c1_i32_627 : BitVec 32 := 1#32
  let v754 : BitVec 32 := Scalar.andi v753 c1_i32_627
  let v755 : BitVec 32 := Scalar.xori v752 v754
  let c2_i32_628 : BitVec 32 := 2#32
  let v756 : BitVec 32 := Scalar.muli v755 c2_i32_628
  let v757 : BitVec 32 := Scalar.subi v680 v756
  let c96_i32_630 : BitVec 32 := 96#32
  let v759 : BitVec 32 := Scalar.muli v757 c96_i32_630
  let c0_i32_636 : BitVec 32 := 0#32
  ![v759.toNat, 0]
def k0_dev23 (d0 : Dev nD) : Nat :=
  let c0_i32_635 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_631 : BitVec 32 := 8#32
  let v760 : BitVec 32 := Scalar.xori v2 c8_i32_631
  let c1_i32_634 : BitVec 32 := 1#32
  let v761 : BitVec 32 := Scalar.muli v760 c1_i32_634
  let v762 : BitVec 32 := Scalar.addi c0_i32_635 v761
  v762.toNat
def k0_off32 (d0 : Dev nD) : Fin 2 → Nat :=
  let c0_i32_40 : BitVec 32 := 0#32
  let c8_i32_39 : BitVec 32 := 8#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_33 : BitVec 32 := 1#32
  let v56 : BitVec 32 := Scalar.andi v2 c1_i32_33
  let c1_i32_34 : BitVec 32 := 1#32
  let v57 : BitVec 32 := Scalar.shrsi v2 c1_i32_34
  let c1_i32_35 : BitVec 32 := 1#32
  let v58 : BitVec 32 := Scalar.andi v57 c1_i32_35
  let v59 : BitVec 32 := Scalar.xori v56 v58
  let v63 : BitVec 32 := Scalar.muli c8_i32_39 v59
  let v64 : BitVec 32 := Scalar.addi c0_i32_40 v63
  let c4_i32_240 : BitVec 32 := 4#32
  let c1_i32_236 : BitVec 32 := 1#32
  let v285 : BitVec 32 := Scalar.shrsi v2 c1_i32_236
  let c1_i32_237 : BitVec 32 := 1#32
  let v286 : BitVec 32 := Scalar.andi v285 c1_i32_237
  let v290 : BitVec 32 := Scalar.muli c4_i32_240 v286
  let v291 : BitVec 32 := Scalar.addi v64 v290
  let c2_i32_304 : BitVec 32 := 2#32
  let c2_i32_300 : BitVec 32 := 2#32
  let v359 : BitVec 32 := Scalar.shrsi v2 c2_i32_300
  let c1_i32_301 : BitVec 32 := 1#32
  let v360 : BitVec 32 := Scalar.andi v359 c1_i32_301
  let v364 : BitVec 32 := Scalar.muli c2_i32_304 v360
  let v365 : BitVec 32 := Scalar.addi v291 v364
  let c1_i32_401 : BitVec 32 := 1#32
  let c3_i32_397 : BitVec 32 := 3#32
  let v472 : BitVec 32 := Scalar.shrsi v2 c3_i32_397
  let c1_i32_398 : BitVec 32 := 1#32
  let v473 : BitVec 32 := Scalar.andi v472 c1_i32_398
  let v477 : BitVec 32 := Scalar.muli c1_i32_401 v473
  let v478 : BitVec 32 := Scalar.addi v365 v477
  let c3_i32_602 : BitVec 32 := 3#32
  let v727 : BitVec 32 := Scalar.shrsi v2 c3_i32_602
  let c1_i32_603 : BitVec 32 := 1#32
  let v728 : BitVec 32 := Scalar.andi v727 c1_i32_603
  let c1_i32_604 : BitVec 32 := 1#32
  let v729 : BitVec 32 := Scalar.muli v728 c1_i32_604
  let v730 : BitVec 32 := Scalar.subi v478 v729
  let c2_i32_649 : BitVec 32 := 2#32
  let v779 : BitVec 32 := Scalar.shrsi v2 c2_i32_649
  let c1_i32_650 : BitVec 32 := 1#32
  let v780 : BitVec 32 := Scalar.andi v779 c1_i32_650
  let c2_i32_651 : BitVec 32 := 2#32
  let v781 : BitVec 32 := Scalar.muli v780 c2_i32_651
  let v782 : BitVec 32 := Scalar.subi v730 v781
  let c96_i32_653 : BitVec 32 := 96#32
  let v784 : BitVec 32 := Scalar.muli v782 c96_i32_653
  let c0_i32_659 : BitVec 32 := 0#32
  ![v784.toNat, 0]
def k0_dev24 (d0 : Dev nD) : Nat :=
  let c0_i32_658 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_654 : BitVec 32 := 3#32
  let v785 : BitVec 32 := Scalar.xori v2 c3_i32_654
  let c1_i32_657 : BitVec 32 := 1#32
  let v786 : BitVec 32 := Scalar.muli v785 c1_i32_657
  let v787 : BitVec 32 := Scalar.addi c0_i32_658 v786
  v787.toNat
def k0_off33 (d0 : Dev nD) : Fin 2 → Nat :=
  let c0_i32_92 : BitVec 32 := 0#32
  let c8_i32_91 : BitVec 32 := 8#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_86 : BitVec 32 := 1#32
  let v115 : BitVec 32 := Scalar.shrsi v2 c1_i32_86
  let c1_i32_87 : BitVec 32 := 1#32
  let v116 : BitVec 32 := Scalar.andi v115 c1_i32_87
  let v120 : BitVec 32 := Scalar.muli c8_i32_91 v116
  let v121 : BitVec 32 := Scalar.addi c0_i32_92 v120
  let c4_i32_208 : BitVec 32 := 4#32
  let c1_i32_203 : BitVec 32 := 1#32
  let v246 : BitVec 32 := Scalar.andi v2 c1_i32_203
  let c1_i32_204 : BitVec 32 := 1#32
  let v247 : BitVec 32 := Scalar.shrsi v2 c1_i32_204
  let c1_i32_205 : BitVec 32 := 1#32
  let v248 : BitVec 32 := Scalar.andi v247 c1_i32_205
  let v249 : BitVec 32 := Scalar.xori v246 v248
  let v253 : BitVec 32 := Scalar.muli c4_i32_208 v249
  let v254 : BitVec 32 := Scalar.addi v121 v253
  let c2_i32_273 : BitVec 32 := 2#32
  let c3_i32_269 : BitVec 32 := 3#32
  let v322 : BitVec 32 := Scalar.shrsi v2 c3_i32_269
  let c1_i32_270 : BitVec 32 := 1#32
  let v323 : BitVec 32 := Scalar.andi v322 c1_i32_270
  let v327 : BitVec 32 := Scalar.muli c2_i32_273 v323
  let v328 : BitVec 32 := Scalar.addi v254 v327
  let c1_i32_434 : BitVec 32 := 1#32
  let c2_i32_430 : BitVec 32 := 2#32
  let v509 : BitVec 32 := Scalar.shrsi v2 c2_i32_430
  let c1_i32_431 : BitVec 32 := 1#32
  let v510 : BitVec 32 := Scalar.andi v509 c1_i32_431
  let v514 : BitVec 32 := Scalar.muli c1_i32_434 v510
  let v515 : BitVec 32 := Scalar.addi v328 v514
  let c2_i32_579 : BitVec 32 := 2#32
  let v702 : BitVec 32 := Scalar.shrsi v2 c2_i32_579
  let c1_i32_580 : BitVec 32 := 1#32
  let v703 : BitVec 32 := Scalar.andi v702 c1_i32_580
  let c1_i32_581 : BitVec 32 := 1#32
  let v704 : BitVec 32 := Scalar.muli v703 c1_i32_581
  let v705 : BitVec 32 := Scalar.subi v515 v704
  let c3_i32_672 : BitVec 32 := 3#32
  let v804 : BitVec 32 := Scalar.shrsi v2 c3_i32_672
  let c1_i32_673 : BitVec 32 := 1#32
  let v805 : BitVec 32 := Scalar.andi v804 c1_i32_673
  let c2_i32_674 : BitVec 32 := 2#32
  let v806 : BitVec 32 := Scalar.muli v805 c2_i32_674
  let v807 : BitVec 32 := Scalar.subi v705 v806
  let c96_i32_676 : BitVec 32 := 96#32
  let v809 : BitVec 32 := Scalar.muli v807 c96_i32_676
  let c0_i32_682 : BitVec 32 := 0#32
  ![v809.toNat, 0]
def k0_dev25 (d0 : Dev nD) : Nat :=
  let c0_i32_681 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_677 : BitVec 32 := 1#32
  let v810 : BitVec 32 := Scalar.xori v2 c1_i32_677
  let c1_i32_680 : BitVec 32 := 1#32
  let v811 : BitVec 32 := Scalar.muli v810 c1_i32_680
  let v812 : BitVec 32 := Scalar.addi c0_i32_681 v811
  v812.toNat
def k0_off34 (d0 : Dev nD) : Fin 2 → Nat :=
  let c0_i32_92 : BitVec 32 := 0#32
  let c8_i32_91 : BitVec 32 := 8#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_86 : BitVec 32 := 1#32
  let v115 : BitVec 32 := Scalar.shrsi v2 c1_i32_86
  let c1_i32_87 : BitVec 32 := 1#32
  let v116 : BitVec 32 := Scalar.andi v115 c1_i32_87
  let v120 : BitVec 32 := Scalar.muli c8_i32_91 v116
  let v121 : BitVec 32 := Scalar.addi c0_i32_92 v120
  let c4_i32_208 : BitVec 32 := 4#32
  let c1_i32_203 : BitVec 32 := 1#32
  let v246 : BitVec 32 := Scalar.andi v2 c1_i32_203
  let c1_i32_204 : BitVec 32 := 1#32
  let v247 : BitVec 32 := Scalar.shrsi v2 c1_i32_204
  let c1_i32_205 : BitVec 32 := 1#32
  let v248 : BitVec 32 := Scalar.andi v247 c1_i32_205
  let v249 : BitVec 32 := Scalar.xori v246 v248
  let v253 : BitVec 32 := Scalar.muli c4_i32_208 v249
  let v254 : BitVec 32 := Scalar.addi v121 v253
  let c2_i32_273 : BitVec 32 := 2#32
  let c3_i32_269 : BitVec 32 := 3#32
  let v322 : BitVec 32 := Scalar.shrsi v2 c3_i32_269
  let c1_i32_270 : BitVec 32 := 1#32
  let v323 : BitVec 32 := Scalar.andi v322 c1_i32_270
  let v327 : BitVec 32 := Scalar.muli c2_i32_273 v323
  let v328 : BitVec 32 := Scalar.addi v254 v327
  let c1_i32_434 : BitVec 32 := 1#32
  let c2_i32_430 : BitVec 32 := 2#32
  let v509 : BitVec 32 := Scalar.shrsi v2 c2_i32_430
  let c1_i32_431 : BitVec 32 := 1#32
  let v510 : BitVec 32 := Scalar.andi v509 c1_i32_431
  let v514 : BitVec 32 := Scalar.muli c1_i32_434 v510
  let v515 : BitVec 32 := Scalar.addi v328 v514
  let c2_i32_579 : BitVec 32 := 2#32
  let v702 : BitVec 32 := Scalar.shrsi v2 c2_i32_579
  let c1_i32_580 : BitVec 32 := 1#32
  let v703 : BitVec 32 := Scalar.andi v702 c1_i32_580
  let c1_i32_581 : BitVec 32 := 1#32
  let v704 : BitVec 32 := Scalar.muli v703 c1_i32_581
  let v705 : BitVec 32 := Scalar.subi v515 v704
  let c3_i32_672 : BitVec 32 := 3#32
  let v804 : BitVec 32 := Scalar.shrsi v2 c3_i32_672
  let c1_i32_673 : BitVec 32 := 1#32
  let v805 : BitVec 32 := Scalar.andi v804 c1_i32_673
  let c2_i32_674 : BitVec 32 := 2#32
  let v806 : BitVec 32 := Scalar.muli v805 c2_i32_674
  let v807 : BitVec 32 := Scalar.subi v705 v806
  let c1_i32_695 : BitVec 32 := 1#32
  let v829 : BitVec 32 := Scalar.andi v2 c1_i32_695
  let c1_i32_696 : BitVec 32 := 1#32
  let v830 : BitVec 32 := Scalar.shrsi v2 c1_i32_696
  let c1_i32_697 : BitVec 32 := 1#32
  let v831 : BitVec 32 := Scalar.andi v830 c1_i32_697
  let v832 : BitVec 32 := Scalar.xori v829 v831
  let c4_i32_698 : BitVec 32 := 4#32
  let v833 : BitVec 32 := Scalar.muli v832 c4_i32_698
  let v834 : BitVec 32 := Scalar.subi v807 v833
  let c96_i32_700 : BitVec 32 := 96#32
  let v836 : BitVec 32 := Scalar.muli v834 c96_i32_700
  let c0_i32_706 : BitVec 32 := 0#32
  ![v836.toNat, 0]
def k0_dev26 (d0 : Dev nD) : Nat :=
  let c0_i32_705 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_701 : BitVec 32 := 3#32
  let v837 : BitVec 32 := Scalar.xori v2 c3_i32_701
  let c1_i32_704 : BitVec 32 := 1#32
  let v838 : BitVec 32 := Scalar.muli v837 c1_i32_704
  let v839 : BitVec 32 := Scalar.addi c0_i32_705 v838
  v839.toNat
def k0_off35 (d0 : Dev nD) : Fin 2 → Nat :=
  let c0_i32_40 : BitVec 32 := 0#32
  let c8_i32_39 : BitVec 32 := 8#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_33 : BitVec 32 := 1#32
  let v56 : BitVec 32 := Scalar.andi v2 c1_i32_33
  let c1_i32_34 : BitVec 32 := 1#32
  let v57 : BitVec 32 := Scalar.shrsi v2 c1_i32_34
  let c1_i32_35 : BitVec 32 := 1#32
  let v58 : BitVec 32 := Scalar.andi v57 c1_i32_35
  let v59 : BitVec 32 := Scalar.xori v56 v58
  let v63 : BitVec 32 := Scalar.muli c8_i32_39 v59
  let v64 : BitVec 32 := Scalar.addi c0_i32_40 v63
  let c4_i32_240 : BitVec 32 := 4#32
  let c1_i32_236 : BitVec 32 := 1#32
  let v285 : BitVec 32 := Scalar.shrsi v2 c1_i32_236
  let c1_i32_237 : BitVec 32 := 1#32
  let v286 : BitVec 32 := Scalar.andi v285 c1_i32_237
  let v290 : BitVec 32 := Scalar.muli c4_i32_240 v286
  let v291 : BitVec 32 := Scalar.addi v64 v290
  let c2_i32_304 : BitVec 32 := 2#32
  let c2_i32_300 : BitVec 32 := 2#32
  let v359 : BitVec 32 := Scalar.shrsi v2 c2_i32_300
  let c1_i32_301 : BitVec 32 := 1#32
  let v360 : BitVec 32 := Scalar.andi v359 c1_i32_301
  let v364 : BitVec 32 := Scalar.muli c2_i32_304 v360
  let v365 : BitVec 32 := Scalar.addi v291 v364
  let c1_i32_401 : BitVec 32 := 1#32
  let c3_i32_397 : BitVec 32 := 3#32
  let v472 : BitVec 32 := Scalar.shrsi v2 c3_i32_397
  let c1_i32_398 : BitVec 32 := 1#32
  let v473 : BitVec 32 := Scalar.andi v472 c1_i32_398
  let v477 : BitVec 32 := Scalar.muli c1_i32_401 v473
  let v478 : BitVec 32 := Scalar.addi v365 v477
  let c3_i32_602 : BitVec 32 := 3#32
  let v727 : BitVec 32 := Scalar.shrsi v2 c3_i32_602
  let c1_i32_603 : BitVec 32 := 1#32
  let v728 : BitVec 32 := Scalar.andi v727 c1_i32_603
  let c1_i32_604 : BitVec 32 := 1#32
  let v729 : BitVec 32 := Scalar.muli v728 c1_i32_604
  let v730 : BitVec 32 := Scalar.subi v478 v729
  let c2_i32_649 : BitVec 32 := 2#32
  let v779 : BitVec 32 := Scalar.shrsi v2 c2_i32_649
  let c1_i32_650 : BitVec 32 := 1#32
  let v780 : BitVec 32 := Scalar.andi v779 c1_i32_650
  let c2_i32_651 : BitVec 32 := 2#32
  let v781 : BitVec 32 := Scalar.muli v780 c2_i32_651
  let v782 : BitVec 32 := Scalar.subi v730 v781
  let c1_i32_719 : BitVec 32 := 1#32
  let v856 : BitVec 32 := Scalar.shrsi v2 c1_i32_719
  let c1_i32_720 : BitVec 32 := 1#32
  let v857 : BitVec 32 := Scalar.andi v856 c1_i32_720
  let c4_i32_721 : BitVec 32 := 4#32
  let v858 : BitVec 32 := Scalar.muli v857 c4_i32_721
  let v859 : BitVec 32 := Scalar.subi v782 v858
  let c96_i32_723 : BitVec 32 := 96#32
  let v861 : BitVec 32 := Scalar.muli v859 c96_i32_723
  let c0_i32_729 : BitVec 32 := 0#32
  ![v861.toNat, 0]
def k0_dev27 (d0 : Dev nD) : Nat :=
  let c0_i32_728 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_724 : BitVec 32 := 1#32
  let v862 : BitVec 32 := Scalar.xori v2 c1_i32_724
  let c1_i32_727 : BitVec 32 := 1#32
  let v863 : BitVec 32 := Scalar.muli v862 c1_i32_727
  let v864 : BitVec 32 := Scalar.addi c0_i32_728 v863
  v864.toNat
def k0_off36 (d0 : Dev nD) : Fin 2 → Nat :=
  let c0_i32_143 : BitVec 32 := 0#32
  let c8_i32_142 : BitVec 32 := 8#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v172 : BitVec 32 := Scalar.shrsi v2 c2_i32
  let c1_i32_138 : BitVec 32 := 1#32
  let v173 : BitVec 32 := Scalar.andi v172 c1_i32_138
  let v177 : BitVec 32 := Scalar.muli c8_i32_142 v173
  let v178 : BitVec 32 := Scalar.addi c0_i32_143 v177
  let c4_i32_176 : BitVec 32 := 4#32
  let c3_i32_172 : BitVec 32 := 3#32
  let v209 : BitVec 32 := Scalar.shrsi v2 c3_i32_172
  let c1_i32_173 : BitVec 32 := 1#32
  let v210 : BitVec 32 := Scalar.andi v209 c1_i32_173
  let v214 : BitVec 32 := Scalar.muli c4_i32_176 v210
  let v215 : BitVec 32 := Scalar.addi v178 v214
  let c2_i32_338 : BitVec 32 := 2#32
  let c1_i32_333 : BitVec 32 := 1#32
  let v396 : BitVec 32 := Scalar.andi v2 c1_i32_333
  let c1_i32_334 : BitVec 32 := 1#32
  let v397 : BitVec 32 := Scalar.shrsi v2 c1_i32_334
  let c1_i32_335 : BitVec 32 := 1#32
  let v398 : BitVec 32 := Scalar.andi v397 c1_i32_335
  let v399 : BitVec 32 := Scalar.xori v396 v398
  let v403 : BitVec 32 := Scalar.muli c2_i32_338 v399
  let v404 : BitVec 32 := Scalar.addi v215 v403
  let c1_i32_370 : BitVec 32 := 1#32
  let c1_i32_366 : BitVec 32 := 1#32
  let v435 : BitVec 32 := Scalar.shrsi v2 c1_i32_366
  let c1_i32_367 : BitVec 32 := 1#32
  let v436 : BitVec 32 := Scalar.andi v435 c1_i32_367
  let v440 : BitVec 32 := Scalar.muli c1_i32_370 v436
  let v441 : BitVec 32 := Scalar.addi v404 v440
  let c1_i32_556 : BitVec 32 := 1#32
  let v677 : BitVec 32 := Scalar.shrsi v2 c1_i32_556
  let c1_i32_557 : BitVec 32 := 1#32
  let v678 : BitVec 32 := Scalar.andi v677 c1_i32_557
  let c1_i32_558 : BitVec 32 := 1#32
  let v679 : BitVec 32 := Scalar.muli v678 c1_i32_558
  let v680 : BitVec 32 := Scalar.subi v441 v679
  let c1_i32_625 : BitVec 32 := 1#32
  let v752 : BitVec 32 := Scalar.andi v2 c1_i32_625
  let c1_i32_626 : BitVec 32 := 1#32
  let v753 : BitVec 32 := Scalar.shrsi v2 c1_i32_626
  let c1_i32_627 : BitVec 32 := 1#32
  let v754 : BitVec 32 := Scalar.andi v753 c1_i32_627
  let v755 : BitVec 32 := Scalar.xori v752 v754
  let c2_i32_628 : BitVec 32 := 2#32
  let v756 : BitVec 32 := Scalar.muli v755 c2_i32_628
  let v757 : BitVec 32 := Scalar.subi v680 v756
  let c3_i32_742 : BitVec 32 := 3#32
  let v881 : BitVec 32 := Scalar.shrsi v2 c3_i32_742
  let c1_i32_743 : BitVec 32 := 1#32
  let v882 : BitVec 32 := Scalar.andi v881 c1_i32_743
  let c4_i32_744 : BitVec 32 := 4#32
  let v883 : BitVec 32 := Scalar.muli v882 c4_i32_744
  let v884 : BitVec 32 := Scalar.subi v757 v883
  let c96_i32_746 : BitVec 32 := 96#32
  let v886 : BitVec 32 := Scalar.muli v884 c96_i32_746
  let c0_i32_752 : BitVec 32 := 0#32
  ![v886.toNat, 0]
def k0_dev28 (d0 : Dev nD) : Nat :=
  let c0_i32_751 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_747 : BitVec 32 := 4#32
  let v887 : BitVec 32 := Scalar.xori v2 c4_i32_747
  let c1_i32_750 : BitVec 32 := 1#32
  let v888 : BitVec 32 := Scalar.muli v887 c1_i32_750
  let v889 : BitVec 32 := Scalar.addi c0_i32_751 v888
  v889.toNat
abbrev stage0_0 : Fin 1 → Memref sig .tc .vmem S1536x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1536x12288 : Shape := ⟨2, ![1536, 12288]⟩
abbrev S12288x1536 : Shape := ⟨2, ![12288, 1536]⟩
abbrev S1536x1536 : Shape := ⟨2, ![1536, 1536]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S1536x12288, .bf16⟩
  | .hbm, ⟨1, _⟩ => ⟨S12288x1536, .bf16⟩
  | .hbm, ⟨2, _⟩ => ⟨S1536x1536, .f32⟩
  | .hbm, ⟨3, _⟩ => ⟨S1536x1536, .bf16⟩
  | .hbm, ⟨4, _⟩ => ⟨S1536x1536, .bf16⟩
  | .hbm, ⟨5, _⟩ => ⟨S1536x1536, .bf16⟩
  | .hbm, ⟨6, _⟩ => ⟨S_, .bf16⟩
  | .hbm, ⟨7, _⟩ => ⟨S1536x1536, .bf16⟩
  | .hbm, ⟨8, _⟩ => ⟨S1536x1536, .bf16⟩
  | .hbm, ⟨9, _⟩ => ⟨S1536x1536, .bf16⟩
  | _, _ => ⟨S1536x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Proof.Mesh.lean ====
/-
# The sixteen devices as a hypercube, and the bands of the three streams

A device's index gives four bits, one for each direction of the hypercube: `x` (0), `y` (1) and the two `z` bits (2, 3).
Each of the three streams halves its buffer of sixteen chunks of 96 rows along the four directions, in an order of its
own. This module has the chunk arithmetic: which chunks a device keeps and which it sends in each round.
-/
module

public import Idealize.ShloMosaic.Lib.Rounds

@[expose] public section

namespace Cert.Mesh

/-- The bit of a device in direction `k`. -/
def bt (k : Fin 4) (c : Fin 16) : ℕ :=
  match k with
  | 0 => (c.val % 2 + c.val / 2 % 2) % 2
  | 1 => c.val / 2 % 2
  | 2 => c.val / 4 % 2
  | 3 => c.val / 8 % 2

/-- The neighbour of a device in direction `k`. -/
def pr (k : Fin 4) (c : Fin 16) : Fin 16 :=
  match k with
  | 0 => ⟨(c.val ^^^ 1) % 16, Nat.mod_lt _ (by decide)⟩
  | 1 => ⟨(c.val ^^^ 3) % 16, Nat.mod_lt _ (by decide)⟩
  | 2 => ⟨(c.val ^^^ 4) % 16, Nat.mod_lt _ (by decide)⟩
  | 3 => ⟨(c.val ^^^ 8) % 16, Nat.mod_lt _ (by decide)⟩

/-- Crossing twice leads back. -/
theorem pr_pr (k : Fin 4) (c : Fin 16) : pr k (pr k c) = c := by revert k c; decide

/-- A direction's neighbour map is a permutation of the devices. -/
def prEquiv (k : Fin 4) : Fin 16 ≃ Fin 16 := ⟨pr k, pr k, pr_pr k, pr_pr k⟩

/-- The direction stream `s` uses in round `j`. -/
def dir (s : Fin 3) (j : Fin 4) : Fin 4 :=
  match s with
  | 0 => j
  | 1 => match j with
    | 0 => 1
    | 1 => 0
    | 2 => 3
    | 3 => 2
  | 2 => match j with
    | 0 => 2
    | 1 => 3
    | 2 => 0
    | 3 => 1

/-- The round in which stream `s` uses direction `k`. -/
def rnd (s : Fin 3) (k : Fin 4) : Fin 4 :=
  match s with
  | 0 => k
  | 1 => match k with
    | 0 => 1
    | 1 => 0
    | 2 => 3
    | 3 => 2
  | 2 => match k with
    | 0 => 2
    | 1 => 3
    | 2 => 0
    | 3 => 1

/-- The direction of the round found for a direction. -/
theorem dir_rnd (s : Fin 3) (k : Fin 4) : dir s (rnd s k) = k := by revert s k; decide
/-- The round found for the direction of a round. -/
theorem rnd_dir (s : Fin 3) (j : Fin 4) : rnd s (dir s j) = j := by revert s j; decide

/-- How many chunks a device keeps (and sends) in round `j`. -/
def hh (j : Fin 4) : ℕ :=
  match j with
  | 0 => 8
  | 1 => 4
  | 2 => 2
  | 3 => 1

/-- The first chunk of the landing buffer that round `j` lands on. -/
def so (j : Fin 4) : ℕ :=
  match j with
  | 0 => 0
  | 1 => 8
  | 2 => 12
  | 3 => 14

/-- The first chunk device `c` holds before round `j` of stream `s`. -/
def st (s : Fin 3) (j : Fin 4) (c : Fin 16) : ℕ :=
  match j with
  | 0 => 0
  | 1 => 8 * bt (dir s 0) c
  | 2 => 8 * bt (dir s 0) c + 4 * bt (dir s 1) c
  | 3 => 8 * bt (dir s 0) c + 4 * bt (dir s 1) c + 2 * bt (dir s 2) c

/-- The first chunk it keeps in the round. -/
def kp (s : Fin 3) (j : Fin 4) (c : Fin 16) : ℕ := st s j c + hh j * bt (dir s j) c

/-- The first chunk it sends in the round. -/
def sd (s : Fin 3) (j : Fin 4) (c : Fin 16) : ℕ := st s j c + hh j * (1 - bt (dir s j) c)

/-- The peer keeps what a device sends. -/
theorem kp_pr (s : Fin 3) (j : Fin 4) (c : Fin 16) : kp s j (pr (dir s j) c) = sd s j c := by revert s j c; decide
/-- What the peer sends is what the device keeps. -/
theorem sd_pr (s : Fin 3) (j : Fin 4) (c : Fin 16) : sd s j (pr (dir s j) c) = kp s j c := by revert s j c; decide

/-- Of what it holds a device keeps one half and sends the other. -/
theorem halves (s : Fin 3) (j : Fin 4) (c : Fin 16) :
    (kp s j c = st s j c ∧ sd s j c = st s j c + hh j) ∨ (sd s j c = st s j c ∧ kp s j c = st s j c + hh j) := by
  revert s j c; decide

/-- The half kept in round 0 is split in round 1. -/
theorem kp_zero_one (s : Fin 3) (c : Fin 16) : kp s 0 c = st s 1 c := by revert s c; decide
/-- The half kept in round 1 is split in round 2. -/
theorem kp_one_two (s : Fin 3) (c : Fin 16) : kp s 1 c = st s 2 c := by revert s c; decide
/-- The half kept in round 2 is split in round 3. -/
theorem kp_two_three (s : Fin 3) (c : Fin 16) : kp s 2 c = st s 3 c := by revert s c; decide

/-- The half kept lies in the buffer. -/
theorem kp_le (s : Fin 3) (j : Fin 4) (c : Fin 16) : kp s j c + hh j ≤ 16 := by revert s j c; decide
/-- The half sent lies in the buffer. -/
theorem sd_le (s : Fin 3) (j : Fin 4) (c : Fin 16) : sd s j c + hh j ≤ 16 := by revert s j c; decide
/-- The landing bands lie in the landing buffer. -/
theorem so_le (j : Fin 4) : so j + hh j ≤ 15 := by revert j; decide

/-- The device that holds chunk `k` of stream `s` after the four rounds. -/
def own (s : Fin 3) (k : ℕ) : Fin 16 :=
  match s with
  | 0 => ![0, 8, 4, 12, 3, 11, 7, 15, 1, 9, 5, 13, 2, 10, 6, 14] (⟨k % 16, Nat.mod_lt _ (by decide)⟩ : Fin 16)
  | 1 => ![0, 4, 8, 12, 1, 5, 9, 13, 3, 7, 11, 15, 2, 6, 10, 14] (⟨k % 16, Nat.mod_lt _ (by decide)⟩ : Fin 16)
  | 2 => ![0, 3, 1, 2, 8, 11, 9, 10, 4, 7, 5, 6, 12, 15, 13, 14] (⟨k % 16, Nat.mod_lt _ (by decide)⟩ : Fin 16)

/-- A device owns the chunk it keeps last. -/
theorem own_kp (s : Fin 3) (c : Fin 16) : own s (kp s 3 c) = c := by revert s c; decide

/-- The peer in round `j`. -/
abbrev pe (s : Fin 3) (j : Fin 4) (c : Fin 16) : Fin 16 := pr (dir s j) c

end Cert.Mesh
-- ==== Proof.Rows.lean ====
/-
# Row bands of a two-dimensional buffer

A kernel that sends and receives bands of consecutive rows of one buffer owns, at each moment, some of the
bands and not others. `rows M c a h f` is the ownership of the `h` rows of `M` on device `c` from row `a` on,
whose contents are `f` (row, column). The lemmas split and join bands, exchange a band with the slice of `M`
over it, and run a load or a store of a band.
-/
module

public import Idealize.ShloMosaic.Lib.Rounds
public import Idealize.ShloMosaic.Lib.Pipeline.Kit
public import Idealize.ShloMosaic.Lib.Tactic

@[expose] public section

noncomputable section

namespace Cert.Bands

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {nD : ℕ} {τ : Topo} {sig : RefSig} {Ix : Type} [DecidableEq Ix]
variable {Val : EltTy → Type} {Name : Type} [DecidableEq Name] {U : Type} [URA U] {Lvl : Type} {Λ : Labels}
local notation "𝕄" => MT nD τ sig Ix Val Name U Lvl

variable {n w : ℕ} {e : EltTy}

/-- The shape of a buffer of `n` rows and `w` columns. -/
abbrev S2 (n w : ℕ) : Shape := ⟨2, ![n, w]⟩

/-- The elements of `M`'s buffer in rows `a … a + h - 1`. -/
def rowSet (M : Memref sig .tc .vmem (S2 n w) e) (a h : ℕ) : Finset M.view.ty.Idx :=
  (Finset.univ.filter fun i : (S2 n w).Idx => a ≤ (i 0).val ∧ (i 0).val < a + h).map M.view.emb

/-- Which elements lie in a band. -/
theorem mem_rowSet {M : Memref sig .tc .vmem (S2 n w) e} {a h : ℕ} {i : (S2 n w).Idx} :
    M.view.emb i ∈ rowSet M a h ↔ a ≤ (i 0).val ∧ (i 0).val < a + h := by
  unfold rowSet
  rw [Finset.mem_map' , Finset.mem_filter]
  exact ⟨fun h => h.2, fun h => ⟨Finset.mem_univ _, h⟩⟩

/-- Every element of a band is one of the buffer's rows and columns. -/
theorem of_mem_rowSet {M : Memref sig .tc .vmem (S2 n w) e} {a h : ℕ} {y : M.view.ty.Idx} (hy : y ∈ rowSet M a h) :
    ∃ i : (S2 n w).Idx, M.view.emb i = y ∧ a ≤ (i 0).val ∧ (i 0).val < a + h := by
  obtain ⟨i, hi, rfl⟩ := Finset.mem_map.mp hy
  exact ⟨i, rfl, (Finset.mem_filter.mp hi).2⟩

/-- The `h` rows of `M` on device `c` from row `a` on, holding `f`. -/
def rows (M : Memref sig .tc .vmem (S2 n w) e) (c : Dev nD) (a h : ℕ) (f : ℕ → ℕ → Val e) : sProp 𝕄 :=
  iprop(∃ g : Buf Val (M.view.loc (c : Thread nD τ)),
    ⌜∀ i : (S2 n w).Idx, a ≤ (i 0).val → (i 0).val < a + h → M.view.read Val g i = f (i 0).val (i 1).val⌝
      ∗ (M.view.loc (c : Thread nD τ) ↦[rowSet M a h]{fullShare} g))

/-- The vector of a band's contents: what a load of the `h` rows from row `a` on of a buffer holding `f` gives. -/
def vec (h : ℕ) (f : ℕ → ℕ → Val e) (a : ℕ) : (S2 h w).Idx → Val e := fun x => f (a + (x 0).val) (x 1).val

/-- A vector as a function of row and column, `z` outside. -/
def tab (z : Val e) (v : (S2 n w).Idx → Val e) : ℕ → ℕ → Val e := fun r k =>
  if h : r < n ∧ k < w then v (Fin.cons ⟨r, h.1⟩ (Fin.cons ⟨k, h.2⟩ finZeroElim)) else z

/-- The table at an index of the vector. -/
theorem tab_idx (z : Val e) (v : (S2 n w).Idx → Val e) (i : (S2 n w).Idx) : tab z v (i 0).val (i 1).val = v i := by
  have h0 : (i 0).val < n := (i 0).isLt
  have h1 : (i 1).val < w := (i 1).isLt
  unfold tab
  rw [dif_pos ⟨h0, h1⟩]
  congr 1
  funext k
  match k with
  | 0 => rfl
  | 1 => rfl

/-- The table of a vector, loaded whole, is the vector. -/
theorem vec_tab (z : Val e) (v : (S2 n w).Idx → Val e) : vec n (tab z v) 0 = v :=
  funext fun i => by unfold vec; rw [Nat.zero_add]; exact tab_idx z v i

variable (M : Memref sig .tc .vmem (S2 n w) e) (c : Dev nD)

/-- A band may be kept in an invariant. -/
instance rows_storable [Infinite Name] (a h : ℕ) (f : ℕ → ℕ → Val e) :
    BI.Storable (upEmb : UEmb _ 𝕄) (rows M c a h f : sProp 𝕄) := by unfold rows; infer_instance

/-- A band is two bands, one above the other. -/
theorem rows_split (a h₁ h₂ : ℕ) (f : ℕ → ℕ → Val e) :
    (rows M c a (h₁ + h₂) f : sProp 𝕄) ⊢ iprop(rows M c a h₁ f ∗ rows M c (a + h₁) h₂ f) := by
  have hu : rowSet M a (h₁ + h₂) = rowSet M a h₁ ∪ rowSet M (a + h₁) h₂ := by
    ext y
    rw [Finset.mem_union]
    constructor
    · intro hy
      obtain ⟨i, rfl, h1, h2⟩ := of_mem_rowSet hy
      rw [mem_rowSet, mem_rowSet]; omega
    · rintro (hy | hy) <;> obtain ⟨i, rfl, h1, h2⟩ := of_mem_rowSet hy <;> rw [mem_rowSet] <;> omega
  have hd : Disjoint (rowSet M a h₁) (rowSet M (a + h₁) h₂) := by
    rw [Finset.disjoint_left]
    intro y hy hy'
    obtain ⟨i, rfl, h1, h2⟩ := of_mem_rowSet hy
    rw [mem_rowSet] at hy'; omega
  unfold rows
  iintro ⟨%g, %hg, H⟩
  rw [hu]
  ihave H' := (pointsTo_union hd).1 $$ H
  icases H' with ⟨H1, H2⟩
  isplitl [H1]
  · iexists g
    isplitr
    · ipureintro; intro i h1 h2; exact hg i h1 (by omega)
    · iexact H1
  · iexists g
    isplitr
    · ipureintro; intro i h1 h2; exact hg i (by omega) (by omega)
    · iexact H2

/-- Two adjacent bands are one. -/
theorem rows_join (a h₁ h₂ : ℕ) (f : ℕ → ℕ → Val e) :
    iprop(rows M c a h₁ f ∗ rows M c (a + h₁) h₂ f) ⊢ (rows M c a (h₁ + h₂) f : sProp 𝕄) := by
  have hu : rowSet M a (h₁ + h₂) = rowSet M a h₁ ∪ rowSet M (a + h₁) h₂ := by
    ext y
    rw [Finset.mem_union]
    constructor
    · intro hy
      obtain ⟨i, rfl, h1, h2⟩ := of_mem_rowSet hy
      rw [mem_rowSet, mem_rowSet]; omega
    · rintro (hy | hy) <;> obtain ⟨i, rfl, h1, h2⟩ := of_mem_rowSet hy <;> rw [mem_rowSet] <;> omega
  have hd : Disjoint (rowSet M a h₁) (rowSet M (a + h₁) h₂) := by
    rw [Finset.disjoint_left]
    intro y hy hy'
    obtain ⟨i, rfl, h1, h2⟩ := of_mem_rowSet hy
    rw [mem_rowSet] at hy'; omega
  unfold rows
  iintro ⟨⟨%g₁, %hg₁, H1⟩, ⟨%g₂, %hg₂, H2⟩⟩
  iexists (rowSet M (a + h₁) h₂).piecewise g₂ g₁
  isplitr
  · ipureintro
    intro i h1 h2
    by_cases hi : (i 0).val < a + h₁
    · rw [← hg₁ i h1 hi]
      unfold View.read
      rw [Finset.piecewise_eq_of_notMem _ _ _ (by rw [mem_rowSet]; omega)]
    · rw [← hg₂ i (by omega) (by omega)]
      unfold View.read
      rw [Finset.piecewise_eq_of_mem _ _ _ (by rw [mem_rowSet]; omega)]
  · rw [hu]
    iapply (pointsTo_join hd)
    isplitl [H1]
    · iexact H1
    · iexact H2

/-- A band's contents may be named by any function that agrees on it. -/
theorem rows_congr {a h : ℕ} {f f' : ℕ → ℕ → Val e} (hf : ∀ r k, a ≤ r → r < a + h → f r k = f' r k) :
    (rows M c a h f : sProp 𝕄) ⊢ rows M c a h f' := by
  unfold rows
  iintro ⟨%g, %hg, H⟩
  iexists g
  isplitr
  · ipureintro; intro i h1 h2; rw [hg i h1 h2, hf _ _ h1 h2]
  · iexact H

/-- A band renamed along equal numbers. -/
theorem rows_cast {a h a' h' : ℕ} {f : ℕ → ℕ → Val e} (ha : a = a') (hh : h = h') :
    (rows M c a h f : sProp 𝕄) ⊢ rows M c a' h' f := by subst ha hh; exact Entails.rfl

/-- All rows are all elements. -/
theorem rowSet_univ (hM : M.IsWhole) : rowSet M 0 n = Finset.univ := by
  have h := hM.set_eq_univ
  rw [← h]
  unfold rowSet View.set
  congr 1
  ext i
  simp only [Finset.mem_filter, Finset.mem_univ, true_and, iff_true]
  exact ⟨Nat.zero_le _, by have := (i 0).isLt; simpa using this⟩

/-- A whole buffer is the band of all its rows. -/
theorem rows_of_whole (hM : M.IsWhole) (g : Buf Val (M.view.loc (c : Thread nD τ))) (f : ℕ → ℕ → Val e)
    (hf : ∀ i, M.view.read Val g i = f (i 0).val (i 1).val) :
    (M.view.loc (c : Thread nD τ) ↦{fullShare} g : sProp 𝕄) ⊢ rows M c 0 n f := by
  unfold rows
  iintro H
  iexists g
  isplitr
  · ipureintro; intro i _ _; exact hf i
  · rw [rowSet_univ M hM]; iexact H

/-- The band of all the rows is the whole buffer. -/
theorem whole_of_rows (hM : M.IsWhole) (f : ℕ → ℕ → Val e) :
    (rows M c 0 n f : sProp 𝕄)
      ⊢ iprop(∃ g : Buf Val (M.view.loc (c : Thread nD τ)), ⌜∀ i : (S2 n w).Idx, M.view.read Val g i = f (i 0).val (i 1).val⌝
          ∗ (M.view.loc (c : Thread nD τ) ↦{fullShare} g)) := by
  unfold rows
  iintro ⟨%g, %hg, H⟩
  iexists g
  isplitr
  · ipureintro; intro i; exact hg i (Nat.zero_le _) (by have := (i 0).isLt; simpa using this)
  · rw [rowSet_univ M hM]; iexact H

section Slice
variable {off : Fin 2 → ℕ} {a h : ℕ} (hoff : off = ![a, 0])
include hoff

/-- Where the rectangle of the `h` rows from row `a` on puts its index `x`. -/
theorem rect_row (inb : ∀ k, off k + (S2 h w).size k ≤ (S2 n w).size k) (x : (S2 h w).Idx) :
    (((Rect.unit (s := S2 n w) off (S2 h w).size inb).emb x) 0).val = a + (x 0).val := by
  subst hoff; simp [Rect.emb_apply]

/-- The column of an element of the rectangle. -/
theorem rect_col (inb : ∀ k, off k + (S2 h w).size k ≤ (S2 n w).size k) (x : (S2 h w).Idx) :
    (((Rect.unit (s := S2 n w) off (S2 h w).size inb).emb x) 1).val = (x 1).val := by
  subst hoff; simp [Rect.emb_apply]

/-- Every element of the band is in the rectangle. -/
theorem exists_rect (inb : ∀ k, off k + (S2 h w).size k ≤ (S2 n w).size k) (i : (S2 n w).Idx)
    (h1 : a ≤ (i 0).val) (h2 : (i 0).val < a + h) :
    ∃ x : (S2 h w).Idx, (Rect.unit (s := S2 n w) off (S2 h w).size inb).emb x = i ∧ a + (x 0).val = (i 0).val ∧ (x 1).val = (i 1).val := by
  have hx : ∃ x : (S2 h w).Idx, a + (x 0).val = (i 0).val ∧ (x 1).val = (i 1).val :=
    ⟨Fin.cons ⟨(i 0).val - a, by simp; omega⟩ (Fin.cons ⟨(i 1).val, by have := (i 1).isLt; simpa using this⟩ finZeroElim),
      Nat.add_sub_of_le h1, rfl⟩
  obtain ⟨x, e0, e1⟩ := hx
  refine ⟨x, ?_, e0, e1⟩
  funext k
  apply Fin.ext
  match k with
  | 0 => rw [rect_row hoff inb x]; exact e0
  | 1 => rw [rect_col hoff inb x]; exact e1

/-- The elements of the rectangle are those of the band. -/
theorem set_slice_rows (inb : ∀ k, off k + (S2 h w).size k ≤ (S2 n w).size k) :
    (M.view.slice (Rect.unit (s := S2 n w) off (S2 h w).size inb)).set = rowSet M a h := by
  ext y
  constructor
  · intro hy
    obtain ⟨x, -, rfl⟩ := Finset.mem_map.mp hy
    rw [View.emb_slice, Function.Embedding.trans_apply, mem_rowSet, rect_row hoff inb x]
    have := (x 0).isLt
    simp at this; omega
  · intro hy
    obtain ⟨i, rfl, h1, h2⟩ := of_mem_rowSet hy
    obtain ⟨x, rfl, -⟩ := exists_rect hoff inb i h1 h2
    exact View.emb_mem_set _ x

/-- The slice of `M` over a band. -/
abbrev band (M : Memref sig .tc .vmem (S2 n w) e) (off : Fin 2 → ℕ) (h : ℕ)
    (inb : ∀ k, off k + (S2 h w).size k ≤ (S2 n w).size k) : Memref sig .tc .vmem (S2 h w) e :=
  M.slice (Rect.unit (s := S2 n w) off (S2 h w).size inb) (fun _ => rfl)

omit hoff in
/-- A band is its slice's elements, and the slice reads the band's contents. -/
theorem slice_of_rows (hoff : off = ![a, 0]) (inb : ∀ k, off k + (S2 h w).size k ≤ (S2 n w).size k) (f : ℕ → ℕ → Val e) :
    (rows M c a h f : sProp 𝕄)
      ⊢ iprop(∃ g : Buf Val ((band M off h inb).view.loc (c : Thread nD τ)), ⌜(band M off h inb).view.read Val g = vec h f a⌝
          ∗ ((band M off h inb).view.loc (c : Thread nD τ) ↦[(band M off h inb).view.set]{fullShare} g)) := by
  unfold rows
  iintro ⟨%g, %hg, H⟩
  iexists g
  isplitr
  · ipureintro
    funext x
    have h0 := rect_row hoff inb x
    have h1 := rect_col hoff inb x
    have hx := (x 0).isLt
    have := hg ((Rect.unit (s := S2 n w) off (S2 h w).size inb).emb x) (by omega) (by simp at hx; omega)
    rw [h0, h1] at this
    exact this
  · rw [show (band M off h inb).view.set = rowSet M a h from set_slice_rows M hoff inb]
    iexact H

omit hoff in
/-- The slice's elements, where it reads `f`, are the band holding `f`. -/
theorem rows_of_slice (hoff : off = ![a, 0]) (inb : ∀ k, off k + (S2 h w).size k ≤ (S2 n w).size k) (f : ℕ → ℕ → Val e)
    (g : Buf Val ((band M off h inb).view.loc (c : Thread nD τ)))
    (hg : (band M off h inb).view.read Val g = vec h f a) :
    ((band M off h inb).view.loc (c : Thread nD τ) ↦[(band M off h inb).view.set]{fullShare} g : sProp 𝕄)
      ⊢ rows M c a h f := by
  unfold rows
  iintro H
  iexists g
  isplitr
  · ipureintro
    intro i h1 h2
    obtain ⟨x, rfl, e0, e1⟩ := exists_rect hoff inb i h1 h2
    have := congrFun hg x
    rw [← e0, ← e1]
    exact this
  · rw [show (band M off h inb).view.set = rowSet M a h from set_slice_rows M hoff inb]
    iexact H

variable [Preorder Lvl] {defs : Defs nD τ sig Val Λ} (𝒱 : Variants) (bd : Option 𝒱.V) (E : Set Name)

omit hoff in
/-- Loading rows of a band held gives the band's contents there. -/
theorem wp_load_rows {α : Type} {Q : α → sProp 𝕄} {f : ℕ → ℕ → Val e} {b m : ℕ} (hoff : off = ![b, 0]) (hb : a ≤ b) (hm : b + m ≤ a + h)
    {inb : ∀ k, off k + (S2 m w).size k ≤ (S2 n w).size k}
    {hl : M.view.LoadsAt (Rect.unit (s := S2 n w) off (S2 m w).size inb).toLoadRect}
    {k : ((S2 m w).Idx → Val e) → Prog (TpuEff nD τ sig Val Λ (c : Thread nD τ).2) α} :
    (rows M c a h f : sProp 𝕄)
      ⊢ iprop((rows M c a h f -∗ wp frame (wpE defs 𝒱 (c : Thread nD τ) bd) E (k (vec m f b)) Q)
        -∗ wp frame (wpE defs 𝒱 (c : Thread nD τ) bd) E
            (.op (.load M (Rect.unit (s := S2 n w) off (S2 m w).size inb).toLoadRect hl) k) Q) := by
  unfold rows
  iintro ⟨%g, %hg, H⟩ K
  have hsub : M.view.setOn (Rect.unit (s := S2 n w) off (S2 m w).size inb).toLoadRect.set ⊆ rowSet M a h := by
    have h1 : M.view.setOn (Rect.unit (s := S2 n w) off (S2 m w).size inb).toLoadRect.set = rowSet M b m := by
      rw [← set_slice_rows M hoff inb, View.set_slice]; rfl
    rw [h1]
    intro y hy
    obtain ⟨i, rfl, h1, h2⟩ := of_mem_rowSet hy
    rw [mem_rowSet]; omega
  iapply (wp_load 𝒱 (c : Thread nD τ) bd E hsub) $$ H
  iintro H
  have hv : M.view.readAt Val (Rect.unit (s := S2 n w) off (S2 m w).size inb).toLoadRect g = vec m f b := by
    funext x
    have h0 := rect_row hoff inb x
    have h1 := rect_col hoff inb x
    have hx := (x 0).isLt
    have := hg ((Rect.unit (s := S2 n w) off (S2 m w).size inb).emb x) (by omega) (by simp at hx; omega)
    rw [h0, h1] at this
    exact this
  rw [hv]
  iapply K
  iexists g
  isplitr
  · ipureintro; exact hg
  · iexact H

omit hoff in
/-- Storing a whole band held. -/
theorem wp_store_rows {α : Type} {Q : α → sProp 𝕄} {f f' : ℕ → ℕ → Val e} (hoff : off = ![a, 0])
    {inb : ∀ k, off k + (S2 h w).size k ≤ (S2 n w).size k} {v : (S2 h w).Idx → Val e} (hv : v = vec h f' a)
    {hx : (M.access (Rect.unit (s := S2 n w) off (S2 h w).size inb)).Stores Finset.univ}
    {hm : (Finset.univ : Finset (S2 h w).Idx) = Finset.univ ∨ ∀ a, (Rect.unit (s := S2 n w) off (S2 h w).size inb).stride a = 1}
    {k : PUnit → Prog (TpuEff nD τ sig Val Λ (c : Thread nD τ).2) α} :
    (rows M c a h f : sProp 𝕄)
      ⊢ iprop((rows M c a h f' -∗ wp frame (wpE defs 𝒱 (c : Thread nD τ) bd) E (k ⟨⟩) Q)
        -∗ wp frame (wpE defs 𝒱 (c : Thread nD τ) bd) E
            (.op (.store M (Rect.unit (s := S2 n w) off (S2 h w).size inb) v Finset.univ hx hm) k) Q) := by
  iintro H K
  ihave H' := (slice_of_rows M c hoff inb f) $$ H
  icases H' with ⟨%g, -, H⟩
  iapply (wp_store 𝒱 (c : Thread nD τ) bd E (m := M) (View.setOn_subset_set _ _)) $$ H
  iintro H
  iapply K
  iapply (rows_of_slice M c hoff inb f' _ ?_) $$ H
  exact (View.read_write_univ _ _).trans hv

end Slice

end Cert.Bands
-- ==== Proof.IdealProto.lean ====
/-
# The protocol of the kernel

What each device's semaphore cells stand for, who pays onto them and what each payment hands over, and what the
buffers hold at each point: the contents of a stream's working buffer after `j` rounds are `V j s c`.
-/
module

public import proofs.«01_k».proof.Proof.Mesh
public import proofs.«01_k».proof.Proof.Rows
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Prf

open Cert.KernelIdeal Cert.KernelIdeal.Gen Cert.Bands Cert.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the kernel's own, whose duties are named by `Fin 4` -/

/-- The kernel's own part. -/
abbrev UB : Type := URounds (GSem nD τ sig) (Fin 4)
/-- Both parts. -/
abbrev UU : Type := UR sig nD τ × UB
local notation "𝕄" => MT nD τ sig Unit (Elt F) ℕ UU ℕ

/-- Where the pipeline's part sits. -/
abbrev EP : Emb (UR sig nD τ) (MT nD τ sig Unit (Elt F) ℕ UU ℕ) := embL
/-- Where the kernel's part sits. -/
abbrev ER : Emb UB (MT nD τ sig Unit (Elt F) ℕ UU ℕ) := embR
/-- No loop needs a variant. -/
abbrev 𝒱₀ : Variants := Variants.none

/-! ## Buffers -/

/-- The left operand. -/
abbrev xM : Memref sig .tc .vmem S1536x768 .bf16 := Memref.whole cc0_stg0_0
/-- The right operand. -/
abbrev yM : Memref sig .tc .vmem S768x1536 .bf16 := Memref.whole cc0_stg1_0
/-- The result. -/
abbrev oM : Memref sig .tc .vmem S1536x1536 .bf16 := Memref.whole cc0_stg2_0

/-- The width of each stream. -/
def wd (s : Fin 3) : ℕ :=
  match s with
  | 0 => 576
  | 1 => 512
  | 2 => 448

/-- The working buffer of each stream. -/
def wk (s : Fin 3) : Memref sig .tc .vmem (S2 1536 (wd s)) .bf16 :=
  match s with
  | 0 => (Memref.whole cc0_scratch0 : Memref sig .tc .vmem S1536x576 .bf16)
  | 1 => (Memref.whole cc0_scratch1 : Memref sig .tc .vmem S1536x512 .bf16)
  | 2 => (Memref.whole cc0_scratch2 : Memref sig .tc .vmem S1536x448 .bf16)

/-- The landing buffer of each stream. -/
def sg (s : Fin 3) : Memref sig .tc .vmem (S2 1440 (wd s)) .bf16 :=
  match s with
  | 0 => (Memref.whole cc0_scratch3 : Memref sig .tc .vmem S1440x576 .bf16)
  | 1 => (Memref.whole cc0_scratch4 : Memref sig .tc .vmem S1440x512 .bf16)
  | 2 => (Memref.whole cc0_scratch5 : Memref sig .tc .vmem S1440x448 .bf16)

/-- A working buffer is a whole buffer. -/
theorem wk_whole (s : Fin 3) : (wk s).IsWhole := by
  match s with
  | 0 => exact Memref.isWhole_whole _
  | 1 => exact Memref.isWhole_whole _
  | 2 => exact Memref.isWhole_whole _

/-- A landing buffer is a whole buffer. -/
theorem sg_whole (s : Fin 3) : (sg s).IsWhole := by
  match s with
  | 0 => exact Memref.isWhole_whole _
  | 1 => exact Memref.isWhole_whole _
  | 2 => exact Memref.isWhole_whole _

/-! ## Semaphores -/

/-- The barrier semaphore. -/
abbrev barS : Sem sig := (SemArray.scalar (sig.barrier 0 rfl) : Sems sig S_).sem

/-- The transfer semaphores: kinds 0 and 1 the sending and the receiving side of the first four rounds, kinds 2 and 3
    those of the last four; four of each kind for each stream. -/
def dsem (k : Fin 4) (s : Fin 3) (j : Fin 4) : DmaSem sig :=
  ⟨(3 + 12 * k.val + 4 * s.val + j.val : ℕ), by
    have := k.isLt; have := s.isLt; have := j.isLt
    show _ < 51
    omega⟩

/-- Which transfer semaphore one is; the windows' own are none. -/
def dec (q : DmaSem sig) : Option (Fin 4 × Fin 3 × Fin 4) :=
  if 3 ≤ q.val then
    some (⟨(q.val - 3) / 12 % 4, Nat.mod_lt _ (by decide)⟩, ⟨(q.val - 3) / 4 % 3, Nat.mod_lt _ (by decide)⟩,
      ⟨(q.val - 3) % 4, Nat.mod_lt _ (by decide)⟩)
  else none

/-- Each transfer semaphore is found again. -/
theorem dec_dsem (k : Fin 4) (s : Fin 3) (j : Fin 4) : dec (dsem k s j) = some (k, s, j) := by
  revert k s j; decide

/-- The cells of one device: its barrier and its forty-eight transfer semaphores. -/
abbrev CI : Type := Option (Fin 4 × Fin 3 × Fin 4)
/-- The semaphore of a cell. -/
abbrev csem (i : CI) : SemLoc sig :=
  match i with
  | none => .reg barS
  | some (k, s, j) => .dma (dsem k s j)
/-- The transfer semaphores by kind, stream and round. -/
abbrev osem (i : Fin 4 × Fin 3 × Fin 4) : SemLoc sig := .dma (dsem i.1 i.2.1 i.2.2)

/-- The barrier cell of a device. -/
abbrev barCell (c : Dev nD) : GSem nD τ sig := ((c : Thread nD τ), .reg barS)
/-- A transfer cell of a device. -/
abbrev dmaCell (k : Fin 4) (s : Fin 3) (j : Fin 4) (c : Dev nD) : GSem nD τ sig := ((c : Thread nD τ), .dma (dsem k s j))
/-- The cell of a device under a name. -/
abbrev kcell (ci : Dev nD × CI) : GSem nD τ sig := ((ci.1 : Thread nD τ), csem ci.2)

/-- Different names are different semaphores. -/
theorem csem_inj : Function.Injective csem := by
  rintro (_ | ⟨k, s, j⟩) (_ | ⟨k', s', j'⟩) h
  · rfl
  · cases h
  · cases h
  · have h' : dsem k s j = dsem k' s' j' := by injection h
    have := congrArg dec h'
    rwa [dec_dsem, dec_dsem] at this

/-- The credit of one transfer of round `j` of stream `s`. -/
def N (s : Fin 3) (j : Fin 4) : ℕ := sig.dmaCredit .tc (Kind.table .tc .vmem) (sg s).view.buf (S2 (96 * hh j) (wd s)) .bf16

/-- A transfer has positive credit. -/
theorem N_pos (s : Fin 3) (j : Fin 4) : 0 < N s j := by
  refine sig.dmaCredit_pos _ _ _ _ _ ?_
  revert s j; decide

/-- The round of the halving a transfer belongs to: the last four rounds undo the first four from the last one on. -/
def lvl (k : Fin 4) (j : Fin 4) : Fin 4 :=
  match k with
  | 0 => j
  | 1 => j
  | 2 => j.rev
  | 3 => j.rev

/-! ## Contents -/

section Values

variable (fa : (c : Dev nD) → Buf (Elt F) ((xM : Memref sig .tc .vmem S1536x768 .bf16).view.loc (c : Thread nD τ)))
  (fb : (c : Dev nD) → Buf (Elt F) ((yM : Memref sig .tc .vmem S768x1536 .bf16).view.loc (c : Thread nD τ)))

/-- The number that fills out tables outside their buffers. -/
def zero16 : Elt F .bf16 := Scalar.ofBits .bf16 0x0000#16

/-- The chunk of 96 rows of device `c`'s left operand from row `a` on. -/
abbrev ach (c : Dev nD) (a : ℕ) (h : ∀ k, (![a, 0] : Fin 2 → ℕ) k + S96x768.size k ≤ S1536x768.size k) : Vec F S96x768 .bf16 :=
  (xM : Memref sig .tc .vmem S1536x768 .bf16).view.readAt (Elt F) (Rect.unit (s := S1536x768) ![a, 0] S96x768.size h).toLoadRect (fa c)

/-- The three blocks of device `c`'s right operand. -/
abbrev bch0 (c : Dev nD) : Vec F S768x576 .bf16 :=
  (yM : Memref sig .tc .vmem S768x1536 .bf16).view.readAt (Elt F) (Rect.unit (s := S768x1536) ![0, 0] S768x576.size inb_S768x1536_S768x576_0_0).toLoadRect (fb c)
/-- The second block of the right operand. -/
abbrev bch1 (c : Dev nD) : Vec F S768x512 .bf16 :=
  (yM : Memref sig .tc .vmem S768x1536 .bf16).view.readAt (Elt F) (Rect.unit (s := S768x1536) ![0, 576] S768x512.size inb_S768x1536_S768x512_0_576).toLoadRect (fb c)
/-- The third block of the right operand. -/
abbrev bch2 (c : Dev nD) : Vec F S768x448 .bf16 :=
  (yM : Memref sig .tc .vmem S768x1536 .bf16).view.readAt (Elt F) (Rect.unit (s := S768x1536) ![0, 1088] S768x448.size inb_S768x1536_S768x448_0_1088).toLoadRect (fb c)

/-- What device `c` first stores in each working buffer: its own product, the chunks in the stream's order. -/
def prod0 (c : Dev nD) : FVec F S1536x576 .bf16 :=
  k0_pay5
        (k0_pay1 (ach fa c 0 inb_S1536x768_S96x768_0_0)) (k0_pay2 (ach fa c 768 inb_S1536x768_S96x768_768_0)) (k0_pay3 (ach fa c 384 inb_S1536x768_S96x768_384_0)) (k0_pay4 (ach fa c 1152 inb_S1536x768_S96x768_1152_0))
        (ach fa c 288 inb_S1536x768_S96x768_288_0) (ach fa c 1056 inb_S1536x768_S96x768_1056_0) (ach fa c 672 inb_S1536x768_S96x768_672_0) (ach fa c 1440 inb_S1536x768_S96x768_1440_0)
        (ach fa c 96 inb_S1536x768_S96x768_96_0) (ach fa c 864 inb_S1536x768_S96x768_864_0) (ach fa c 480 inb_S1536x768_S96x768_480_0) (ach fa c 1248 inb_S1536x768_S96x768_1248_0)
        (ach fa c 192 inb_S1536x768_S96x768_192_0) (ach fa c 960 inb_S1536x768_S96x768_960_0) (ach fa c 576 inb_S1536x768_S96x768_576_0) (ach fa c 1344 inb_S1536x768_S96x768_1344_0)
        (bch0 fb c)
/-- The product stored in the second working buffer. -/
def prod1 (c : Dev nD) : FVec F S1536x512 .bf16 :=
  k0_pay11
        (k0_pay6 (ach fa c 0 inb_S1536x768_S96x768_0_0)) (k0_pay7 (ach fa c 384 inb_S1536x768_S96x768_384_0)) (k0_pay8 (ach fa c 768 inb_S1536x768_S96x768_768_0)) (k0_pay9 (ach fa c 1152 inb_S1536x768_S96x768_1152_0))
        (k0_pay10 (ach fa c 96 inb_S1536x768_S96x768_96_0)) (ach fa c 480 inb_S1536x768_S96x768_480_0) (ach fa c 864 inb_S1536x768_S96x768_864_0) (ach fa c 1248 inb_S1536x768_S96x768_1248_0)
        (ach fa c 288 inb_S1536x768_S96x768_288_0) (ach fa c 672 inb_S1536x768_S96x768_672_0) (ach fa c 1056 inb_S1536x768_S96x768_1056_0) (ach fa c 1440 inb_S1536x768_S96x768_1440_0)
        (ach fa c 192 inb_S1536x768_S96x768_192_0) (ach fa c 576 inb_S1536x768_S96x768_576_0) (ach fa c 960 inb_S1536x768_S96x768_960_0) (ach fa c 1344 inb_S1536x768_S96x768_1344_0)
        (bch1 fb c)
/-- The product stored in the third working buffer. -/
def prod2 (c : Dev nD) : FVec F S1536x448 .bf16 :=
  k0_pay19
        (k0_pay12 (ach fa c 0 inb_S1536x768_S96x768_0_0)) (k0_pay13 (ach fa c 288 inb_S1536x768_S96x768_288_0)) (k0_pay14 (ach fa c 96 inb_S1536x768_S96x768_96_0)) (k0_pay15 (ach fa c 192 inb_S1536x768_S96x768_192_0))
        (k0_pay16 (ach fa c 768 inb_S1536x768_S96x768_768_0)) (k0_pay17 (ach fa c 1056 inb_S1536x768_S96x768_1056_0)) (k0_pay18 (ach fa c 864 inb_S1536x768_S96x768_864_0)) (ach fa c 960 inb_S1536x768_S96x768_960_0)
        (ach fa c 384 inb_S1536x768_S96x768_384_0) (ach fa c 672 inb_S1536x768_S96x768_672_0) (ach fa c 480 inb_S1536x768_S96x768_480_0) (ach fa c 576 inb_S1536x768_S96x768_576_0)
        (ach fa c 1152 inb_S1536x768_S96x768_1152_0) (ach fa c 1440 inb_S1536x768_S96x768_1440_0) (ach fa c 1248 inb_S1536x768_S96x768_1248_0) (ach fa c 1344 inb_S1536x768_S96x768_1344_0)
        (bch2 fb c)

/-- The products as functions of row and column. -/
def V0 (s : Fin 3) (c : Dev nD) : ℕ → ℕ → Elt F .bf16 :=
  match s with
  | 0 => tab (n := 1536) (w := 576) zero16 (prod0 fa fb c)
  | 1 => tab (n := 1536) (w := 512) zero16 (prod1 fa fb c)
  | 2 => tab (n := 1536) (w := 448) zero16 (prod2 fa fb c)

/-- The sum of two entries. -/
def add16 (x y : Elt F .bf16) : Elt F .bf16 := FloatOps.addf (F := F) (φ := .bf16) x y

/-- Stream `s`'s working buffer on device `c` after `j` rounds of adding the peer's, as if every device kept every chunk. -/
def V : ℕ → Fin 3 → Dev nD → ℕ → ℕ → Elt F .bf16
  | 0, s, c => V0 fa fb s c
  | j + 1, s, c => fun r k => add16 (V j s c r k) (V j s (pe s ⟨j % 4, Nat.mod_lt _ (by decide)⟩ c) r k)

/-- The activation of one entry, computed at 32 bits. -/
def act (x : Elt F .bf16) : Elt F .bf16 :=
  let y : F .f32 := FloatOps.extf (F := F) (φ := .bf16) .f32 (by decide) x
  FloatOps.truncf (F := F) (φ := .f32) .bf16 (by decide)
    (FloatOps.divf y (FloatOps.addf (Scalar.ofBits .f32 0x3F800000#32) (FloatOps.exp (FloatOps.subf (Scalar.ofBits .f32 0x00000000#32) y))))

/-- What every device's working buffer of stream `s` holds at the end: each chunk as its owner computed it. -/
def Fn (s : Fin 3) : ℕ → ℕ → Elt F .bf16 := fun r k => act (V fa fb 4 s (own s (r / 96)) r k)

/-- What the landing band of round `j` holds on device `c` once its peer's transfer has landed. -/
def Ld (s : Fin 3) (j : Fin 4) (c : Dev nD) : ℕ → ℕ → Elt F .bf16 :=
  fun r k => V fa fb j.val s (pe s j c) (96 * kp s j c + (r - 96 * so j)) k

/-! ## The schedule -/

/-- A band with any contents. -/
def anyRows {n w : ℕ} (M : Memref sig .tc .vmem (S2 n w) .bf16) (c : Dev nD) (a h : ℕ) : sProp 𝕄 := iprop(∃ f, rows M c a h f)

/-- Such a band may be kept in an invariant. -/
instance anyRows_storable {n w : ℕ} (M : Memref sig .tc .vmem (S2 n w) .bf16) (c : Dev nD) (a h : ℕ) :
    BI.Storable (upEmb : UEmb _ 𝕄) (anyRows (F := F) M c a h) := by unfold anyRows; infer_instance

/-- The bands of the three landing buffers of device `c` that its neighbour in direction `k` sends to. -/
def lands (k : Fin 4) (c : Dev nD) : sProp 𝕄 :=
  iprop(anyRows (sg 0) c (96 * so (rnd 0 k)) (96 * hh (rnd 0 k)) ∗ anyRows (sg 1) c (96 * so (rnd 1 k)) (96 * hh (rnd 1 k))
    ∗ anyRows (sg 2) c (96 * so (rnd 2 k)) (96 * hh (rnd 2 k)))

/-- So may the landing bands. -/
instance lands_storable (k : Fin 4) (c : Dev nD) : BI.Storable (upEmb : UEmb _ 𝕄) (lands (F := F) k c) := by
  unfold lands; infer_instance

/-- What a completed transfer hands device `c`. The sending side of the first four rounds hands nothing; the receiving
    side the landing band with the peer's contents, and the band of the peer's working buffer the contents came from,
    which `c` later sends to. In the last four rounds the sending side gives back the band sent, and the receiving side
    the band received, both final. -/
def pay (i : Fin 4 × Fin 3 × Fin 4) (c : Dev nD) : sProp 𝕄 :=
  match i with
  | (0, s, j) => iprop(emp)
  | (1, s, j) => iprop(rows (sg s) c (96 * so j) (96 * hh j) (Ld fa fb s j c)
      ∗ anyRows (wk s) (pe s j c) (96 * kp s j c) (96 * hh j))
  | (2, s, j) => rows (wk s) c (96 * kp s j.rev c) (96 * hh j.rev) (Fn fa fb s)
  | (3, s, j) => rows (wk s) c (96 * sd s j.rev c) (96 * hh j.rev) (Fn fa fb s)

/-- So may what a transfer hands over. -/
instance pay_storable (i : Fin 4 × Fin 3 × Fin 4) (c : Dev nD) : BI.Storable (upEmb : UEmb _ 𝕄) (pay (F := F) fa fb i c) := by
  obtain ⟨k, s, j⟩ := i
  match k with
  | 0 => show BI.Storable _ iprop(emp); infer_instance
  | 1 => show BI.Storable _ iprop(_ ∗ _); infer_instance
  | 2 => show BI.Storable _ (rows _ _ _ _ _); infer_instance
  | 3 => show BI.Storable _ (rows _ _ _ _ _); infer_instance

/-- One round. A barrier cell has four duties of one unit, one for each neighbour, which hands over its landing bands;
    a transfer cell one duty of the transfer's credit. -/
def rd : Rounds.Schedule (GSem nD τ sig) (Fin 4) 𝕄 where
  duties g r := if r = 0 ∧ g.1.2 = .tc then
      (match g.2 with
        | .reg _ => Finset.univ
        | .dma q => if (dec q).isSome then {0} else ∅)
    else ∅
  unitless _ := False
  amount g _ _ := match g.2 with
    | .reg _ => 1
    | .dma q => match dec q with
      | some i => N i.2.1 (lvl i.1 i.2.2)
      | none => 1
  payload g _ d := match g.2 with
    | .reg _ => lands d (pr d g.1.1)
    | .dma q => match dec q with
      | some i => pay fa fb i g.1.1
      | none => iprop(emp)
  amount_pos g _ _ _ := by
    obtain ⟨t, sm⟩ := g
    cases sm with
    | reg _ => exact Nat.one_pos
    | dma q =>
      show 0 < (match dec q with
        | some i => N i.2.1 (lvl i.1 i.2.2)
        | none => 1)
      cases dec q with
      | none => exact Nat.one_pos
      | some i => exact N_pos _ _

/-- So may every payload. -/
instance rd_payload_storable (g : GSem nD τ sig) (r : ℕ) (d : Fin 4) :
    BI.Storable (upEmb : UEmb _ 𝕄) ((rd (F := F) fa fb).payload g r d) := by
  obtain ⟨t, sm⟩ := g
  cases sm with
  | reg _ => show BI.Storable _ (lands d _); infer_instance
  | dma q =>
    show BI.Storable _ (match dec q with
      | some i => pay fa fb i t.1
      | none => iprop(emp))
    cases dec q with
    | none => show BI.Storable _ iprop(emp); infer_instance
    | some i => show BI.Storable _ (pay _ _ _ _); infer_instance

section Sched
variable (c : Dev nD) (k : Fin 4) (s : Fin 3) (j : Fin 4)

/-- The duties of a barrier cell. -/
theorem duties_bar : (rd (F := F) fa fb).duties (barCell c) 0 = Finset.univ := by dsimp only [rd]; exact if_pos ⟨rfl, rfl⟩
/-- The duty of a transfer cell. -/
theorem duties_dma : (rd (F := F) fa fb).duties (dmaCell k s j c) 0 = {0} := by
  dsimp only [rd]; rw [if_pos ⟨rfl, rfl⟩, dec_dsem]; rfl
/-- There are no later rounds. -/
theorem duties_later (g : GSem nD τ sig) : ∀ r, 1 ≤ r → (rd (F := F) fa fb).duties g r = ∅ :=
  fun r hr => by dsimp only [rd]; rw [if_neg fun h => by omega]
/-- A barrier payment is one unit. -/
theorem amount_bar (d : Fin 4) : (rd (F := F) fa fb).amount (barCell c) 0 d = 1 := rfl
/-- A transfer pays its credit. -/
theorem amount_dma (d : Fin 4) : (rd (F := F) fa fb).amount (dmaCell k s j c) 0 d = N s (lvl k j) := by
  dsimp only [rd]; rw [dec_dsem]
/-- The barrier waits for four units. -/
theorem expect_bar : (rd (F := F) fa fb).expect (barCell c) 0 = 4 := by
  unfold Schedule.expect Schedule.amountOf
  rw [duties_bar, Finset.sum_congr rfl fun d _ => amount_bar fa fb c d]; rfl
/-- A transfer cell waits for the transfer's credit. -/
theorem expect_dma : (rd (F := F) fa fb).expect (dmaCell k s j c) 0 = N s (lvl k j) := by
  unfold Schedule.expect Schedule.amountOf; rw [duties_dma, Finset.sum_singleton, amount_dma]
/-- A barrier payment hands over the payer's landing bands. -/
theorem payload_bar (d : Fin 4) : (rd (F := F) fa fb).payload (barCell c) 0 d = lands d (pr d c) := rfl
/-- What a transfer hands over. -/
theorem payload_dma (d : Fin 4) : (rd (F := F) fa fb).payload (dmaCell k s j c) 0 d = pay fa fb (k, s, j) c := by
  dsimp only [rd]; rw [dec_dsem]
/-- What the barrier's round hands over: every neighbour's landing bands. -/
theorem rest_bar : bigSep ((rd (F := F) fa fb).duties (barCell c) 0 \ ∅) (fun d => (rd (F := F) fa fb).payload (barCell c) 0 d)
    = iprop(lands 0 (pr 0 c) ∗ lands 1 (pr 1 c) ∗ lands 2 (pr 2 c) ∗ lands 3 (pr 3 c)) := by
  rw [Finset.sdiff_empty, duties_bar, bigSep_univ_eq_bigSepL [0, 1, 2, 3] (by decide) (by decide), bigSepL_cons_cons, bigSepL_cons_cons,
    bigSepL_cons_cons, bigSepL_singleton]
  rfl
/-- What a transfer cell's round hands over. -/
theorem rest_dma : bigSep ((rd (F := F) fa fb).duties (dmaCell k s j c) 0 \ ∅) (fun d => (rd (F := F) fa fb).payload (dmaCell k s j c) 0 d)
    = pay fa fb (k, s, j) c := by
  rw [Finset.sdiff_empty, duties_dma, bigSep_singleton, payload_dma]

end Sched

end Values

/-! ## What a device owes, and the levels -/

/-- The payments a device makes onto other devices' cells: its barrier signals, and its transfers of the two phases. -/
inductive It where
  | bar (k : Fin 4)
  | rs (s : Fin 3) (j : Fin 4)
  | ag (s : Fin 3) (j : Fin 4)
deriving DecidableEq

/-- The cell a payment goes to. -/
def tgt (c : Dev nD) : It → GSem nD τ sig
  | .bar k => barCell (pr k c)
  | .rs s j => dmaCell 1 s j (pe s j c)
  | .ag s j => dmaCell 3 s j (pe s j.rev c)

/-- The units of a payment. -/
def amt : It → ℕ
  | .bar _ => 1
  | .rs s j => N s j
  | .ag s j => N s j.rev

/-- The level of the cell a payment goes to. -/
def ilv : It → ℕ
  | .bar _ => 1
  | .rs _ j => 2 + j.val
  | .ag _ j => 6 + j.val

/-- What is owed on the payments `l`, the first one summed last. -/
def tl (c : Dev nD) : List It → CellTallies nD τ sig Unit
  | [] => 0
  | i :: l => tl c l + tallyAt (tgt c i) () (amt i)

/-- All the payments of a device, in program order. -/
abbrev pays : List It :=
  [.bar 0, .bar 1, .bar 2, .bar 3,
   .rs 0 0, .rs 1 0, .rs 2 0, .rs 2 1, .rs 1 1, .rs 0 1, .rs 1 2, .rs 0 2, .rs 2 2, .rs 2 3, .rs 0 3, .rs 1 3,
   .ag 2 0, .ag 1 0, .ag 0 0, .ag 2 1, .ag 1 1, .ag 0 1, .ag 2 2, .ag 0 2, .ag 1 2, .ag 1 3, .ag 0 3, .ag 2 3]

/-- Only the cells of tensor cores are in use. -/
def L (g : GSem nD τ sig) : Finset Unit := if g.1.2 = .tc then {()} else ∅
/-- Barrier cells at 1, the receiving cells above in the order of the rounds, everything else at 0. -/
def lv (g : GSem nD τ sig) (_ : Unit) : ℕ :=
  match g.2 with
  | .reg _ => 1
  | .dma q => match dec q with
    | some (1, _, j) => 2 + j.val
    | some (3, _, j) => 6 + j.val
    | _ => 0

/-- No other thread has a cell in use. -/
theorem L_of_ne (g : GSem nD τ sig) (h : g.1.2 ≠ .tc) : L g = ∅ := if_neg h
/-- Every cell of a tensor core is in use. -/
theorem L_tc (c : Dev nD) (sm : SemLoc sig) : L ((c : Thread nD τ), sm) = {()} := if_pos rfl

/-- The level of one cell of a device. -/
def clv (k j : Fin 4) : ℕ :=
  match k with
  | 0 => 0
  | 1 => 2 + j.val
  | 2 => 0
  | 3 => 6 + j.val

/-- The level of a transfer cell. -/
theorem lv_dma (k : Fin 4) (s : Fin 3) (j : Fin 4) (c : Dev nD) (u : Unit) : lv (dmaCell k s j c) u = clv k j := by
  unfold lv clv; dsimp only; rw [dec_dsem]
  match k with
  | 0 => rfl
  | 1 => rfl
  | 2 => rfl
  | 3 => rfl

/-- The level of the cell a payment goes to. -/
theorem lv_tgt (c : Dev nD) (i : It) (u : Unit) : lv (tgt c i) u = ilv i := by
  cases i with
  | bar k => rfl
  | rs s j => exact lv_dma 1 s j _ u
  | ag s j => exact lv_dma 3 s j _ u

/-- A payment goes to a cell in use. -/
theorem tgt_tc (c : Dev nD) (i : It) : L (tgt c i) = {()} := by
  cases i <;> exact L_tc _ _

/-- Whatever is owed is owed on one of the payments. -/
theorem tl_pos {c : Dev nD} {l : List It} {g : GSem nD τ sig} {u : Unit} (h : 0 < tl c l g u) : ∃ i ∈ l, g = tgt c i := by
  induction l with
  | nil => exact absurd h (Nat.lt_irrefl 0)
  | cons i l ih =>
    unfold tl at h
    rw [Pi.add_apply, Finsupp.add_apply, tallyAt_apply] at h
    by_cases hg : g = tgt c i ∧ u = ()
    · exact ⟨i, List.mem_cons_self, hg.1⟩
    · rw [if_neg hg, Nat.add_zero] at h
      obtain ⟨i', hi', e⟩ := ih h
      exact ⟨i', List.mem_cons_of_mem _ hi', e⟩

/-- A device may wait at a cell below everything it still owes. -/
theorem mayWait {b : ℕ} (c : Dev nD) (sm : SemLoc sig) (l : List It) (hb : lv ((c : Thread nD τ), sm) () ≤ b) (hl : ∀ i ∈ l, b < ilv i) :
    (levAts L lv : sProp 𝕄) ⊢ MayWait (c : Thread nD τ) sm () (tl c l) :=
  MayOwe.of_cut (L := L) (lev := lv) b (fun p hp => by rw [Finset.mem_singleton.mp hp, L_tc]; exact Finset.mem_singleton_self _)
    (fun g u hg => by obtain ⟨i, -, rfl⟩ := tl_pos hg; rw [tgt_tc]; exact Finset.mem_singleton_self _)
    (fun p hp => by rw [Finset.mem_singleton.mp hp]; exact hb)
    (fun g u hg => by obtain ⟨i, hi, rfl⟩ := tl_pos hg; rw [lv_tgt]; exact hl i hi)

/-- What device `c` owes, whatever it has already waited on. -/
def ow (c : Dev nD) (l : List It) : sProp 𝕄 := iprop(∃ W, owes (c : Thread nD τ) (tl c l) W)

/-! ## The ghost state of a device -/

section Ghost

variable (fa : (c : Dev nD) → Buf (Elt F) ((xM : Memref sig .tc .vmem S1536x768 .bf16).view.loc (c : Thread nD τ)))
  (fb : (c : Dev nD) → Buf (Elt F) ((yM : Memref sig .tc .vmem S768x1536 .bf16).view.loc (c : Thread nD τ)))
variable (K : Dev nD × CI → ℕ)

/-- Every cell's invariant, that every cell is at round 0, and the levels. -/
def records : sProp 𝕄 :=
  iprop((bigSep Finset.univ fun ci : Dev nD × CI => cellInv ER (rd fa fb) (K ci) (kcell ci))
    ∗ (bigSep Finset.univ fun ci : Dev nD × CI => reached ER (kcell ci) 0) ∗ levAts L lv)

/-- These are facts, not resources. -/
instance records_persistent : BI.Persistent (records (F := F) fa fb K) := by unfold records; infer_instance

/-- One cell's invariant. -/
theorem records_inv (ci : Dev nD × CI) : records (F := F) fa fb K ⊢ cellInv ER (rd fa fb) (K ci) (kcell ci) := by
  unfold records
  exact sep_elim_left.trans (bigSep_elim (Finset.mem_univ ci))

/-- One cell is at round 0. -/
theorem records_reached (ci : Dev nD × CI) : records (F := F) fa fb K ⊢ reached ER (kcell ci) 0 := by
  unfold records
  exact sep_elim_right.trans (sep_elim_left.trans (bigSep_elim (Finset.mem_univ ci)))

end Ghost

end Cert.KernelIdeal.Prf
-- ==== Proof.IdealSteps.lean ====
/-
# The steps of the protocol

One lemma for each kind of step the kernel takes: a barrier signal, the barrier wait, a transfer of either phase, a wait
on a transfer's cell. Each is stated at any stream and round.
-/
module

public import proofs.«01_k».proof.Proof.IdealProto

@[expose] public section

noncomputable section

namespace Cert.KernelIdeal.Prf

open Cert.KernelIdeal Cert.KernelIdeal.Gen Cert.Bands Cert.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (fa : (c : Dev nD) → Buf (Elt F) ((xM : Memref sig .tc .vmem S1536x768 .bf16).view.loc (c : Thread nD τ)))
  (fb : (c : Dev nD) → Buf (Elt F) ((yM : Memref sig .tc .vmem S768x1536 .bf16).view.loc (c : Thread nD τ)))
variable (K : Dev nD × CI → ℕ)

/-- The weakest precondition on device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- A device may wait at its barrier cell once only transfers are owed. -/
theorem bar_mayWait (c : Dev nD) (l : List It) (hl : ∀ i ∈ l, 1 < ilv i) :
    records fa fb K ⊢ MayWait (c : Thread nD τ) (.reg barS) () (tl c l) :=
by
  unfold records
  exact sep_elim_right.trans (sep_elim_right.trans (mayWait (F := F) c (.reg barS) l (b := 1) (le_refl 1) hl))

/-- A device may wait at a transfer's cell below everything it still owes. -/
theorem dma_mayWait (k : Fin 4) (s : Fin 3) (j : Fin 4) (c : Dev nD) (l : List It) (hl : ∀ i ∈ l, clv k j < ilv i) :
    records fa fb K ⊢ MayWait (c : Thread nD τ) (.dma (dsem k s j)) () (tl c l) :=
by
  unfold records
  exact sep_elim_right.trans (sep_elim_right.trans (mayWait (F := F) c (.dma (dsem k s j)) l (b := clv k j) (le_of_eq (lv_dma k s j c ())) hl))

/-- A signal to the neighbour in direction `k`: it takes the bands the neighbour sends to. -/
theorem wp_bar_signal (k : Fin 4) (c n : Dev nD) (hn : n = pr k c) {l : List It} {v : ℕ} (hv : v = 1)
    {α : Type} {Q : α → sProp 𝕄} {kt : PUnit → Prog (TpuEff nD τ sig (Elt F) Λ₀ .tc) α} :
    iprop(records fa fb K ∗ dutyTok ER (barCell (pr k c)) 0 k ∗ lands k c ∗ ow c (.bar k :: l))
      ⊢ iprop((ow c l -∗ WP c (kt ⟨⟩) Q) -∗ WP c (.op (.semSignal (n : Thread nD τ) barS v) kt) Q) := by
  subst hn hv
  iintro ⟨#HR, Ht, Hl, HO⟩ Hk
  unfold ow
  icases HO with ⟨%W, HO⟩
  iapply (Rounds.wp_signal 𝒱₀ ER (rd fa fb) (c : Thread nD τ) none (dst := ((pr k c : Dev nD) : Thread nD τ)) (κ := K (pr k c, none))
      (d := k) (by rw [duties_bar]; exact Finset.mem_univ _) (amount_bar fa fb (pr k c) k) () (tl c l) rfl) $$ [HO Ht Hl]
  · isplitr; · iapply (records_inv fa fb K (pr k c, none)); iexact HR
    isplitl [HO]; · iexact HO
    isplitl [Ht]; · iexact Ht
    isplitl [Hl]
    · rw [payload_bar, pr_pr]; iexact Hl
    · iapply (records_reached fa fb K (pr k c, none)); iexact HR
  iintro HO
  iapply Hk
  iexists W
  iexact HO

/-- The barrier wait: every neighbour's landing bands, and the barrier cell at zero again. -/
theorem wp_bar_wait (c : Dev nD) {l : List It} {v : ℕ} (hv : v = 4) (hl : ∀ i ∈ l, 1 < ilv i)
    {α : Type} {Q : α → sProp 𝕄} {kt : PUnit → Prog (TpuEff nD τ sig (Elt F) Λ₀ .tc) α} :
    iprop(records fa fb K ∗ cred (tallyAt (barCell c) () 4) ∗ atPos ER (barCell c) 0 ∅ 0 ∗ ow c l)
      ⊢ iprop(((ow c l ∗ semVal (barCell c) 0 ∗ lands 0 (pr 0 c) ∗ lands 1 (pr 1 c) ∗ lands 2 (pr 2 c) ∗ lands 3 (pr 3 c)) -∗ WP c (kt ⟨⟩) Q)
        -∗ WP c (.op (.semWait barS v) kt) Q) := by
  subst hv
  iintro ⟨#HR, Hc, Hat, HO⟩ Hk
  unfold ow
  icases HO with ⟨%W, HO⟩
  iapply (Rounds.wp_wait_rest_token 𝒱₀ ER (rd fa fb) (c : Thread nD τ) none (κ := K (c, none))
      (wpE_semWait_eq 𝒱₀ (c : Thread nD τ) none Set.univ) (Set.mem_univ _) () (O := tl c l) (W := W) (R := 0) (m := 0) (T := ∅)
      (by rw [expect_bar])) $$ [Hc HO Hat]
  · isplitr; · iapply (records_inv fa fb K (c, none)); iexact HR
    isplitl [Hc]; · iexact Hc
    isplitl [HO]; · iexact HO
    isplitr; · iapply (bar_mayWait fa fb K c l hl); iexact HR
    iexact Hat
  iintro ⟨HO, Hat, -, Hp⟩
  ihave Hp := (Entails.of_eq (rest_bar fa fb c)) $$ Hp
  imod (Rounds.cell_close ER (rd fa fb) (Set.mem_univ (K (c, none))) (fun h => h) (R := 0 + 1) (duties_later fa fb (barCell c))) $$ [Hat] with Hz
  · isplitr; · iapply (records_inv fa fb K (c, none)); iexact HR
    iexact Hat
  iapply Hk
  isplitl [HO]; · iexists _; iexact HO
  isplitl [Hz]; · iexact Hz
  iexact Hp

/-- A wait on a transfer's cell: what the transfer hands over, and the cell at zero again. -/
theorem wp_dma_wait (k : Fin 4) (s : Fin 3) (j : Fin 4) (c : Dev nD) {l : List It} {q : DmaSem sig} (hq : q = dsem k s j)
    {sp sp' : Space} {s₁ s₂ : Shape} {e₁ e₂ : EltTy} {src : Memref sig .tc sp s₁ e₁} {dst : Memref sig .tc sp' s₂ e₂}
    (hN : dst.view.dmaCredit = N s (lvl k j)) (hl : ∀ i ∈ l, clv k j < ilv i)
    {h₁ : src.view.WordExact} {h₂ : dst.view.WordExact}
    {α : Type} {Q : α → sProp 𝕄} {kt : PUnit → Prog (TpuEff nD τ sig (Elt F) Λ₀ .tc) α} :
    iprop(records fa fb K ∗ cred (tallyAt (dmaCell k s j c) () (N s (lvl k j))) ∗ atPos ER (dmaCell k s j c) 0 ∅ 0 ∗ ow c l)
      ⊢ iprop(((ow c l ∗ semVal (dmaCell k s j c) 0 ∗ pay fa fb (k, s, j) c) -∗ WP c (kt ⟨⟩) Q)
        -∗ WP c (.op (.waitDma2 q src dst h₁ h₂) kt) Q) := by
  subst hq
  iintro ⟨#HR, Hc, Hat, HO⟩ Hk
  unfold ow
  icases HO with ⟨%W, HO⟩
  iapply (Rounds.wp_wait_rest_token 𝒱₀ ER (rd fa fb) (c : Thread nD τ) none (κ := K (c, some (k, s, j)))
      (wpE_waitDma2_eq 𝒱₀ (c : Thread nD τ) none Set.univ) (Set.mem_univ _) () (O := tl c l) (W := W) (R := 0) (m := 0) (T := ∅)
      (by rw [Nat.zero_add, expect_dma, hN])) $$ [Hc HO Hat]
  · isplitr; · iapply (records_inv fa fb K (c, some (k, s, j))); iexact HR
    isplitl [Hc]; · rw [hN]; iexact Hc
    isplitl [HO]; · iexact HO
    isplitr
    · iapply (dma_mayWait fa fb K k s j c l hl); iexact HR
    iexact Hat
  iintro ⟨HO, Hat, -, Hp⟩
  ihave Hp := (Entails.of_eq (rest_dma fa fb c k s j)) $$ Hp
  imod (Rounds.cell_close ER (rd fa fb) (Set.mem_univ (K (c, some (k, s, j)))) (fun h => h) (R := 0 + 1) (duties_later fa fb (dmaCell k s j c))) $$ [Hat] with Hz
  · isplitr; · iapply (records_inv fa fb K (c, some (k, s, j))); iexact HR
    iexact Hat
  iapply Hk
  isplitl [HO]; · iexists _; iexact HO
  isplitl [Hz]; · iexact Hz
  iexact Hp

/-- A transfer of the first phase: the band sent goes to the peer with its landing band. -/
theorem wp_start_rs (s : Fin 3) (j : Fin 4) (c n : Dev nD) (hn : n = pe s j c) {l : List It}
    {os od : Fin 2 → ℕ} (hos : os = ![96 * sd s j c, 0]) (hod : od = ![96 * so j, 0])
    {is : ∀ k, os k + (S2 (96 * hh j) (wd s)).size k ≤ (S2 1536 (wd s)).size k}
    {id : ∀ k, od k + (S2 (96 * hh j) (wd s)).size k ≤ (S2 1440 (wd s)).size k}
    {qs qr : DmaSem sig} (hqs : qs = dsem 0 s j) (hqr : qr = dsem 1 s j)
    {hsc : (band (sg s) od (96 * hh j) id : Memref sig (Dev.tc n : Thread nD τ).2.kind .vmem _ .bf16).view.ref.isScScratch = false}
    {hsrc : (band (wk s) os (96 * hh j) is).view.WordExact} {hdst : (band (sg s) od (96 * hh j) id).view.WordExact}
    {hsem : DmaTarget.Typed .vmem (.dma qr) (.remote (Dev.tc n : Thread nD τ) (band (sg s) od (96 * hh j) id) (.dma qs) hsc)}
    {α : Type} {Q : α → sProp 𝕄} {kt : PUnit → Prog (TpuEff nD τ sig (Elt F) Λ₀ .tc) α} :
    iprop(records fa fb K ∗ dutyTok ER (dmaCell 0 s j c) 0 0 ∗ dutyTok ER (dmaCell 1 s j (pe s j c)) 0 0
        ∗ rows (wk s) c (96 * sd s j c) (96 * hh j) (V fa fb j.val s c)
        ∗ anyRows (sg s) (pe s j c) (96 * so j) (96 * hh j) ∗ ow c (.rs s j :: l))
      ⊢ iprop(((cred (tallyAt (dmaCell 0 s j c) () (N s j)) ∗ ow c l) -∗ WP c (kt ⟨⟩) Q)
        -∗ WP c (.op (.enqueueDma (band (wk s) os (96 * hh j) is)
            (.remote (Dev.tc n : Thread nD τ) (band (sg s) od (96 * hh j) id) (.dma qs) hsc) (.dma qr) hsrc hdst hsem) kt) Q) := by
  subst hn hqs hqr
  iintro ⟨#HR, Ht, Ht', Hs, Hd, HO⟩ Hk
  unfold ow anyRows
  icases HO with ⟨%W, HO⟩
  icases Hd with ⟨%fd, Hd⟩
  ihave Hs' := (slice_of_rows (wk s) c hos is _) $$ Hs
  icases Hs' with ⟨%gs, %hgs, Hs⟩
  ihave Hd' := (slice_of_rows (sg s) (pe s j c) hod id _) $$ Hd
  icases Hd' with ⟨%gd, -, Hd⟩
  iapply (Rounds.wp_send_landing_pointsTo 𝒱₀ ER (rd fa fb) (c : Thread nD τ) none
      (c' := ((pe s j c : Dev nD) : Thread nD τ)) (src := band (wk s) os (96 * hh j) is) (dst := band (sg s) od (96 * hh j) id)
      (sS := .dma (dsem 0 s j)) (sem := .dma (dsem 1 s j)) (fs := gs) (fd := gd)
      (κ₁ := K (c, some (0, s, j))) (κ₂ := K (pe s j c, some (1, s, j))) (r₁ := 0) (r₂ := 0) (d₁ := 0) (d₂ := 0)
      (by rw [duties_dma]; exact Finset.mem_singleton_self _) (by rw [duties_dma]; exact Finset.mem_singleton_self _)
      () () (N s j) rfl (amount_dma fa fb c 0 s j 0) (amount_dma fa fb (pe s j c) 1 s j 0) (tl c l) rfl (W := W)
      (by rw [payload_dma]; exact Entails.rfl) ?_) $$ [Hs Hd HO Ht Ht']
  · rw [payload_dma]
    unfold pay
    dsimp only
    iintro ⟨Hd, Hs⟩
    isplitl [Hd]
    · iapply (rows_of_slice (sg s) (pe s j c) hod id _ _ ?_) $$ Hd
      rw [View.read_write_univ, hgs]
      funext x
      unfold vec Ld
      rw [show kp s j (pe s j c) = sd s j c from kp_pr s j c, show pe s j (pe s j c) = c from pr_pr _ c, Nat.add_sub_cancel_left]
    · rw [show kp s j (pe s j c) = sd s j c from kp_pr s j c, show pe s j (pe s j c) = c from pr_pr _ c]
      unfold anyRows
      iexists _
      iapply (rows_of_slice (wk s) c hos is _ _ hgs) $$ Hs
  · isplitr; · iapply (records_inv fa fb K (c, some (0, s, j))); iexact HR
    isplitr; · iapply (records_inv fa fb K (pe s j c, some (1, s, j))); iexact HR
    isplitl [Hs]; · iexact Hs
    isplitl [Hd]; · iexact Hd
    isplitl [HO]; · iexact HO
    isplitl [Ht]; · iexact Ht
    isplitr; · iapply (records_reached fa fb K (c, some (0, s, j))); iexact HR
    isplitl [Ht']; · iexact Ht'
    iapply (records_reached fa fb K (pe s j c, some (1, s, j))); iexact HR
  iintro ⟨Hc, HO⟩
  iapply Hk
  isplitl [Hc]; · iexact Hc
  iexists W
  iexact HO

/-- The two buffers of a stream credit a transfer of the same shape alike. -/
theorem credit_wk (s : Fin 3) (j : Fin 4) :
    sig.dmaCredit .tc (Kind.table .tc .vmem) (wk s).view.buf (S2 (96 * hh j) (wd s)) .bf16 = N s j := by
  match s, j with
  | 0, 0 => rfl
  | 0, 1 => rfl
  | 0, 2 => rfl
  | 0, 3 => rfl
  | 1, 0 => rfl
  | 1, 1 => rfl
  | 1, 2 => rfl
  | 1, 3 => rfl
  | 2, 0 => rfl
  | 2, 1 => rfl
  | 2, 2 => rfl
  | 2, 3 => rfl

/-- A transfer of the second phase: the final band goes to the same rows of the peer. -/
theorem wp_start_ag (s : Fin 3) (j : Fin 4) (c n : Dev nD) (hn : n = pe s j.rev c) {l : List It}
    {os : Fin 2 → ℕ} (hos : os = ![96 * kp s j.rev c, 0])
    {is id : ∀ k, os k + (S2 (96 * hh j.rev) (wd s)).size k ≤ (S2 1536 (wd s)).size k}
    {qs qr : DmaSem sig} (hqs : qs = dsem 2 s j) (hqr : qr = dsem 3 s j)
    {hsc : (band (wk s) os (96 * hh j.rev) id : Memref sig (Dev.tc n : Thread nD τ).2.kind .vmem _ .bf16).view.ref.isScScratch = false}
    {hsrc : (band (wk s) os (96 * hh j.rev) is).view.WordExact} {hdst : (band (wk s) os (96 * hh j.rev) id).view.WordExact}
    {hsem : DmaTarget.Typed .vmem (.dma qr) (.remote (Dev.tc n : Thread nD τ) (band (wk s) os (96 * hh j.rev) id) (.dma qs) hsc)}
    {α : Type} {Q : α → sProp 𝕄} {kt : PUnit → Prog (TpuEff nD τ sig (Elt F) Λ₀ .tc) α} :
    iprop(records fa fb K ∗ dutyTok ER (dmaCell 2 s j c) 0 0 ∗ dutyTok ER (dmaCell 3 s j (pe s j.rev c)) 0 0
        ∗ rows (wk s) c (96 * kp s j.rev c) (96 * hh j.rev) (Fn fa fb s)
        ∗ anyRows (wk s) (pe s j.rev c) (96 * kp s j.rev c) (96 * hh j.rev) ∗ ow c (.ag s j :: l))
      ⊢ iprop(((cred (tallyAt (dmaCell 2 s j c) () (N s j.rev)) ∗ ow c l) -∗ WP c (kt ⟨⟩) Q)
        -∗ WP c (.op (.enqueueDma (band (wk s) os (96 * hh j.rev) is)
            (.remote (Dev.tc n : Thread nD τ) (band (wk s) os (96 * hh j.rev) id) (.dma qs) hsc) (.dma qr) hsrc hdst hsem) kt) Q) := by
  subst hn hqs hqr
  iintro ⟨#HR, Ht, Ht', Hs, Hd, HO⟩ Hk
  unfold ow anyRows
  icases HO with ⟨%W, HO⟩
  icases Hd with ⟨%fd, Hd⟩
  ihave Hs' := (slice_of_rows (wk s) c hos is _) $$ Hs
  icases Hs' with ⟨%gs, %hgs, Hs⟩
  ihave Hd' := (slice_of_rows (wk s) (pe s j.rev c) hos id _) $$ Hd
  icases Hd' with ⟨%gd, -, Hd⟩
  iapply (Rounds.wp_send_pointsTo 𝒱₀ ER (rd fa fb) (c : Thread nD τ) none
      (c' := ((pe s j.rev c : Dev nD) : Thread nD τ)) (src := band (wk s) os (96 * hh j.rev) is) (dst := band (wk s) os (96 * hh j.rev) id)
      (sS := .dma (dsem 2 s j)) (sem := .dma (dsem 3 s j)) (fs := gs) (fd := gd)
      (κ₁ := K (c, some (2, s, j))) (κ₂ := K (pe s j.rev c, some (3, s, j))) (r₁ := 0) (r₂ := 0) (d₁ := 0) (d₂ := 0)
      (by rw [duties_dma]; exact Finset.mem_singleton_self _) (by rw [duties_dma]; exact Finset.mem_singleton_self _)
      () () (N s j.rev) (credit_wk s j.rev) (amount_dma fa fb c 2 s j 0) (amount_dma fa fb (pe s j.rev c) 3 s j 0) (tl c l) rfl (W := W)
      ?_ ?_) $$ [Hs Hd HO Ht Ht']
  · rw [payload_dma]
    exact rows_of_slice (wk s) c hos is _ _ hgs
  · rw [payload_dma]
    unfold pay
    dsimp only
    rw [show sd s j.rev (pe s j.rev c) = kp s j.rev c from sd_pr s j.rev c]
    refine rows_of_slice (wk s) (pe s j.rev c) hos id _ _ ?_
    rw [View.read_write_univ, hgs]
  · isplitr; · iapply (records_inv fa fb K (c, some (2, s, j))); iexact HR
    isplitr; · iapply (records_inv fa fb K (pe s j.rev c, some (3, s, j))); iexact HR
    isplitl [Hs]; · iexact Hs
    isplitl [Hd]; · iexact Hd
    isplitl [HO]; · iexact HO
    isplitl [Ht]; · iexact Ht
    isplitr; · iapply (records_reached fa fb K (c, some (2, s, j))); iexact HR
    isplitl [Ht']; · iexact Ht'
    iapply (records_reached fa fb K (pe s j.rev c, some (3, s, j))); iexact HR
  iintro ⟨Hc, HO⟩
  iapply Hk
  isplitl [Hc]; · iexact Hc
  iexists W
  iexact HO

end Cert.KernelIdeal.Prf
-- ==== Proof.IdealRound.lean ====
/-
# The rounds on one device

The pieces of ghost state and of memory that belong to one transfer of one stream, and what each of the kernel's
operations does to them: at any stream and any round.
-/
module

public import proofs.«01_k».proof.Proof.IdealSteps

@[expose] public section

noncomputable section

namespace Cert.KernelIdeal.Prf

open Cert.KernelIdeal Cert.KernelIdeal.Gen Cert.Bands Cert.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

/-! ## Ghost state of a transfer, from the side that sends it and waits for the peer's -/

/-- Before the transfer: the two duties it discharges, and this device's own two cells with the credit to come. -/
def idle (k k' : Fin 4) (s : Fin 3) (j : Fin 4) (c : Dev nD) : sProp 𝕄 :=
  iprop(dutyTok ER (dmaCell k s j c) 0 0 ∗ dutyTok ER (dmaCell k' s j (pe s (lvl k j) c)) 0 0
    ∗ atPos ER (dmaCell k s j c) 0 ∅ 0 ∗ atPos ER (dmaCell k' s j c) 0 ∅ 0
    ∗ cred (tallyAt (dmaCell k' s j c) () (N s (lvl k' j))))
/-- Started, with neither side awaited. -/
def fly (k k' : Fin 4) (s : Fin 3) (j : Fin 4) (c : Dev nD) : sProp 𝕄 :=
  iprop(cred (tallyAt (dmaCell k s j c) () (N s (lvl k j))) ∗ atPos ER (dmaCell k s j c) 0 ∅ 0 ∗ atPos ER (dmaCell k' s j c) 0 ∅ 0
    ∗ cred (tallyAt (dmaCell k' s j c) () (N s (lvl k' j))))
/-- The sending side awaited. -/
def half (k k' : Fin 4) (s : Fin 3) (j : Fin 4) (c : Dev nD) : sProp 𝕄 :=
  iprop(semVal (dmaCell k s j c) 0 ∗ atPos ER (dmaCell k' s j c) 0 ∅ 0
    ∗ cred (tallyAt (dmaCell k' s j c) () (N s (lvl k' j))))
/-- Both sides awaited. -/
def spent (k k' : Fin 4) (s : Fin 3) (j : Fin 4) (c : Dev nD) : sProp 𝕄 :=
  iprop(semVal (dmaCell k s j c) 0 ∗ semVal (dmaCell k' s j c) 0)

/-- What device `c` owes once it has made its first `n` payments. -/
def owN (n : ℕ) (c : Dev nD) : sProp 𝕄 := ow (F := F) c (pays.drop n)

variable (fa : (c : Dev nD) → Buf (Elt F) ((xM : Memref sig .tc .vmem S1536x768 .bf16).view.loc (c : Thread nD τ)))
  (fb : (c : Dev nD) → Buf (Elt F) ((yM : Memref sig .tc .vmem S768x1536 .bf16).view.loc (c : Thread nD τ)))
variable (K : Dev nD × CI → ℕ)

/-! ## Memory of a stream -/

/-- What a device holds before round `j`, after `j` additions. -/
def held (s : Fin 3) (j : Fin 4) (c : Dev nD) : sProp 𝕄 := rows (wk s) c (96 * st s j c) (96 * hh j + 96 * hh j) (V fa fb j.val s c)
/-- The half it keeps, before the addition. -/
def kept (s : Fin 3) (j : Fin 4) (c : Dev nD) : sProp 𝕄 := rows (wk s) c (96 * kp s j c) (96 * hh j) (V fa fb j.val s c)
/-- The half it keeps, after the addition. -/
def added (s : Fin 3) (j : Fin 4) (c : Dev nD) : sProp 𝕄 := rows (wk s) c (96 * kp s j c) (96 * hh j) (V fa fb (j.val + 1) s c)
/-- The peer's landing band for the round. -/
def land (s : Fin 3) (j : Fin 4) (c : Dev nD) : sProp 𝕄 := anyRows (F := F) (sg s) (pe s j c) (96 * so j) (96 * hh j)
/-- The device's own landing band, with the peer's contents. -/
def landed (s : Fin 3) (j : Fin 4) (c : Dev nD) : sProp 𝕄 := rows (sg s) c (96 * so j) (96 * hh j) (Ld fa fb s j c)
/-- The band of the peer's working buffer that the device later sends to. -/
def back (s : Fin 3) (j : Fin 4) (c : Dev nD) : sProp 𝕄 := anyRows (F := F) (wk s) (pe s j c) (96 * kp s j c) (96 * hh j)
/-- The half a device keeps in round `j`, all of it final. -/
def final (s : Fin 3) (j : Fin 4) (c : Dev nD) : sProp 𝕄 := rows (wk s) c (96 * kp s j c) (96 * hh j) (Fn fa fb s)
/-- The half it sent in round `j`, all of it final. -/
def other (s : Fin 3) (j : Fin 4) (c : Dev nD) : sProp 𝕄 := rows (wk s) c (96 * sd s j c) (96 * hh j) (Fn fa fb s)

/-! ## The first four rounds -/

/-- What is held before a round is the half kept and the half sent. -/
theorem held_split (s : Fin 3) (j : Fin 4) (c : Dev nD) :
    held fa fb s j c ⊢ iprop(kept fa fb s j c ∗ rows (wk s) c (96 * sd s j c) (96 * hh j) (V fa fb j.val s c)) := by
  unfold held kept
  rcases halves s j c with ⟨h1, h2⟩ | ⟨h1, h2⟩ <;> rw [h1, h2, Nat.mul_add]
  · exact rows_split (wk s) c _ _ _ _
  · refine (rows_split (wk s) c _ _ _ _).trans ?_
    iintro ⟨H1, H2⟩
    isplitl [H2]; · iexact H2
    iexact H1

/-- Sending a round's half. -/
theorem rs_send (s : Fin 3) (j : Fin 4) (m : ℕ) (hm : pays.drop m = .rs s j :: pays.drop (m + 1)) (c : Dev nD) {n : Dev nD} (hn : n = pe s j c)
    {os od : Fin 2 → ℕ} (hos : os = ![96 * sd s j c, 0]) (hod : od = ![96 * so j, 0])
    {is : ∀ k, os k + (S2 (96 * hh j) (wd s)).size k ≤ (S2 1536 (wd s)).size k}
    {id : ∀ k, od k + (S2 (96 * hh j) (wd s)).size k ≤ (S2 1440 (wd s)).size k}
    {qs qr : DmaSem sig} (hqs : qs = dsem 0 s j) (hqr : qr = dsem 1 s j)
    {hsc : (band (sg s) od (96 * hh j) id : Memref sig (Dev.tc n : Thread nD τ).2.kind .vmem _ .bf16).view.ref.isScScratch = false}
    {hsrc : (band (wk s) os (96 * hh j) is).view.WordExact} {hdst : (band (sg s) od (96 * hh j) id).view.WordExact}
    {hsem : DmaTarget.Typed .vmem (.dma qr) (.remote (Dev.tc n : Thread nD τ) (band (sg s) od (96 * hh j) id) (.dma qs) hsc)}
    {α : Type} {Q : α → sProp 𝕄} {kt : PUnit → Prog (TpuEff nD τ sig (Elt F) Λ₀ .tc) α} :
    records fa fb K ⊢ iprop(idle 0 1 s j c -∗ held fa fb s j c -∗ land s j c -∗ owN m c
      -∗ ((fly 0 1 s j c ∗ kept fa fb s j c ∗ owN (m + 1) c) -∗ WP c (kt ⟨⟩) Q)
      -∗ WP c (.op (.enqueueDma (band (wk s) os (96 * hh j) is)
            (.remote (Dev.tc n : Thread nD τ) (band (sg s) od (96 * hh j) id) (.dma qs) hsc) (.dma qr) hsrc hdst hsem) kt) Q) := by
  unfold idle owN land
  rw [hm]
  iintro #HR ⟨Ht, Ht', Ha, Ha', Hc⟩ HW HL HO Hk
  ihave HW := (held_split fa fb s j c) $$ HW
  icases HW with ⟨HK, HS⟩
  iapply (wp_start_rs fa fb K s j c n hn (l := pays.drop (m + 1)) hos hod hqs hqr) $$ [Ht Ht' HS HL HO]
  · isplitr; · iexact HR
    isplitl [Ht]; · iexact Ht
    isplitl [Ht']; · iexact Ht'
    isplitl [HS]; · iexact HS
    isplitl [HL]; · iexact HL
    iexact HO
  iintro ⟨Hc', HO⟩
  iapply Hk
  unfold fly
  isplitl [Hc' Ha Ha' Hc]
  · isplitl [Hc']; · iexact Hc'
    isplitl [Ha]; · iexact Ha
    isplitl [Ha']; · iexact Ha'
    iexact Hc
  isplitl [HK]; · iexact HK
  iexact HO

/-- Awaiting the sending side of a round. -/
theorem rs_wait_send (s : Fin 3) (j : Fin 4) (m : ℕ) (c : Dev nD) {q : DmaSem sig} (hq : q = dsem 0 s j)
    (hl : ∀ i ∈ pays.drop m, clv 0 j < ilv i)
    {os od : Fin 2 → ℕ} {is : ∀ k, os k + (S2 (96 * hh j) (wd s)).size k ≤ (S2 1536 (wd s)).size k}
    {id : ∀ k, od k + (S2 (96 * hh j) (wd s)).size k ≤ (S2 1440 (wd s)).size k}
    {h₁ : (band (sg s) od (96 * hh j) id).view.WordExact} {h₂ : (band (wk s) os (96 * hh j) is).view.WordExact}
    {α : Type} {Q : α → sProp 𝕄} {kt : PUnit → Prog (TpuEff nD τ sig (Elt F) Λ₀ .tc) α} :
    records fa fb K ⊢ iprop(fly 0 1 s j c -∗ owN m c -∗ ((half 0 1 s j c ∗ owN m c) -∗ WP c (kt ⟨⟩) Q)
      -∗ WP c (.op (.waitDma2 q (band (sg s) od (96 * hh j) id) (band (wk s) os (96 * hh j) is) h₁ h₂) kt) Q) := by
  unfold fly owN
  iintro #HR ⟨Hc, Ha, Ha', Hc'⟩ HO Hk
  iapply (wp_dma_wait fa fb K 0 s j c hq (credit_wk s j) hl) $$ [Hc Ha HO]
  · isplitr; · iexact HR
    isplitl [Hc]; · iexact Hc
    isplitl [Ha]; · iexact Ha
    iexact HO
  iintro ⟨HO, Hz, -⟩
  iapply Hk
  unfold half
  isplitl [Hz Ha' Hc']
  · isplitl [Hz]; · iexact Hz
    isplitl [Ha']; · iexact Ha'
    iexact Hc'
  iexact HO

/-- Awaiting the receiving side of a round: the landing band is the peer's contents. -/
theorem rs_wait_recv (s : Fin 3) (j : Fin 4) (m : ℕ) (c : Dev nD) {q : DmaSem sig} (hq : q = dsem 1 s j)
    (hl : ∀ i ∈ pays.drop m, clv 1 j < ilv i)
    {os od : Fin 2 → ℕ} {is : ∀ k, os k + (S2 (96 * hh j) (wd s)).size k ≤ (S2 1536 (wd s)).size k}
    {id : ∀ k, od k + (S2 (96 * hh j) (wd s)).size k ≤ (S2 1440 (wd s)).size k}
    {h₁ : (band (wk s) os (96 * hh j) is).view.WordExact} {h₂ : (band (sg s) od (96 * hh j) id).view.WordExact}
    {α : Type} {Q : α → sProp 𝕄} {kt : PUnit → Prog (TpuEff nD τ sig (Elt F) Λ₀ .tc) α} :
    records fa fb K ⊢ iprop(half 0 1 s j c -∗ owN m c
      -∗ ((spent 0 1 s j c ∗ landed fa fb s j c ∗ back s j c ∗ owN m c) -∗ WP c (kt ⟨⟩) Q)
      -∗ WP c (.op (.waitDma2 q (band (wk s) os (96 * hh j) is) (band (sg s) od (96 * hh j) id) h₁ h₂) kt) Q) := by
  unfold half owN landed back
  iintro #HR ⟨Hz, Ha, Hc⟩ HO Hk
  iapply (wp_dma_wait fa fb K 1 s j c hq (dst := band (sg s) od (96 * hh j) id) rfl hl) $$ [Hc Ha HO]
  · isplitr; · iexact HR
    isplitl [Hc]; · iexact Hc
    isplitl [Ha]; · iexact Ha
    iexact HO
  unfold pay
  dsimp only
  iintro ⟨HO, Hz', ⟨HL, HB⟩⟩
  iapply Hk
  unfold spent
  isplitl [Hz Hz']
  · isplitl [Hz]; · iexact Hz
    iexact Hz'
  isplitl [HL]; · iexact HL
  isplitl [HB]; · iexact HB
  iexact HO

/-- Loading the half kept. -/
theorem load_kept (s : Fin 3) (j : Fin 4) (c : Dev nD) {off : Fin 2 → ℕ} (hoff : off = ![96 * kp s j c, 0])
    {inb : ∀ k, off k + (S2 (96 * hh j) (wd s)).size k ≤ (S2 1536 (wd s)).size k}
    {hl : (wk s).view.LoadsAt (Rect.unit (s := S2 1536 (wd s)) off (S2 (96 * hh j) (wd s)).size inb).toLoadRect}
    {α : Type} {Q : α → sProp 𝕄} {kt : ((S2 (96 * hh j) (wd s)).Idx → Elt F .bf16) → Prog (TpuEff nD τ sig (Elt F) Λ₀ .tc) α} :
    kept fa fb s j c ⊢ iprop((kept fa fb s j c -∗ WP c (kt (vec (96 * hh j) (V fa fb j.val s c) (96 * kp s j c))) Q)
      -∗ WP c (.op (.load (wk s) (Rect.unit (s := S2 1536 (wd s)) off (S2 (96 * hh j) (wd s)).size inb).toLoadRect hl) kt) Q) :=
  wp_load_rows (wk s) c 𝒱₀ none Set.univ hoff (le_refl _) (le_refl _)

/-- Loading the landing band. -/
theorem load_landed (s : Fin 3) (j : Fin 4) (c : Dev nD) {off : Fin 2 → ℕ} (hoff : off = ![96 * so j, 0])
    {inb : ∀ k, off k + (S2 (96 * hh j) (wd s)).size k ≤ (S2 1440 (wd s)).size k}
    {hl : (sg s).view.LoadsAt (Rect.unit (s := S2 1440 (wd s)) off (S2 (96 * hh j) (wd s)).size inb).toLoadRect}
    {α : Type} {Q : α → sProp 𝕄} {kt : ((S2 (96 * hh j) (wd s)).Idx → Elt F .bf16) → Prog (TpuEff nD τ sig (Elt F) Λ₀ .tc) α} :
    landed fa fb s j c ⊢ iprop((landed fa fb s j c -∗ WP c (kt (vec (96 * hh j) (Ld fa fb s j c) (96 * so j))) Q)
      -∗ WP c (.op (.load (sg s) (Rect.unit (s := S2 1440 (wd s)) off (S2 (96 * hh j) (wd s)).size inb).toLoadRect hl) kt) Q) :=
  wp_load_rows (sg s) c 𝒱₀ none Set.univ hoff (le_refl _) (le_refl _)

/-- One more round adds the peer's contents. -/
theorem V_succ (s : Fin 3) (j : Fin 4) (c : Dev nD) (r k : ℕ) :
    V fa fb (j.val + 1) s c r k = add16 (V fa fb j.val s c r k) (V fa fb j.val s (pe s j c) r k) := by
  unfold V
  rw [show (⟨j.val % 4, Nat.mod_lt _ (by decide)⟩ : Fin 4) = j from Fin.ext (Nat.mod_eq_of_lt j.isLt)]
  cases j.val <;> rfl

/-- Entry by entry, the half kept and the landing band add up to the next round's contents. -/
theorem vec_added (s : Fin 3) (j : Fin 4) (c : Dev nD) :
    (fun x => add16 (vec (96 * hh j) (V fa fb j.val s c) (96 * kp s j c) x) (vec (96 * hh j) (Ld fa fb s j c) (96 * so j) x))
      = (vec (96 * hh j) (V fa fb (j.val + 1) s c) (96 * kp s j c) : (S2 (96 * hh j) (wd s)).Idx → Elt F .bf16) := by
  funext x
  unfold vec Ld
  rw [V_succ, Nat.add_sub_cancel_left]

/-- Storing the sum over the half kept. -/
theorem store_added (s : Fin 3) (j : Fin 4) (c : Dev nD) {off : Fin 2 → ℕ} (hoff : off = ![96 * kp s j c, 0])
    {inb : ∀ k, off k + (S2 (96 * hh j) (wd s)).size k ≤ (S2 1536 (wd s)).size k} {v : (S2 (96 * hh j) (wd s)).Idx → Elt F .bf16}
    (hv : v = fun x => add16 (vec (96 * hh j) (V fa fb j.val s c) (96 * kp s j c) x) (vec (96 * hh j) (Ld fa fb s j c) (96 * so j) x))
    {hx : ((wk s).access (Rect.unit (s := S2 1536 (wd s)) off (S2 (96 * hh j) (wd s)).size inb)).Stores Finset.univ}
    {hm : (Finset.univ : Finset (S2 (96 * hh j) (wd s)).Idx) = Finset.univ ∨ ∀ a, (Rect.unit (s := S2 1536 (wd s)) off (S2 (96 * hh j) (wd s)).size inb).stride a = 1}
    {α : Type} {Q : α → sProp 𝕄} {kt : PUnit → Prog (TpuEff nD τ sig (Elt F) Λ₀ .tc) α} :
    kept fa fb s j c ⊢ iprop((added fa fb s j c -∗ WP c (kt ⟨⟩) Q)
      -∗ WP c (.op (.store (wk s) (Rect.unit (s := S2 1536 (wd s)) off (S2 (96 * hh j) (wd s)).size inb) v Finset.univ hx hm) kt) Q) :=
  wp_store_rows (wk s) c 𝒱₀ none Set.univ hoff (hv.trans (vec_added fa fb s j c))

/-- Awaiting both sides of a round. -/
theorem rs_wait (s : Fin 3) (j : Fin 4) (m : ℕ) (c : Dev nD) {q q' : DmaSem sig} (hq : q = dsem 0 s j) (hq' : q' = dsem 1 s j)
    (hl : ∀ i ∈ pays.drop m, clv 0 j < ilv i) (hl' : ∀ i ∈ pays.drop m, clv 1 j < ilv i)
    {os od os' od' : Fin 2 → ℕ} {is : ∀ k, os k + (S2 (96 * hh j) (wd s)).size k ≤ (S2 1536 (wd s)).size k}
    {id : ∀ k, od k + (S2 (96 * hh j) (wd s)).size k ≤ (S2 1440 (wd s)).size k}
    {is' : ∀ k, os' k + (S2 (96 * hh j) (wd s)).size k ≤ (S2 1536 (wd s)).size k}
    {id' : ∀ k, od' k + (S2 (96 * hh j) (wd s)).size k ≤ (S2 1440 (wd s)).size k}
    {h₁ : (band (sg s) od (96 * hh j) id).view.WordExact} {h₂ : (band (wk s) os (96 * hh j) is).view.WordExact}
    {h₃ : (band (wk s) os' (96 * hh j) is').view.WordExact} {h₄ : (band (sg s) od' (96 * hh j) id').view.WordExact}
    {α : Type} {Q : α → sProp 𝕄} {kt : PUnit → Prog (TpuEff nD τ sig (Elt F) Λ₀ .tc) α} :
    records fa fb K ⊢ iprop(fly 0 1 s j c -∗ owN m c
      -∗ ((spent 0 1 s j c ∗ landed fa fb s j c ∗ back s j c ∗ owN m c) -∗ WP c (kt ⟨⟩) Q)
      -∗ WP c (.op (.waitDma2 q (band (sg s) od (96 * hh j) id) (band (wk s) os (96 * hh j) is) h₁ h₂) fun _ =>
          .op (.waitDma2 q' (band (wk s) os' (96 * hh j) is') (band (sg s) od' (96 * hh j) id') h₃ h₄) kt) Q) := by
  iintro #HR HF HO Hk
  iapply (rs_wait_send fa fb K s j m c hq hl) $$ HR HF HO
  iintro ⟨HF, HO⟩
  iapply (rs_wait_recv fa fb K s j m c hq' hl') $$ HR HF HO Hk

/-- The addition of a round: the half kept and the landing band loaded, their sum stored over the half kept. -/
theorem add_step (s : Fin 3) (j : Fin 4) (c : Dev nD) {off od : Fin 2 → ℕ} (hoff : off = ![96 * kp s j c, 0]) (hod : od = ![96 * so j, 0])
    {p : ((S2 (96 * hh j) (wd s)).Idx → Elt F .bf16) → ((S2 (96 * hh j) (wd s)).Idx → Elt F .bf16) → (S2 (96 * hh j) (wd s)).Idx → Elt F .bf16}
    (hp : ∀ a b, p a b = fun x => add16 (a x) (b x))
    {inb : ∀ k, off k + (S2 (96 * hh j) (wd s)).size k ≤ (S2 1536 (wd s)).size k}
    {ind : ∀ k, od k + (S2 (96 * hh j) (wd s)).size k ≤ (S2 1440 (wd s)).size k}
    {h₁ h₃ : (wk s).view.LoadsAt (Rect.unit (s := S2 1536 (wd s)) off (S2 (96 * hh j) (wd s)).size inb).toLoadRect}
    {h₂ : (sg s).view.LoadsAt (Rect.unit (s := S2 1440 (wd s)) od (S2 (96 * hh j) (wd s)).size ind).toLoadRect}
    {hx : ((wk s).access (Rect.unit (s := S2 1536 (wd s)) off (S2 (96 * hh j) (wd s)).size inb)).Stores Finset.univ}
    {hm : (Finset.univ : Finset (S2 (96 * hh j) (wd s)).Idx) = Finset.univ ∨ ∀ a, (Rect.unit (s := S2 1536 (wd s)) off (S2 (96 * hh j) (wd s)).size inb).stride a = 1}
    {α : Type} {Q : α → sProp 𝕄} {kt : PUnit → Prog (TpuEff nD τ sig (Elt F) Λ₀ .tc) α} :
    kept fa fb s j c ⊢ iprop(landed fa fb s j c -∗ ((added fa fb s j c ∗ landed fa fb s j c) -∗ WP c (kt ⟨⟩) Q)
      -∗ WP c (.op (.load (wk s) (Rect.unit (s := S2 1536 (wd s)) off (S2 (96 * hh j) (wd s)).size inb).toLoadRect h₁) fun a =>
          .op (.load (sg s) (Rect.unit (s := S2 1440 (wd s)) od (S2 (96 * hh j) (wd s)).size ind).toLoadRect h₂) fun b =>
          .op (.load (wk s) (Rect.unit (s := S2 1536 (wd s)) off (S2 (96 * hh j) (wd s)).size inb).toLoadRect h₃) fun _ =>
          .op (.store (wk s) (Rect.unit (s := S2 1536 (wd s)) off (S2 (96 * hh j) (wd s)).size inb) (p a b) Finset.univ hx hm) kt) Q) := by
  iintro HW HL Hk
  iapply (load_kept fa fb s j c hoff) $$ HW; iintro HW
  iapply (load_landed fa fb s j c hod) $$ HL; iintro HL
  iapply (load_kept fa fb s j c hoff) $$ HW; iintro HW
  iapply (store_added fa fb s j c hoff (hp _ _)) $$ HW; iintro HW
  iapply Hk
  isplitl [HW]; · iexact HW
  iexact HL

/-- After the addition the device holds what the next round starts with. -/
theorem held_one (s : Fin 3) (c : Dev nD) : added fa fb s 0 c ⊢ held fa fb s 1 c :=
  rows_cast (wk s) c (congrArg (96 * ·) (kp_zero_one s c)) rfl
/-- The same before round 2. -/
theorem held_two (s : Fin 3) (c : Dev nD) : added fa fb s 1 c ⊢ held fa fb s 2 c :=
  rows_cast (wk s) c (congrArg (96 * ·) (kp_one_two s c)) rfl
/-- The same before round 3. -/
theorem held_three (s : Fin 3) (c : Dev nD) : added fa fb s 2 c ⊢ held fa fb s 3 c :=
  rows_cast (wk s) c (congrArg (96 * ·) (kp_two_three s c)) rfl

/-- Loading the device's own chunk after the four rounds. -/
theorem load_added (s : Fin 3) (c : Dev nD) {off : Fin 2 → ℕ} (hoff : off = ![96 * kp s 3 c, 0])
    {inb : ∀ k, off k + (S2 96 (wd s)).size k ≤ (S2 1536 (wd s)).size k}
    {hl : (wk s).view.LoadsAt (Rect.unit (s := S2 1536 (wd s)) off (S2 96 (wd s)).size inb).toLoadRect}
    {α : Type} {Q : α → sProp 𝕄} {kt : ((S2 96 (wd s)).Idx → Elt F .bf16) → Prog (TpuEff nD τ sig (Elt F) Λ₀ .tc) α} :
    added fa fb s 3 c ⊢ iprop((added fa fb s 3 c -∗ WP c (kt (vec 96 (V fa fb 4 s c) (96 * kp s 3 c))) Q)
      -∗ WP c (.op (.load (wk s) (Rect.unit (s := S2 1536 (wd s)) off (S2 96 (wd s)).size inb).toLoadRect hl) kt) Q) :=
  wp_load_rows (wk s) c 𝒱₀ none Set.univ hoff (le_refl _) (le_refl _)

/-- Storing the activation over the device's own chunk. -/
theorem store_final (s : Fin 3) (c : Dev nD) {off : Fin 2 → ℕ} (hoff : off = ![96 * kp s 3 c, 0])
    {inb : ∀ k, off k + (S2 96 (wd s)).size k ≤ (S2 1536 (wd s)).size k} {v : (S2 96 (wd s)).Idx → Elt F .bf16}
    (hv : v = fun x => act (vec 96 (V fa fb 4 s c) (96 * kp s 3 c) x))
    {hx : ((wk s).access (Rect.unit (s := S2 1536 (wd s)) off (S2 96 (wd s)).size inb)).Stores Finset.univ}
    {hm : (Finset.univ : Finset (S2 96 (wd s)).Idx) = Finset.univ ∨ ∀ a, (Rect.unit (s := S2 1536 (wd s)) off (S2 96 (wd s)).size inb).stride a = 1}
    {α : Type} {Q : α → sProp 𝕄} {kt : PUnit → Prog (TpuEff nD τ sig (Elt F) Λ₀ .tc) α} :
    added fa fb s 3 c ⊢ iprop((final fa fb s 3 c -∗ WP c (kt ⟨⟩) Q)
      -∗ WP c (.op (.store (wk s) (Rect.unit (s := S2 1536 (wd s)) off (S2 96 (wd s)).size inb) v Finset.univ hx hm) kt) Q) := by
  refine wp_store_rows (wk s) c 𝒱₀ none Set.univ hoff (hv.trans ?_)
  funext x
  have hx := (x 0).isLt
  unfold vec Fn
  rw [show (96 * kp s 3 c + (x 0).val) / 96 = kp s 3 c by simp at hx; omega, own_kp]

/-- The activation of the device's own chunk: loaded, and stored over itself. -/
theorem act_step (s : Fin 3) (c : Dev nD) {off : Fin 2 → ℕ} (hoff : off = ![96 * kp s 3 c, 0])
    {p : ((S2 96 (wd s)).Idx → Elt F .bf16) → (S2 96 (wd s)).Idx → Elt F .bf16} (hp : ∀ a, p a = fun x => act (a x))
    {inb : ∀ k, off k + (S2 96 (wd s)).size k ≤ (S2 1536 (wd s)).size k}
    {h₁ h₂ : (wk s).view.LoadsAt (Rect.unit (s := S2 1536 (wd s)) off (S2 96 (wd s)).size inb).toLoadRect}
    {hx : ((wk s).access (Rect.unit (s := S2 1536 (wd s)) off (S2 96 (wd s)).size inb)).Stores Finset.univ}
    {hm : (Finset.univ : Finset (S2 96 (wd s)).Idx) = Finset.univ ∨ ∀ a, (Rect.unit (s := S2 1536 (wd s)) off (S2 96 (wd s)).size inb).stride a = 1}
    {α : Type} {Q : α → sProp 𝕄} {kt : PUnit → Prog (TpuEff nD τ sig (Elt F) Λ₀ .tc) α} :
    added fa fb s 3 c ⊢ iprop((final fa fb s 3 c -∗ WP c (kt ⟨⟩) Q)
      -∗ WP c (.op (.load (wk s) (Rect.unit (s := S2 1536 (wd s)) off (S2 96 (wd s)).size inb).toLoadRect h₁) fun a =>
          .op (.load (wk s) (Rect.unit (s := S2 1536 (wd s)) off (S2 96 (wd s)).size inb).toLoadRect h₂) fun _ =>
          .op (.store (wk s) (Rect.unit (s := S2 1536 (wd s)) off (S2 96 (wd s)).size inb) (p a) Finset.univ hx hm) kt) Q) := by
  iintro HW Hk
  iapply (load_added fa fb s c hoff) $$ HW; iintro HW
  iapply (load_added fa fb s c hoff) $$ HW; iintro HW
  iapply (store_final fa fb s c hoff (hp _)) $$ HW Hk

/-! ## The last four rounds -/

/-- Sending a final half. -/
theorem ag_send (s : Fin 3) (j r : Fin 4) (hr : r = j.rev) (m : ℕ) (hm : pays.drop m = .ag s j :: pays.drop (m + 1)) (c : Dev nD) {n : Dev nD} (hn : n = pe s r c)
    {os : Fin 2 → ℕ} (hos : os = ![96 * kp s r c, 0])
    {is id : ∀ k, os k + (S2 (96 * hh r) (wd s)).size k ≤ (S2 1536 (wd s)).size k}
    {qs qr : DmaSem sig} (hqs : qs = dsem 2 s j) (hqr : qr = dsem 3 s j)
    {hsc : (band (wk s) os (96 * hh r) id : Memref sig (Dev.tc n : Thread nD τ).2.kind .vmem _ .bf16).view.ref.isScScratch = false}
    {hsrc : (band (wk s) os (96 * hh r) is).view.WordExact} {hdst : (band (wk s) os (96 * hh r) id).view.WordExact}
    {hsem : DmaTarget.Typed .vmem (.dma qr) (.remote (Dev.tc n : Thread nD τ) (band (wk s) os (96 * hh r) id) (.dma qs) hsc)}
    {α : Type} {Q : α → sProp 𝕄} {kt : PUnit → Prog (TpuEff nD τ sig (Elt F) Λ₀ .tc) α} :
    records fa fb K ⊢ iprop(idle 2 3 s j c -∗ final fa fb s r c -∗ back s r c -∗ owN m c
      -∗ ((fly 2 3 s j c ∗ owN (m + 1) c) -∗ WP c (kt ⟨⟩) Q)
      -∗ WP c (.op (.enqueueDma (band (wk s) os (96 * hh r) is)
            (.remote (Dev.tc n : Thread nD τ) (band (wk s) os (96 * hh r) id) (.dma qs) hsc) (.dma qr) hsrc hdst hsem) kt) Q) := by
  subst hr
  unfold idle owN final back
  rw [hm]
  iintro #HR ⟨Ht, Ht', Ha, Ha', Hc⟩ HW HL HO Hk
  iapply (wp_start_ag fa fb K s j c n hn (l := pays.drop (m + 1)) hos hqs hqr) $$ [Ht Ht' HW HL HO]
  · isplitr; · iexact HR
    isplitl [Ht]; · iexact Ht
    isplitl [Ht']; · iexact Ht'
    isplitl [HW]; · iexact HW
    isplitl [HL]; · iexact HL
    iexact HO
  iintro ⟨Hc', HO⟩
  iapply Hk
  unfold fly
  isplitl [Hc' Ha Ha' Hc]
  · isplitl [Hc']; · iexact Hc'
    isplitl [Ha]; · iexact Ha
    isplitl [Ha']; · iexact Ha'
    iexact Hc
  iexact HO

/-- Awaiting the sending side: the half comes back. -/
theorem ag_wait_send (s : Fin 3) (j r : Fin 4) (hr : r = j.rev) (m : ℕ) (c : Dev nD) {q : DmaSem sig} (hq : q = dsem 2 s j)
    (hl : ∀ i ∈ pays.drop m, clv 2 j < ilv i)
    {os od : Fin 2 → ℕ} {is : ∀ k, os k + (S2 (96 * hh r) (wd s)).size k ≤ (S2 1536 (wd s)).size k}
    {id : ∀ k, od k + (S2 (96 * hh r) (wd s)).size k ≤ (S2 1536 (wd s)).size k}
    {h₁ : (band (wk s) od (96 * hh r) id).view.WordExact} {h₂ : (band (wk s) os (96 * hh r) is).view.WordExact}
    {α : Type} {Q : α → sProp 𝕄} {kt : PUnit → Prog (TpuEff nD τ sig (Elt F) Λ₀ .tc) α} :
    records fa fb K ⊢ iprop(fly 2 3 s j c -∗ owN m c -∗ ((half 2 3 s j c ∗ final fa fb s r c ∗ owN m c) -∗ WP c (kt ⟨⟩) Q)
      -∗ WP c (.op (.waitDma2 q (band (wk s) od (96 * hh r) id) (band (wk s) os (96 * hh r) is) h₁ h₂) kt) Q) := by
  subst hr
  unfold fly owN
  iintro #HR ⟨Hc, Ha, Ha', Hc'⟩ HO Hk
  iapply (wp_dma_wait fa fb K 2 s j c hq (dst := band (wk s) os (96 * hh j.rev) is) (credit_wk s j.rev) hl) $$ [Hc Ha HO]
  · isplitr; · iexact HR
    isplitl [Hc]; · iexact Hc
    isplitl [Ha]; · iexact Ha
    iexact HO
  unfold pay final half
  dsimp only
  iintro ⟨HO, Hz, HW⟩
  iapply Hk
  isplitl [Hz Ha' Hc']
  · isplitl [Hz]; · iexact Hz
    isplitl [Ha']; · iexact Ha'
    iexact Hc'
  isplitl [HW]; · iexact HW
  iexact HO

/-- Awaiting the receiving side: the other half is final as well. -/
theorem ag_wait_recv (s : Fin 3) (j r : Fin 4) (hr : r = j.rev) (m : ℕ) (c : Dev nD) {q : DmaSem sig} (hq : q = dsem 3 s j)
    (hl : ∀ i ∈ pays.drop m, clv 3 j < ilv i)
    {os od : Fin 2 → ℕ} {is : ∀ k, os k + (S2 (96 * hh r) (wd s)).size k ≤ (S2 1536 (wd s)).size k}
    {id : ∀ k, od k + (S2 (96 * hh r) (wd s)).size k ≤ (S2 1536 (wd s)).size k}
    {h₁ : (band (wk s) od (96 * hh r) id).view.WordExact} {h₂ : (band (wk s) os (96 * hh r) is).view.WordExact}
    {α : Type} {Q : α → sProp 𝕄} {kt : PUnit → Prog (TpuEff nD τ sig (Elt F) Λ₀ .tc) α} :
    records fa fb K ⊢ iprop(half 2 3 s j c -∗ owN m c -∗ ((spent 2 3 s j c ∗ other fa fb s r c ∗ owN m c) -∗ WP c (kt ⟨⟩) Q)
      -∗ WP c (.op (.waitDma2 q (band (wk s) od (96 * hh r) id) (band (wk s) os (96 * hh r) is) h₁ h₂) kt) Q) := by
  subst hr
  unfold half owN
  iintro #HR ⟨Hz, Ha, Hc⟩ HO Hk
  iapply (wp_dma_wait fa fb K 3 s j c hq (dst := band (wk s) os (96 * hh j.rev) is) (credit_wk s j.rev) hl) $$ [Hc Ha HO]
  · isplitr; · iexact HR
    isplitl [Hc]; · iexact Hc
    isplitl [Ha]; · iexact Ha
    iexact HO
  unfold pay other spent
  dsimp only
  iintro ⟨HO, Hz', HW⟩
  iapply Hk
  isplitl [Hz Hz']
  · isplitl [Hz]; · iexact Hz
    iexact Hz'
  isplitl [HW]; · iexact HW
  iexact HO

/-- Awaiting both sides of one of the last four rounds. -/
theorem ag_wait (s : Fin 3) (j r : Fin 4) (hr : r = j.rev) (m : ℕ) (c : Dev nD) {q q' : DmaSem sig} (hq : q = dsem 2 s j) (hq' : q' = dsem 3 s j)
    (hl : ∀ i ∈ pays.drop m, clv 2 j < ilv i) (hl' : ∀ i ∈ pays.drop m, clv 3 j < ilv i)
    {os od os' od' : Fin 2 → ℕ} {is : ∀ k, os k + (S2 (96 * hh r) (wd s)).size k ≤ (S2 1536 (wd s)).size k}
    {id : ∀ k, od k + (S2 (96 * hh r) (wd s)).size k ≤ (S2 1536 (wd s)).size k}
    {is' : ∀ k, os' k + (S2 (96 * hh r) (wd s)).size k ≤ (S2 1536 (wd s)).size k}
    {id' : ∀ k, od' k + (S2 (96 * hh r) (wd s)).size k ≤ (S2 1536 (wd s)).size k}
    {h₁ : (band (wk s) od (96 * hh r) id).view.WordExact} {h₂ : (band (wk s) os (96 * hh r) is).view.WordExact}
    {h₃ : (band (wk s) od' (96 * hh r) id').view.WordExact} {h₄ : (band (wk s) os' (96 * hh r) is').view.WordExact}
    {α : Type} {Q : α → sProp 𝕄} {kt : PUnit → Prog (TpuEff nD τ sig (Elt F) Λ₀ .tc) α} :
    records fa fb K ⊢ iprop(fly 2 3 s j c -∗ owN m c
      -∗ ((spent 2 3 s j c ∗ final fa fb s r c ∗ other fa fb s r c ∗ owN m c) -∗ WP c (kt ⟨⟩) Q)
      -∗ WP c (.op (.waitDma2 q (band (wk s) od (96 * hh r) id) (band (wk s) os (96 * hh r) is) h₁ h₂) fun _ =>
          .op (.waitDma2 q' (band (wk s) od' (96 * hh r) id') (band (wk s) os' (96 * hh r) is') h₃ h₄) kt) Q) := by
  iintro #HR HF HO Hk
  iapply (ag_wait_send fa fb K s j r hr m c hq hl) $$ HR HF HO
  iintro ⟨HF, HW, HO⟩
  iapply (ag_wait_recv fa fb K s j r hr m c hq' hl') $$ HR HF HO
  iintro ⟨HF, HX, HO⟩
  iapply Hk
  isplitl [HF]; · iexact HF
  isplitl [HW]; · iexact HW
  isplitl [HX]; · iexact HX
  iexact HO

/-- The two halves of a round are what was held before it. -/
theorem final_join (s : Fin 3) (j : Fin 4) (c : Dev nD) :
    final fa fb s j c ⊢ iprop(other fa fb s j c -∗ rows (wk s) c (96 * st s j c) (96 * hh j + 96 * hh j) (Fn fa fb s)) := by
  unfold final other
  rcases halves s j c with ⟨h1, h2⟩ | ⟨h1, h2⟩ <;> rw [h1, h2, Nat.mul_add]
  · iintro H1 H2
    iapply (rows_join (wk s) c _ _ _ _) $$ [H1 H2]
    isplitl [H1]; · iexact H1
    iexact H2
  · iintro H1 H2
    iapply (rows_join (wk s) c _ _ _ _) $$ [H1 H2]
    isplitl [H2]; · iexact H2
    iexact H1

/-- The final half of round 2 from the two of round 3. -/
theorem final_two (s : Fin 3) (c : Dev nD) : final fa fb s 3 c ⊢ iprop(other fa fb s 3 c -∗ final fa fb s 2 c) := by
  iintro H1 H2
  ihave H := (final_join fa fb s 3 c) $$ H1 H2
  ihave H := (rows_cast (wk s) c (congrArg (96 * ·) (kp_two_three s c).symm) (h' := 96 * hh 3 + 96 * hh 3) rfl) $$ H
  unfold final
  iexact H
/-- The final half of round 1 from the two of round 2. -/
theorem final_one (s : Fin 3) (c : Dev nD) : final fa fb s 2 c ⊢ iprop(other fa fb s 2 c -∗ final fa fb s 1 c) := by
  iintro H1 H2
  ihave H := (final_join fa fb s 2 c) $$ H1 H2
  ihave H := (rows_cast (wk s) c (congrArg (96 * ·) (kp_one_two s c).symm) (h' := 96 * hh 2 + 96 * hh 2) rfl) $$ H
  unfold final
  iexact H
/-- The final half of round 0 from the two of round 1. -/
theorem final_zero (s : Fin 3) (c : Dev nD) : final fa fb s 1 c ⊢ iprop(other fa fb s 1 c -∗ final fa fb s 0 c) := by
  iintro H1 H2
  ihave H := (final_join fa fb s 1 c) $$ H1 H2
  ihave H := (rows_cast (wk s) c (congrArg (96 * ·) (kp_zero_one s c).symm) (h' := 96 * hh 1 + 96 * hh 1) rfl) $$ H
  unfold final
  iexact H
/-- A stream's whole working buffer, all of it final. -/
def whole (s : Fin 3) (c : Dev nD) : sProp 𝕄 := rows (wk s) c 0 1536 (Fn fa fb s)

/-- After the last round the whole working buffer is final. -/
theorem final_all (s : Fin 3) (c : Dev nD) :
    final fa fb s 0 c ⊢ iprop(other fa fb s 0 c -∗ whole fa fb s c) := by
  unfold whole
  iintro H1 H2
  iapply (final_join fa fb s 0 c) $$ H1 H2

/-! ## Running the body's parts -/

/-- A program that has returned. -/
theorem wp_done (c : Dev nD) {α : Type} (a : α) (Q : α → sProp 𝕄) : Q a ⊢ WP c (Prog.ret a) Q := by
  unfold WP
  rw [wp_ret]
  iintro H
  imodintro
  iexact H

/-- A part of the kernel's body at the buffers and semaphores it runs on. -/
abbrev run {β : Type 1} (p : (arg0 : Memref sig .tc .vmem S1536x768 .bf16) → arg0.IsWhole → (arg1 : Memref sig .tc .vmem S768x1536 .bf16) → arg1.IsWhole
    → (arg2 : Memref sig .tc .vmem S1536x1536 .bf16) → arg2.IsWhole → (arg3 : Memref sig .tc .vmem S1536x576 .bf16) → arg3.IsWhole
    → (arg4 : Memref sig .tc .vmem S1536x512 .bf16) → arg4.IsWhole → (arg5 : Memref sig .tc .vmem S1536x448 .bf16) → arg5.IsWhole
    → (arg6 : Memref sig .tc .vmem S1440x576 .bf16) → arg6.IsWhole → (arg7 : Memref sig .tc .vmem S1440x512 .bf16) → arg7.IsWhole
    → (arg8 : Memref sig .tc .vmem S1440x448 .bf16) → arg8.IsWhole
    → DmaSems sig S12 → DmaSems sig S12 → DmaSems sig S12 → DmaSems sig S12 → β) : β :=
  p (Memref.whole cc0_stg0_0) (Memref.isWhole_whole _) (Memref.whole cc0_stg1_0) (Memref.isWhole_whole _)
    (Memref.whole cc0_stg2_0) (Memref.isWhole_whole _) (Memref.whole cc0_scratch0) (Memref.isWhole_whole _)
    (Memref.whole cc0_scratch1) (Memref.isWhole_whole _) (Memref.whole cc0_scratch2) (Memref.isWhole_whole _)
    (Memref.whole cc0_scratch3) (Memref.isWhole_whole _) (Memref.whole cc0_scratch4) (Memref.isWhole_whole _)
    (Memref.whole cc0_scratch5) (Memref.isWhole_whole _) cc0_scratch6 cc0_scratch7 cc0_scratch8 cc0_scratch9

end Cert.KernelIdeal.Prf
-- ==== Proof.IdealWords.lean ====
/-
# The kernel's device and offset words

Each device the kernel signals or sends to is its neighbour of the round, and each row offset it computes is the one the
round names: checked for all sixteen devices.
-/
module

public import proofs.«01_k».proof.Proof.IdealProto

@[expose] public section

namespace Cert.KernelIdeal.Prf

open Cert.KernelIdeal Cert.KernelIdeal.Gen Cert.Mesh
open Idealize.ShloMosaic

/-! ## Devices -/

theorem dev1 (c : Dev nD) : (⟨k0_dev1 c, k0_dev1_lt c⟩ : Dev nD) = pr 0 c := by revert c; decide +kernel
theorem dev2 (c : Dev nD) : (⟨k0_dev2 c, k0_dev2_lt c⟩ : Dev nD) = pr 1 c := by revert c; decide +kernel
theorem dev3 (c : Dev nD) : (⟨k0_dev3 c, k0_dev3_lt c⟩ : Dev nD) = pr 2 c := by revert c; decide +kernel
theorem dev4 (c : Dev nD) : (⟨k0_dev4 c, k0_dev4_lt c⟩ : Dev nD) = pr 3 c := by revert c; decide +kernel
theorem dev5 (c : Dev nD) : (⟨k0_dev5 c, k0_dev5_lt c⟩ : Dev nD) = pe 0 0 c := by revert c; decide +kernel
theorem dev6 (c : Dev nD) : (⟨k0_dev6 c, k0_dev6_lt c⟩ : Dev nD) = pe 1 0 c := by revert c; decide +kernel
theorem dev7 (c : Dev nD) : (⟨k0_dev7 c, k0_dev7_lt c⟩ : Dev nD) = pe 2 0 c := by revert c; decide +kernel
theorem dev8 (c : Dev nD) : (⟨k0_dev8 c, k0_dev8_lt c⟩ : Dev nD) = pe 2 1 c := by revert c; decide +kernel
theorem dev9 (c : Dev nD) : (⟨k0_dev9 c, k0_dev9_lt c⟩ : Dev nD) = pe 1 1 c := by revert c; decide +kernel
theorem dev10 (c : Dev nD) : (⟨k0_dev10 c, k0_dev10_lt c⟩ : Dev nD) = pe 0 1 c := by revert c; decide +kernel
theorem dev11 (c : Dev nD) : (⟨k0_dev11 c, k0_dev11_lt c⟩ : Dev nD) = pe 1 2 c := by revert c; decide +kernel
theorem dev12 (c : Dev nD) : (⟨k0_dev12 c, k0_dev12_lt c⟩ : Dev nD) = pe 0 2 c := by revert c; decide +kernel
theorem dev13 (c : Dev nD) : (⟨k0_dev13 c, k0_dev13_lt c⟩ : Dev nD) = pe 2 2 c := by revert c; decide +kernel
theorem dev14 (c : Dev nD) : (⟨k0_dev14 c, k0_dev14_lt c⟩ : Dev nD) = pe 2 3 c := by revert c; decide +kernel
theorem dev15 (c : Dev nD) : (⟨k0_dev15 c, k0_dev15_lt c⟩ : Dev nD) = pe 0 3 c := by revert c; decide +kernel
theorem dev16 (c : Dev nD) : (⟨k0_dev16 c, k0_dev16_lt c⟩ : Dev nD) = pe 1 3 c := by revert c; decide +kernel
theorem dev17 (c : Dev nD) : (⟨k0_dev17 c, k0_dev17_lt c⟩ : Dev nD) = pe 2 3 c := by revert c; decide +kernel
theorem dev18 (c : Dev nD) : (⟨k0_dev18 c, k0_dev18_lt c⟩ : Dev nD) = pe 1 3 c := by revert c; decide +kernel
theorem dev19 (c : Dev nD) : (⟨k0_dev19 c, k0_dev19_lt c⟩ : Dev nD) = pe 0 3 c := by revert c; decide +kernel
theorem dev20 (c : Dev nD) : (⟨k0_dev20 c, k0_dev20_lt c⟩ : Dev nD) = pe 2 2 c := by revert c; decide +kernel
theorem dev21 (c : Dev nD) : (⟨k0_dev21 c, k0_dev21_lt c⟩ : Dev nD) = pe 1 2 c := by revert c; decide +kernel
theorem dev22 (c : Dev nD) : (⟨k0_dev22 c, k0_dev22_lt c⟩ : Dev nD) = pe 0 2 c := by revert c; decide +kernel
theorem dev23 (c : Dev nD) : (⟨k0_dev23 c, k0_dev23_lt c⟩ : Dev nD) = pe 2 1 c := by revert c; decide +kernel
theorem dev24 (c : Dev nD) : (⟨k0_dev24 c, k0_dev24_lt c⟩ : Dev nD) = pe 0 1 c := by revert c; decide +kernel
theorem dev25 (c : Dev nD) : (⟨k0_dev25 c, k0_dev25_lt c⟩ : Dev nD) = pe 1 1 c := by revert c; decide +kernel
theorem dev26 (c : Dev nD) : (⟨k0_dev26 c, k0_dev26_lt c⟩ : Dev nD) = pe 1 0 c := by revert c; decide +kernel
theorem dev27 (c : Dev nD) : (⟨k0_dev27 c, k0_dev27_lt c⟩ : Dev nD) = pe 0 0 c := by revert c; decide +kernel
theorem dev28 (c : Dev nD) : (⟨k0_dev28 c, k0_dev28_lt c⟩ : Dev nD) = pe 2 0 c := by revert c; decide +kernel

/-! ## Row offsets -/

theorem off1 (c : Dev nD) : k0_off1 c = ![96 * sd 0 0 c, 0] := by revert c; decide +kernel
theorem off2 (c : Dev nD) : k0_off2 c = ![96 * sd 1 0 c, 0] := by revert c; decide +kernel
theorem off3 (c : Dev nD) : k0_off3 c = ![96 * sd 2 0 c, 0] := by revert c; decide +kernel
theorem off4 (c : Dev nD) : k0_off4 c = ![96 * kp 2 0 c, 0] := by revert c; decide +kernel
theorem off5 (c : Dev nD) : k0_off5 c = ![96 * sd 2 1 c, 0] := by revert c; decide +kernel
theorem off6 (c : Dev nD) : k0_off6 c = ![96 * kp 1 0 c, 0] := by revert c; decide +kernel
theorem off7 (c : Dev nD) : k0_off7 c = ![96 * sd 1 1 c, 0] := by revert c; decide +kernel
theorem off8 (c : Dev nD) : k0_off8 c = ![96 * kp 0 0 c, 0] := by revert c; decide +kernel
theorem off9 (c : Dev nD) : k0_off9 c = ![96 * sd 0 1 c, 0] := by revert c; decide +kernel
theorem off10 (c : Dev nD) : k0_off10 c = ![96 * kp 1 1 c, 0] := by revert c; decide +kernel
theorem off11 (c : Dev nD) : k0_off11 c = ![96 * sd 1 2 c, 0] := by revert c; decide +kernel
theorem off12 (c : Dev nD) : k0_off12 c = ![96 * kp 0 1 c, 0] := by revert c; decide +kernel
theorem off13 (c : Dev nD) : k0_off13 c = ![96 * sd 0 2 c, 0] := by revert c; decide +kernel
theorem off14 (c : Dev nD) : k0_off14 c = ![96 * kp 2 1 c, 0] := by revert c; decide +kernel
theorem off15 (c : Dev nD) : k0_off15 c = ![96 * sd 2 2 c, 0] := by revert c; decide +kernel
theorem off16 (c : Dev nD) : k0_off16 c = ![96 * kp 2 2 c, 0] := by revert c; decide +kernel
theorem off17 (c : Dev nD) : k0_off17 c = ![96 * sd 2 3 c, 0] := by revert c; decide +kernel
theorem off18 (c : Dev nD) : k0_off18 c = ![96 * kp 0 2 c, 0] := by revert c; decide +kernel
theorem off19 (c : Dev nD) : k0_off19 c = ![96 * sd 0 3 c, 0] := by revert c; decide +kernel
theorem off20 (c : Dev nD) : k0_off20 c = ![96 * kp 1 2 c, 0] := by revert c; decide +kernel
theorem off21 (c : Dev nD) : k0_off21 c = ![96 * sd 1 3 c, 0] := by revert c; decide +kernel
theorem off22 (c : Dev nD) : k0_off22 c = ![96 * kp 2 3 c, 0] := by revert c; decide +kernel
theorem off23 (c : Dev nD) : k0_off23 c = ![96 * kp 2 3 c, 0] := by revert c; decide +kernel
theorem off24 (c : Dev nD) : k0_off24 c = ![96 * kp 1 3 c, 0] := by revert c; decide +kernel
theorem off25 (c : Dev nD) : k0_off25 c = ![96 * kp 1 3 c, 0] := by revert c; decide +kernel
theorem off26 (c : Dev nD) : k0_off26 c = ![96 * kp 0 3 c, 0] := by revert c; decide +kernel
theorem off27 (c : Dev nD) : k0_off27 c = ![96 * kp 0 3 c, 0] := by revert c; decide +kernel
theorem off28 (c : Dev nD) : k0_off28 c = ![96 * kp 2 2 c, 0] := by revert c; decide +kernel
theorem off29 (c : Dev nD) : k0_off29 c = ![96 * kp 1 2 c, 0] := by revert c; decide +kernel
theorem off30 (c : Dev nD) : k0_off30 c = ![96 * kp 0 2 c, 0] := by revert c; decide +kernel
theorem off31 (c : Dev nD) : k0_off31 c = ![96 * kp 2 1 c, 0] := by revert c; decide +kernel
theorem off32 (c : Dev nD) : k0_off32 c = ![96 * kp 0 1 c, 0] := by revert c; decide +kernel
theorem off33 (c : Dev nD) : k0_off33 c = ![96 * kp 1 1 c, 0] := by revert c; decide +kernel
theorem off34 (c : Dev nD) : k0_off34 c = ![96 * kp 1 0 c, 0] := by revert c; decide +kernel
theorem off35 (c : Dev nD) : k0_off35 c = ![96 * kp 0 0 c, 0] := by revert c; decide +kernel
theorem off36 (c : Dev nD) : k0_off36 c = ![96 * kp 2 0 c, 0] := by revert c; decide +kernel

end Cert.KernelIdeal.Prf
-- ==== Proof.IdealStart.lean ====
/-
# The barrier and the three products

The body's parts 1 to 6: the barrier with the four neighbours, each stream's product stored in its working buffer, and
the first transfer of two of the streams.
-/
module

public import proofs.«01_k».proof.Proof.IdealRound
public import proofs.«01_k».proof.Proof.IdealWords

@[expose] public section

noncomputable section

namespace Cert.KernelIdeal.Prf

open Cert.KernelIdeal Cert.KernelIdeal.Gen Cert.Bands Cert.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (fa : (c : Dev nD) → Buf (Elt F) ((xM : Memref sig .tc .vmem S1536x768 .bf16).view.loc (c : Thread nD τ)))
  (fb : (c : Dev nD) → Buf (Elt F) ((yM : Memref sig .tc .vmem S768x1536 .bf16).view.loc (c : Thread nD τ)))
variable (K : Dev nD × CI → ℕ)

/-- The left operand of device `c`, as the launch hands it over. -/
def hasX (c : Dev nD) : sProp 𝕄 := ((xM : Memref sig .tc .vmem S1536x768 .bf16).view.loc (c : Thread nD τ)) ↦{fullShare} fa c
/-- The right operand of device `c`. -/
def hasY (c : Dev nD) : sProp 𝕄 := ((yM : Memref sig .tc .vmem S768x1536 .bf16).view.loc (c : Thread nD τ)) ↦{fullShare} fb c

/-- Loading a block of the left operand. -/
theorem load_x (c : Dev nD) {r : LoadRect S1536x768} {hl : (xM : Memref sig .tc .vmem S1536x768 .bf16).view.LoadsAt r}
    {α : Type} {Q : α → sProp 𝕄} {kt : (r.shape.Idx → Elt F .bf16) → Prog (TpuEff nD τ sig (Elt F) Λ₀ .tc) α} :
    hasX fa c ⊢ iprop((hasX fa c -∗ WP c (kt ((xM : Memref sig .tc .vmem S1536x768 .bf16).view.readAt (Elt F) r (fa c))) Q)
      -∗ WP c (.op (.load xM r hl) kt) Q) :=
  wp_load 𝒱₀ (c : Thread nD τ) none Set.univ (Finset.subset_univ _)

/-- Loading a block of the right operand. -/
theorem load_y (c : Dev nD) {r : LoadRect S768x1536} {hl : (yM : Memref sig .tc .vmem S768x1536 .bf16).view.LoadsAt r}
    {α : Type} {Q : α → sProp 𝕄} {kt : (r.shape.Idx → Elt F .bf16) → Prog (TpuEff nD τ sig (Elt F) Λ₀ .tc) α} :
    hasY fb c ⊢ iprop((hasY fb c -∗ WP c (kt ((yM : Memref sig .tc .vmem S768x1536 .bf16).view.readAt (Elt F) r (fb c))) Q)
      -∗ WP c (.op (.load yM r hl) kt) Q) :=
  wp_load 𝒱₀ (c : Thread nD τ) none Set.univ (Finset.subset_univ _)

/-- A stream's working buffer before the first store, of any contents. -/
def blank (s : Fin 3) (c : Dev nD) : sProp 𝕄 := anyRows (F := F) (wk s) c 0 1536

/-- Loading the whole working buffer before the first store: what is read is not used. -/
theorem load_blank (s : Fin 3) (c : Dev nD) {off : Fin 2 → ℕ} (hoff : off = ![0, 0])
    {inb : ∀ k, off k + (S2 1536 (wd s)).size k ≤ (S2 1536 (wd s)).size k}
    {hl : (wk s).view.LoadsAt (Rect.unit (s := S2 1536 (wd s)) off (S2 1536 (wd s)).size inb).toLoadRect}
    {α : Type} {Q : α → sProp 𝕄} {kt : ((S2 1536 (wd s)).Idx → Elt F .bf16) → Prog (TpuEff nD τ sig (Elt F) Λ₀ .tc) α} :
    blank s c ⊢ iprop((∀ v, blank s c -∗ WP c (kt v) Q)
      -∗ WP c (.op (.load (wk s) (Rect.unit (s := S2 1536 (wd s)) off (S2 1536 (wd s)).size inb).toLoadRect hl) kt) Q) := by
  unfold blank anyRows
  iintro ⟨%f, H⟩ Hk
  iapply (wp_load_rows (wk s) c 𝒱₀ none Set.univ hoff (le_refl _) (le_refl _)) $$ H
  iintro H
  iapply Hk
  iexists f
  iexact H

/-- Storing the device's own product into the whole working buffer. -/
theorem store_start (s : Fin 3) (c : Dev nD) {off : Fin 2 → ℕ} (hoff : off = ![0, 0])
    {inb : ∀ k, off k + (S2 1536 (wd s)).size k ≤ (S2 1536 (wd s)).size k} {v : (S2 1536 (wd s)).Idx → Elt F .bf16}
    (hv : v = vec 1536 (V0 fa fb s c) 0)
    {hx : ((wk s).access (Rect.unit (s := S2 1536 (wd s)) off (S2 1536 (wd s)).size inb)).Stores Finset.univ}
    {hm : (Finset.univ : Finset (S2 1536 (wd s)).Idx) = Finset.univ ∨ ∀ a, (Rect.unit (s := S2 1536 (wd s)) off (S2 1536 (wd s)).size inb).stride a = 1}
    {α : Type} {Q : α → sProp 𝕄} {kt : PUnit → Prog (TpuEff nD τ sig (Elt F) Λ₀ .tc) α} :
    blank s c ⊢ iprop((held fa fb s 0 c -∗ WP c (kt ⟨⟩) Q)
      -∗ WP c (.op (.store (wk s) (Rect.unit (s := S2 1536 (wd s)) off (S2 1536 (wd s)).size inb) v Finset.univ hx hm) kt) Q) := by
  unfold blank anyRows held
  iintro ⟨%f, H⟩ Hk
  iapply (wp_store_rows (wk s) c 𝒱₀ none Set.univ hoff hv) $$ H
  iintro H
  iapply Hk
  iexact H

/-! ## The landing bands that the barrier hands over -/

/-- The landing bands for the neighbour in direction 0. -/
theorem lands_zero (c : Dev nD) : lands (F := F) 0 (pr 0 c) = iprop(land 0 0 c ∗ land 1 1 c ∗ land 2 2 c) := rfl
/-- The landing bands for the neighbour in direction 1. -/
theorem lands_one (c : Dev nD) : lands (F := F) 1 (pr 1 c) = iprop(land 0 1 c ∗ land 1 0 c ∗ land 2 3 c) := rfl
/-- The landing bands for the neighbour in direction 2. -/
theorem lands_two (c : Dev nD) : lands (F := F) 2 (pr 2 c) = iprop(land 0 2 c ∗ land 1 3 c ∗ land 2 0 c) := rfl
/-- The landing bands for the neighbour in direction 3. -/
theorem lands_three (c : Dev nD) : lands (F := F) 3 (pr 3 c) = iprop(land 0 3 c ∗ land 1 2 c ∗ land 2 1 c) := rfl

/-- The landing bands of all the peers of device `c`. -/
def allLand (c : Dev nD) : sProp 𝕄 :=
  iprop((land (F := F) 0 0 c ∗ land 1 1 c ∗ land 2 2 c) ∗ (land 0 1 c ∗ land 1 0 c ∗ land 2 3 c)
    ∗ (land 0 2 c ∗ land 1 3 c ∗ land 2 0 c) ∗ land 0 3 c ∗ land 1 2 c ∗ land 2 1 c)

/-- What a device brings to the barrier: a duty and its landing bands for each neighbour, and its own cell with the credit to come. -/
def gate (c : Dev nD) : sProp 𝕄 :=
  iprop((dutyTok ER (barCell (pr 0 c)) 0 0 ∗ dutyTok ER (barCell (pr 1 c)) 0 1 ∗ dutyTok ER (barCell (pr 2 c)) 0 2 ∗ dutyTok ER (barCell (pr 3 c)) 0 3)
    ∗ (lands (F := F) 0 c ∗ lands 1 c ∗ lands 2 c ∗ lands 3 c) ∗ cred (tallyAt (barCell c) () 4) ∗ atPos ER (barCell c) 0 ∅ 0)

/-- The barrier: four signals and the wait. -/
theorem barrier (c : Dev nD) {n₀ n₁ n₂ n₃ : Dev nD} (h₀ : n₀ = pr 0 c) (h₁ : n₁ = pr 1 c) (h₂ : n₂ = pr 2 c) (h₃ : n₃ = pr 3 c)
    {v₀ v₁ v₂ v₃ w : ℕ} (g₀ : v₀ = 1) (g₁ : v₁ = 1) (g₂ : v₂ = 1) (g₃ : v₃ = 1) (hw : w = 4)
    {α : Type} {Q : α → sProp 𝕄} {kt : PUnit → Prog (TpuEff nD τ sig (Elt F) Λ₀ .tc) α} :
    records fa fb K ⊢ iprop(gate c -∗ owN 0 c -∗ ((semVal (barCell c) 0 ∗ allLand c ∗ owN 4 c) -∗ WP c (kt ⟨⟩) Q)
      -∗ WP c (.op (.semSignal (n₀ : Thread nD τ) barS v₀) fun _ => .op (.semSignal (n₁ : Thread nD τ) barS v₁) fun _ =>
          .op (.semSignal (n₂ : Thread nD τ) barS v₂) fun _ => .op (.semSignal (n₃ : Thread nD τ) barS v₃) fun _ =>
          .op (.semWait barS w) kt) Q) := by
  unfold gate owN
  iintro #HR ⟨⟨Ht0, Ht1, Ht2, Ht3⟩, ⟨Hl0, Hl1, Hl2, Hl3⟩, Hc, Ha⟩ HO Hk
  iapply (wp_bar_signal fa fb K 0 c n₀ h₀ g₀ (l := pays.drop 1)) $$ [Ht0 Hl0 HO]
  · isplitr; · iexact HR
    isplitl [Ht0]; · iexact Ht0
    isplitl [Hl0]; · iexact Hl0
    iexact HO
  iintro HO
  iapply (wp_bar_signal fa fb K 1 c n₁ h₁ g₁ (l := pays.drop 2)) $$ [Ht1 Hl1 HO]
  · isplitr; · iexact HR
    isplitl [Ht1]; · iexact Ht1
    isplitl [Hl1]; · iexact Hl1
    iexact HO
  iintro HO
  iapply (wp_bar_signal fa fb K 2 c n₂ h₂ g₂ (l := pays.drop 3)) $$ [Ht2 Hl2 HO]
  · isplitr; · iexact HR
    isplitl [Ht2]; · iexact Ht2
    isplitl [Hl2]; · iexact Hl2
    iexact HO
  iintro HO
  iapply (wp_bar_signal fa fb K 3 c n₃ h₃ g₃ (l := pays.drop 4)) $$ [Ht3 Hl3 HO]
  · isplitr; · iexact HR
    isplitl [Ht3]; · iexact Ht3
    isplitl [Hl3]; · iexact Hl3
    iexact HO
  iintro HO
  iapply (wp_bar_wait fa fb K c hw (l := pays.drop 4) (by decide)) $$ [Hc Ha HO]
  · isplitr; · iexact HR
    isplitl [Hc]; · iexact Hc
    isplitl [Ha]; · iexact Ha
    iexact HO
  rw [lands_zero, lands_one, lands_two, lands_three]
  iintro ⟨HO, Hz, H0, H1, H2, H3⟩
  iapply Hk
  unfold allLand
  isplitl [Hz]; · iexact Hz
  isplitl [H0 H1 H2 H3]
  · isplitl [H0]; · iexact H0
    isplitl [H1]; · iexact H1
    isplitl [H2]; · iexact H2
    iexact H3
  iexact HO

/-- The device's index. -/
theorem read_id (c : Dev nD) {α : Type} {Q : α → sProp 𝕄} {kt : Dev nD → Prog (TpuEff nD τ sig (Elt F) Λ₀ .tc) α} :
    WP c (kt c) Q ⊢ WP c (.op .deviceId kt) Q := by
  unfold WP
  rw [wp_deviceId]

/-! ## The first six parts -/

/-- Part 1: the barrier, and the first four chunks of the first stream's order. -/
theorem part1 (c : Dev nD) (Q : _ → sProp 𝕄) :
    records fa fb K ⊢ iprop(gate c -∗ owN 0 c -∗ hasX fa c
      -∗ (∀ r, (⌜c = r.1 ∧ r.2.2.1 = k0_pay1 (ach fa c 0 inb_S1536x768_S96x768_0_0) ∧ r.2.2.2.1 = k0_pay2 (ach fa c 768 inb_S1536x768_S96x768_768_0)
            ∧ r.2.2.2.2.1 = k0_pay3 (ach fa c 384 inb_S1536x768_S96x768_384_0) ∧ r.2.2.2.2.2 = k0_pay4 (ach fa c 1152 inb_S1536x768_S96x768_1152_0)⌝
          ∗ semVal (barCell c) 0 ∗ allLand c ∗ hasX fa c ∗ owN 4 c) -∗ Q r)
      -∗ WP c (run (k0_part1 (F := F))) Q) := by
  rw [k0_part1_eq_skeleton]; unfold run k0_part1_skel
  simp only [Prog.lift, Prog.bind_op, Prog.bind_ret, Prog.pure_eq_ret, semSignalWord, semWaitWord]
  iintro #HR HG HO HX Hk
  iapply (read_id c)
  iapply (barrier fa fb K c (dev1 c) (dev2 c) (dev3 c) (dev4 c) rfl rfl rfl rfl rfl) $$ HR HG HO
  iintro ⟨Hz, HL, HO⟩
  iterate 4 (iapply (load_x fa c) $$ HX; iintro HX)
  iapply wp_done
  iapply Hk
  isplitr; · ipureintro; exact ⟨rfl, rfl, rfl, rfl, rfl⟩
  iframe

/-- Part 2: the rest of the first stream's chunks, and their product stored. -/
theorem part2 (c : Dev nD) (v17 v19 v21 v23 : FVec F S96x768 .bf16) (h17 : v17 = k0_pay1 (ach fa c 0 inb_S1536x768_S96x768_0_0))
    (h19 : v19 = k0_pay2 (ach fa c 768 inb_S1536x768_S96x768_768_0)) (h21 : v21 = k0_pay3 (ach fa c 384 inb_S1536x768_S96x768_384_0))
    (h23 : v23 = k0_pay4 (ach fa c 1152 inb_S1536x768_S96x768_1152_0)) (Q : _ → sProp 𝕄) :
    hasX fa c ⊢ iprop(hasY fb c -∗ blank 0 c -∗ (∀ r, (hasX fa c ∗ hasY fb c ∗ held fa fb 0 0 c) -∗ Q r)
      -∗ WP c (run (k0_part2 (F := F)) v17 v19 v21 v23) Q) := by
  subst h17 h19 h21 h23
  rw [k0_part2_eq_skeleton]; unfold run k0_part2_skel
  simp only [Prog.lift, Prog.bind_op, Prog.bind_ret, Prog.pure_eq_ret]
  iintro HX HY HW Hk
  iterate 12 (iapply (load_x fa c) $$ HX; iintro HX)
  iapply (load_y fb c) $$ HY; iintro HY
  iapply (load_blank 0 c rfl) $$ HW; iintro %_ HW
  iapply (store_start fa fb 0 c rfl (vec_tab zero16 (prod0 fa fb c)).symm) $$ HW; iintro HW
  iapply wp_done
  iapply Hk
  iframe

/-- Part 3: the first stream's first transfer starts, and the first chunks of the second stream's order. -/
theorem part3 (c : Dev nD) (v2 : BitVec 32) (Q : _ → sProp 𝕄) :
    records fa fb K ⊢ iprop(held fa fb 0 0 c -∗ idle 0 1 0 0 c -∗ land 0 0 c -∗ owN 4 c -∗ hasX fa c
      -∗ (∀ r, (⌜r.2.2.1 = k0_pay6 (ach fa c 0 inb_S1536x768_S96x768_0_0) ∧ r.2.2.2.1 = k0_pay7 (ach fa c 384 inb_S1536x768_S96x768_384_0)
            ∧ r.2.2.2.2.1 = k0_pay8 (ach fa c 768 inb_S1536x768_S96x768_768_0) ∧ r.2.2.2.2.2.1 = k0_pay9 (ach fa c 1152 inb_S1536x768_S96x768_1152_0)
            ∧ r.2.2.2.2.2.2.1 = k0_pay10 (ach fa c 96 inb_S1536x768_S96x768_96_0) ∧ r.2.2.2.2.2.2.2 = ach fa c 480 inb_S1536x768_S96x768_480_0⌝
          ∗ fly 0 1 0 0 c ∗ kept fa fb 0 0 c ∗ hasX fa c ∗ owN 5 c) -∗ Q r)
      -∗ WP c (run (k0_part3 (F := F)) c v2) Q) := by
  rw [k0_part3_eq_skeleton]; unfold run k0_part3_skel
  simp only [Prog.lift, Prog.bind_op, Prog.bind_ret, Prog.pure_eq_ret]
  iintro #HR HW HI HL HO HX Hk
  iapply (rs_send fa fb K 0 0 4 rfl c (dev5 c) (off1 c) rfl rfl rfl) $$ HR HI HW HL HO
  iintro ⟨HF, HW, HO⟩
  iterate 6 (iapply (load_x fa c) $$ HX; iintro HX)
  iapply wp_done
  iapply Hk
  isplitr; · ipureintro; exact ⟨rfl, rfl, rfl, rfl, rfl, rfl⟩
  iframe

/-- Part 4: the rest of the second stream's chunks, and their product stored. -/
theorem part4 (c : Dev nD) (v2 : BitVec 32) (v76 v78 v80 v82 v84 v85 : FVec F S96x768 .bf16)
    (h76 : v76 = k0_pay6 (ach fa c 0 inb_S1536x768_S96x768_0_0)) (h78 : v78 = k0_pay7 (ach fa c 384 inb_S1536x768_S96x768_384_0))
    (h80 : v80 = k0_pay8 (ach fa c 768 inb_S1536x768_S96x768_768_0)) (h82 : v82 = k0_pay9 (ach fa c 1152 inb_S1536x768_S96x768_1152_0))
    (h84 : v84 = k0_pay10 (ach fa c 96 inb_S1536x768_S96x768_96_0)) (h85 : v85 = ach fa c 480 inb_S1536x768_S96x768_480_0) (Q : _ → sProp 𝕄) :
    hasX fa c ⊢ iprop(hasY fb c -∗ blank 1 c -∗ (∀ r, (hasX fa c ∗ hasY fb c ∗ held fa fb 1 0 c) -∗ Q r)
      -∗ WP c (run (k0_part4 (F := F)) v2 v76 v78 v80 v82 v84 v85) Q) := by
  subst h76 h78 h80 h82 h84 h85
  rw [k0_part4_eq_skeleton]; unfold run k0_part4_skel
  simp only [Prog.lift, Prog.bind_op, Prog.bind_ret, Prog.pure_eq_ret]
  iintro HX HY HW Hk
  iterate 10 (iapply (load_x fa c) $$ HX; iintro HX)
  iapply (load_y fb c) $$ HY; iintro HY
  iapply (load_blank 1 c rfl) $$ HW; iintro %_ HW
  iapply (store_start fa fb 1 c rfl (vec_tab zero16 (prod1 fa fb c)).symm) $$ HW; iintro HW
  iapply wp_done
  iapply Hk
  iframe

/-- Part 5: the second stream's first transfer starts, and the first chunks of the third stream's order. -/
theorem part5 (c : Dev nD) (v2 v116 w : BitVec 32) (Q : _ → sProp 𝕄) :
    records fa fb K ⊢ iprop(held fa fb 1 0 c -∗ idle 0 1 1 0 c -∗ land 1 0 c -∗ owN 5 c -∗ hasX fa c
      -∗ (∀ r, (⌜r.2.2.1 = k0_pay12 (ach fa c 0 inb_S1536x768_S96x768_0_0) ∧ r.2.2.2.1 = k0_pay13 (ach fa c 288 inb_S1536x768_S96x768_288_0)
            ∧ r.2.2.2.2.1 = k0_pay14 (ach fa c 96 inb_S1536x768_S96x768_96_0) ∧ r.2.2.2.2.2.1 = k0_pay15 (ach fa c 192 inb_S1536x768_S96x768_192_0)
            ∧ r.2.2.2.2.2.2.1 = k0_pay16 (ach fa c 768 inb_S1536x768_S96x768_768_0) ∧ r.2.2.2.2.2.2.2.1 = k0_pay17 (ach fa c 1056 inb_S1536x768_S96x768_1056_0)
            ∧ r.2.2.2.2.2.2.2.2.1 = k0_pay18 (ach fa c 864 inb_S1536x768_S96x768_864_0) ∧ r.2.2.2.2.2.2.2.2.2 = ach fa c 960 inb_S1536x768_S96x768_960_0⌝
          ∗ fly 0 1 1 0 c ∗ kept fa fb 1 0 c ∗ hasX fa c ∗ owN 6 c) -∗ Q r)
      -∗ WP c (run (k0_part5 (F := F)) c v2 v116 w) Q) := by
  rw [k0_part5_eq_skeleton]; unfold run k0_part5_skel
  simp only [Prog.lift, Prog.bind_op, Prog.bind_ret, Prog.pure_eq_ret]
  iintro #HR HW HI HL HO HX Hk
  iapply (rs_send fa fb K 1 0 5 rfl c (dev6 c) (off2 c) rfl rfl rfl) $$ HR HI HW HL HO
  iintro ⟨HF, HW, HO⟩
  iterate 8 (iapply (load_x fa c) $$ HX; iintro HX)
  iapply wp_done
  iapply Hk
  isplitr; · ipureintro; exact ⟨rfl, rfl, rfl, rfl, rfl, rfl, rfl, rfl⟩
  iframe

/-- Part 6: the rest of the third stream's chunks, and their product stored. -/
theorem part6 (c : Dev nD) (v2 : BitVec 32) (v133 v135 v137 v139 v141 v143 v145 v146 : FVec F S96x768 .bf16)
    (h133 : v133 = k0_pay12 (ach fa c 0 inb_S1536x768_S96x768_0_0)) (h135 : v135 = k0_pay13 (ach fa c 288 inb_S1536x768_S96x768_288_0))
    (h137 : v137 = k0_pay14 (ach fa c 96 inb_S1536x768_S96x768_96_0)) (h139 : v139 = k0_pay15 (ach fa c 192 inb_S1536x768_S96x768_192_0))
    (h141 : v141 = k0_pay16 (ach fa c 768 inb_S1536x768_S96x768_768_0)) (h143 : v143 = k0_pay17 (ach fa c 1056 inb_S1536x768_S96x768_1056_0))
    (h145 : v145 = k0_pay18 (ach fa c 864 inb_S1536x768_S96x768_864_0)) (h146 : v146 = ach fa c 960 inb_S1536x768_S96x768_960_0) (Q : _ → sProp 𝕄) :
    hasX fa c ⊢ iprop(hasY fb c -∗ blank 2 c -∗ (∀ r, (hasX fa c ∗ hasY fb c ∗ held fa fb 2 0 c) -∗ Q r)
      -∗ WP c (run (k0_part6 (F := F)) v2 v133 v135 v137 v139 v141 v143 v145 v146) Q) := by
  subst h133 h135 h137 h139 h141 h143 h145 h146
  rw [k0_part6_eq_skeleton]; unfold run k0_part6_skel
  simp only [Prog.lift, Prog.bind_op, Prog.bind_ret, Prog.pure_eq_ret]
  iintro HX HY HW Hk
  iterate 8 (iapply (load_x fa c) $$ HX; iintro HX)
  iapply (load_y fb c) $$ HY; iintro HY
  iapply (load_blank 2 c rfl) $$ HW; iintro %_ HW
  iapply (store_start fa fb 2 c rfl (vec_tab zero16 (prod2 fa fb c)).symm) $$ HW; iintro HW
  iapply wp_done
  iapply Hk
  iframe

end Cert.KernelIdeal.Prf
-- ==== Proof.IdealHalving.lean ====
/-
# The first four rounds, part by part

Each of the body's parts 7 to 22 takes the streams from the state before it to the state after it.
-/
module

public import proofs.«01_k».proof.Proof.IdealRound
public import proofs.«01_k».proof.Proof.IdealWords
public import Idealize.ShloMosaic.Lib.Pipeline.Value

@[expose] public section

noncomputable section

namespace Cert.KernelIdeal.Prf

open Cert.KernelIdeal Cert.KernelIdeal.Gen Cert.Bands Cert.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (fa : (c : Dev nD) → Buf (Elt F) ((xM : Memref sig .tc .vmem S1536x768 .bf16).view.loc (c : Thread nD τ)))
  (fb : (c : Dev nD) → Buf (Elt F) ((yM : Memref sig .tc .vmem S768x1536 .bf16).view.loc (c : Thread nD τ)))
variable (K : Dev nD × CI → ℕ)

/-- The sum that round `j` stores over the half kept. -/
def sumOf (s : Fin 3) (j : Fin 4) (c : Dev nD) : (S2 (96 * hh j) (wd s)).Idx → Elt F .bf16 := fun x =>
  add16 (vec (96 * hh j) (V fa fb j.val s c) (96 * kp s j c) x) (vec (96 * hh j) (Ld fa fb s j c) (96 * so j) x)

/-- The activation of the device's own chunk. -/
def actOf (s : Fin 3) (c : Dev nD) : (S2 96 (wd s)).Idx → Elt F .bf16 := fun x => act (vec 96 (V fa fb 4 s c) (96 * kp s 3 c) x)

/-! ## Parts 7 to 22: the first four rounds of each stream -/

/-- Part 7: stream 2 sends round 0 and receives it; the sum is computed. -/
theorem part7 (c : Dev nD) (v2 v176 v177 w : BitVec 32) (Q : _ → sProp 𝕄) :
    records fa fb K ⊢ iprop(held fa fb 2 0 c -∗ idle 0 1 2 0 c -∗ land 2 0 c -∗ owN 6 c
      -∗ (∀ r, (⌜r.2.1 = sumOf fa fb 2 0 c⌝ ∗ kept fa fb 2 0 c ∗ landed fa fb 2 0 c ∗ spent 0 1 2 0 c ∗ back 2 0 c ∗ owN 7 c)
        -∗ Q r)
      -∗ WP c (run (k0_part7 (F := F)) c v2 v176 v177 w) Q) := by
  rw [k0_part7_eq_skeleton]; unfold run k0_part7_skel
  simp only [Prog.lift, Prog.bind_op, Prog.bind_ret, Prog.pure_eq_ret]
  iintro #HR HW HI HL HO Hk
  iapply (rs_send fa fb K 2 0 6 rfl c (dev7 c) (off3 c) rfl rfl rfl) $$ HR HI HW HL HO
  iintro ⟨HF, HW, HO⟩
  iapply (rs_wait fa fb K 2 0 7 c rfl rfl (by decide) (by decide)) $$ HR HF HO
  iintro ⟨HF, HS, HB, HO⟩
  iapply (load_kept fa fb 2 0 c (off4 c)) $$ HW; iintro HW
  iapply (load_landed fa fb 2 0 c rfl) $$ HS; iintro HS
  iapply (load_kept fa fb 2 0 c (off4 c)) $$ HW; iintro HW
  iapply wp_done
  iapply Hk
  isplitr; · ipureintro; rfl
  iframe

/-- Part 8: stream 2 stores the sum of round 0 and sends round 1; stream 1 receives round 0. -/
theorem part8 (c : Dev nD) (v2 v123 v178 : BitVec 32) (v b : Vec F S768x448 .bf16) (hv : v = sumOf fa fb 2 0 c) (Q : _ → sProp 𝕄) :
    records fa fb K ⊢ iprop(kept fa fb 2 0 c -∗ idle 0 1 2 1 c -∗ land 2 1 c -∗ fly 0 1 1 0 c -∗ owN 7 c
      -∗ (∀ r, (kept fa fb 2 1 c ∗ fly 0 1 2 1 c ∗ landed fa fb 1 0 c ∗ spent 0 1 1 0 c ∗ back 1 0 c ∗ owN 8 c) -∗ Q r)
      -∗ WP c (run (k0_part8 (F := F)) c v2 v123 v178 v b) Q) := by
  rw [k0_part8_eq_skeleton]; unfold run k0_part8_skel
  simp only [Prog.lift, Prog.bind_op, Prog.bind_ret, Prog.pure_eq_ret]
  iintro #HR HW HI HL HF1 HO Hk
  iapply (store_added fa fb 2 0 c (off4 c) ((shapeCast_self _ _).trans hv)) $$ HW; iintro HW
  ihave HW := (held_one fa fb 2 c) $$ HW
  iapply (rs_send fa fb K 2 1 7 rfl c (dev8 c) (off5 c) rfl rfl rfl) $$ HR HI HW HL HO
  iintro ⟨HF, HW, HO⟩
  iapply (rs_wait fa fb K 1 0 8 c rfl rfl (by decide) (by decide)) $$ HR HF1 HO
  iintro ⟨HF1, HS, HB, HO⟩
  iapply wp_done
  iapply Hk
  iframe

/-- Part 9: stream 1 adds round 0 and sends round 1. -/
theorem part9 (c : Dev nD) (v2 v121 : BitVec 32) (Q : _ → sProp 𝕄) :
    records fa fb K ⊢ iprop(kept fa fb 1 0 c -∗ landed fa fb 1 0 c -∗ idle 0 1 1 1 c -∗ land 1 1 c -∗ owN 8 c
      -∗ (∀ r, (landed fa fb 1 0 c ∗ kept fa fb 1 1 c ∗ fly 0 1 1 1 c ∗ owN 9 c) -∗ Q r)
      -∗ WP c (run (k0_part9 (F := F)) c v2 v121) Q) := by
  rw [k0_part9_eq_skeleton]; unfold run k0_part9_skel
  simp only [Prog.lift, Prog.bind_op, Prog.bind_ret, Prog.pure_eq_ret]
  iintro #HR HW HS HI HL HO Hk
  iapply (add_step fa fb 1 0 c (off6 c) rfl (p := k0_pay22) (fun _ _ => shapeCast_self _ _)) $$ HW HS
  iintro ⟨HW, HS⟩
  ihave HW := (held_one fa fb 1 c) $$ HW
  iapply (rs_send fa fb K 1 1 8 rfl c (dev9 c) (off7 c) rfl rfl rfl) $$ HR HI HW HL HO
  iintro ⟨HF, HW, HO⟩
  iapply wp_done
  iapply Hk
  iframe

/-- Part 10: stream 0 receives round 0 and adds it. -/
theorem part10 (c : Dev nD) (v2 v64 v66 : BitVec 32) (Q : _ → sProp 𝕄) :
    records fa fb K ⊢ iprop(kept fa fb 0 0 c -∗ fly 0 1 0 0 c -∗ owN 9 c
      -∗ (∀ r, (added fa fb 0 0 c ∗ landed fa fb 0 0 c ∗ spent 0 1 0 0 c ∗ back 0 0 c ∗ owN 9 c) -∗ Q r)
      -∗ WP c (run (k0_part10 (F := F)) c v2 v64 v66) Q) := by
  rw [k0_part10_eq_skeleton]; unfold run k0_part10_skel
  simp only [Prog.lift, Prog.bind_op, Prog.bind_ret, Prog.pure_eq_ret]
  iintro #HR HW HF HO Hk
  iapply (rs_wait fa fb K 0 0 9 c rfl rfl (by decide) (by decide)) $$ HR HF HO
  iintro ⟨HF, HS, HB, HO⟩
  iapply (add_step fa fb 0 0 c (off8 c) rfl (p := k0_pay23) (fun _ _ => shapeCast_self _ _)) $$ HW HS
  iintro ⟨HW, HS⟩
  iapply wp_done
  iapply Hk
  iframe

/-- Part 11: stream 0 sends round 1; stream 1 receives round 1 and adds it. -/
theorem part11 (c : Dev nD) (v2 v254 v256 : BitVec 32) (Q : _ → sProp 𝕄) :
    records fa fb K ⊢ iprop(added fa fb 0 0 c -∗ idle 0 1 0 1 c -∗ land 0 1 c -∗ kept fa fb 1 1 c -∗ fly 0 1 1 1 c -∗ owN 9 c
      -∗ (∀ r, (kept fa fb 0 1 c ∗ fly 0 1 0 1 c ∗ added fa fb 1 1 c ∗ landed fa fb 1 1 c ∗ spent 0 1 1 1 c ∗ back 1 1 c ∗ owN 10 c) -∗ Q r)
      -∗ WP c (run (k0_part11 (F := F)) c v2 v254 v256) Q) := by
  rw [k0_part11_eq_skeleton]; unfold run k0_part11_skel
  simp only [Prog.lift, Prog.bind_op, Prog.bind_ret, Prog.pure_eq_ret]
  iintro #HR HW HI HL HW1 HF1 HO Hk
  ihave HW := (held_one fa fb 0 c) $$ HW
  iapply (rs_send fa fb K 0 1 9 rfl c (dev10 c) (off9 c) rfl rfl rfl) $$ HR HI HW HL HO
  iintro ⟨HF, HW, HO⟩
  iapply (rs_wait fa fb K 1 1 10 c rfl rfl (by decide) (by decide)) $$ HR HF1 HO
  iintro ⟨HF1, HS, HB, HO⟩
  iapply (add_step fa fb 1 1 c (off10 c) rfl (p := k0_pay24) (fun _ _ => shapeCast_self _ _)) $$ HW1 HS
  iintro ⟨HW1, HS⟩
  iapply wp_done
  iapply Hk
  iframe

/-- Part 12: stream 1 sends round 2; stream 0 receives round 1 and computes the sum. -/
theorem part12 (c : Dev nD) (v2 v291 v293 v326 : BitVec 32) (Q : _ → sProp 𝕄) :
    records fa fb K ⊢ iprop(added fa fb 1 1 c -∗ idle 0 1 1 2 c -∗ land 1 2 c -∗ kept fa fb 0 1 c -∗ fly 0 1 0 1 c -∗ owN 10 c
      -∗ (∀ r, (⌜r.2 = sumOf fa fb 0 1 c⌝ ∗ kept fa fb 1 2 c ∗ fly 0 1 1 2 c ∗ kept fa fb 0 1 c ∗ landed fa fb 0 1 c ∗ spent 0 1 0 1 c ∗ back 0 1 c ∗ owN 11 c)
        -∗ Q r)
      -∗ WP c (run (k0_part12 (F := F)) c v2 v291 v293 v326) Q) := by
  rw [k0_part12_eq_skeleton]; unfold run k0_part12_skel
  simp only [Prog.lift, Prog.bind_op, Prog.bind_ret, Prog.pure_eq_ret]
  iintro #HR HW HI HL HW0 HF0 HO Hk
  ihave HW := (held_two fa fb 1 c) $$ HW
  iapply (rs_send fa fb K 1 2 10 rfl c (dev11 c) (off11 c) rfl rfl rfl) $$ HR HI HW HL HO
  iintro ⟨HF, HW, HO⟩
  iapply (rs_wait fa fb K 0 1 11 c rfl rfl (by decide) (by decide)) $$ HR HF0 HO
  iintro ⟨HF0, HS, HB, HO⟩
  iapply (load_kept fa fb 0 1 c (off12 c)) $$ HW0; iintro HW0
  iapply (load_landed fa fb 0 1 c rfl) $$ HS; iintro HS
  iapply (load_kept fa fb 0 1 c (off12 c)) $$ HW0; iintro HW0
  iapply wp_done
  iapply Hk
  isplitr; · ipureintro; rfl
  iframe

/-- Part 13: stream 0 stores the sum of round 1 and sends round 2; stream 2 receives round 1. -/
theorem part13 (c : Dev nD) (v2 v217 v291 : BitVec 32) (v : Vec F S384x576 .bf16) (hv : v = sumOf fa fb 0 1 c) (Q : _ → sProp 𝕄) :
    records fa fb K ⊢ iprop(kept fa fb 0 1 c -∗ idle 0 1 0 2 c -∗ land 0 2 c -∗ fly 0 1 2 1 c -∗ owN 11 c
      -∗ (∀ r, (kept fa fb 0 2 c ∗ fly 0 1 0 2 c ∗ landed fa fb 2 1 c ∗ spent 0 1 2 1 c ∗ back 2 1 c ∗ owN 12 c) -∗ Q r)
      -∗ WP c (run (k0_part13 (F := F)) c v2 v217 v291 v) Q) := by
  rw [k0_part13_eq_skeleton]; unfold run k0_part13_skel
  simp only [Prog.lift, Prog.bind_op, Prog.bind_ret, Prog.pure_eq_ret]
  iintro #HR HW HI HL HF2 HO Hk
  iapply (store_added fa fb 0 1 c (off12 c) ((shapeCast_self _ _).trans hv)) $$ HW; iintro HW
  ihave HW := (held_two fa fb 0 c) $$ HW
  iapply (rs_send fa fb K 0 2 11 rfl c (dev12 c) (off13 c) rfl rfl rfl) $$ HR HI HW HL HO
  iintro ⟨HF, HW, HO⟩
  iapply (rs_wait fa fb K 2 1 12 c rfl rfl (by decide) (by decide)) $$ HR HF2 HO
  iintro ⟨HF2, HS, HB, HO⟩
  iapply wp_done
  iapply Hk
  iframe

/-- Part 14: stream 2 adds round 1 and sends round 2. -/
theorem part14 (c : Dev nD) (v2 v215 w : BitVec 32) (Q : _ → sProp 𝕄) :
    records fa fb K ⊢ iprop(kept fa fb 2 1 c -∗ landed fa fb 2 1 c -∗ idle 0 1 2 2 c -∗ land 2 2 c -∗ owN 12 c
      -∗ (∀ r, (landed fa fb 2 1 c ∗ kept fa fb 2 2 c ∗ fly 0 1 2 2 c ∗ owN 13 c) -∗ Q r)
      -∗ WP c (run (k0_part14 (F := F)) c v2 v215 w) Q) := by
  rw [k0_part14_eq_skeleton]; unfold run k0_part14_skel
  simp only [Prog.lift, Prog.bind_op, Prog.bind_ret, Prog.pure_eq_ret]
  iintro #HR HW HS HI HL HO Hk
  iapply (add_step fa fb 2 1 c (off14 c) rfl (p := k0_pay27) (fun _ _ => shapeCast_self _ _)) $$ HW HS
  iintro ⟨HW, HS⟩
  ihave HW := (held_two fa fb 2 c) $$ HW
  iapply (rs_send fa fb K 2 2 12 rfl c (dev13 c) (off15 c) rfl rfl rfl) $$ HR HI HW HL HO
  iintro ⟨HF, HW, HO⟩
  iapply wp_done
  iapply Hk
  iframe

/-- Part 15: stream 2 receives round 2 and adds it. -/
theorem part15 (c : Dev nD) (v2 v404 v406 : BitVec 32) (Q : _ → sProp 𝕄) :
    records fa fb K ⊢ iprop(kept fa fb 2 2 c -∗ fly 0 1 2 2 c -∗ owN 13 c
      -∗ (∀ r, (added fa fb 2 2 c ∗ landed fa fb 2 2 c ∗ spent 0 1 2 2 c ∗ back 2 2 c ∗ owN 13 c) -∗ Q r)
      -∗ WP c (run (k0_part15 (F := F)) c v2 v404 v406) Q) := by
  rw [k0_part15_eq_skeleton]; unfold run k0_part15_skel
  simp only [Prog.lift, Prog.bind_op, Prog.bind_ret, Prog.pure_eq_ret]
  iintro #HR HW HF HO Hk
  iapply (rs_wait fa fb K 2 2 13 c rfl rfl (by decide) (by decide)) $$ HR HF HO
  iintro ⟨HF, HS, HB, HO⟩
  iapply (add_step fa fb 2 2 c (off16 c) rfl (p := k0_pay28) (fun _ _ => shapeCast_self _ _)) $$ HW HS
  iintro ⟨HW, HS⟩
  iapply wp_done
  iapply Hk
  iframe

/-- Part 16: stream 2 sends round 3; stream 0 receives round 2 and adds it. -/
theorem part16 (c : Dev nD) (v2 v365 v367 : BitVec 32) (Q : _ → sProp 𝕄) :
    records fa fb K ⊢ iprop(added fa fb 2 2 c -∗ idle 0 1 2 3 c -∗ land 2 3 c -∗ kept fa fb 0 2 c -∗ fly 0 1 0 2 c -∗ owN 13 c
      -∗ (∀ r, (kept fa fb 2 3 c ∗ fly 0 1 2 3 c ∗ added fa fb 0 2 c ∗ landed fa fb 0 2 c ∗ spent 0 1 0 2 c ∗ back 0 2 c ∗ owN 14 c) -∗ Q r)
      -∗ WP c (run (k0_part16 (F := F)) c v2 v365 v367) Q) := by
  rw [k0_part16_eq_skeleton]; unfold run k0_part16_skel
  simp only [Prog.lift, Prog.bind_op, Prog.bind_ret, Prog.pure_eq_ret]
  iintro #HR HW HI HL HW0 HF0 HO Hk
  ihave HW := (held_three fa fb 2 c) $$ HW
  iapply (rs_send fa fb K 2 3 13 rfl c (dev14 c) (off17 c) rfl rfl rfl) $$ HR HI HW HL HO
  iintro ⟨HF, HW, HO⟩
  iapply (rs_wait fa fb K 0 2 14 c rfl rfl (by decide) (by decide)) $$ HR HF0 HO
  iintro ⟨HF0, HS, HB, HO⟩
  iapply (add_step fa fb 0 2 c (off18 c) rfl (p := k0_pay29) (fun _ _ => shapeCast_self _ _)) $$ HW0 HS
  iintro ⟨HW0, HS⟩
  iapply wp_done
  iapply Hk
  iframe

/-- Part 17: stream 0 sends round 3; stream 1 receives round 2 and computes the sum. -/
theorem part17 (c : Dev nD) (v2 v328 v330 v476 w : BitVec 32) (Q : _ → sProp 𝕄) :
    records fa fb K ⊢ iprop(added fa fb 0 2 c -∗ idle 0 1 0 3 c -∗ land 0 3 c -∗ kept fa fb 1 2 c -∗ fly 0 1 1 2 c -∗ owN 14 c
      -∗ (∀ r, (⌜r.2 = sumOf fa fb 1 2 c⌝ ∗ kept fa fb 0 3 c ∗ fly 0 1 0 3 c ∗ kept fa fb 1 2 c ∗ landed fa fb 1 2 c ∗ spent 0 1 1 2 c ∗ back 1 2 c ∗ owN 15 c)
        -∗ Q r)
      -∗ WP c (run (k0_part17 (F := F)) c v2 v328 v330 v476 w) Q) := by
  rw [k0_part17_eq_skeleton]; unfold run k0_part17_skel
  simp only [Prog.lift, Prog.bind_op, Prog.bind_ret, Prog.pure_eq_ret]
  iintro #HR HW HI HL HW1 HF1 HO Hk
  ihave HW := (held_three fa fb 0 c) $$ HW
  iapply (rs_send fa fb K 0 3 14 rfl c (dev15 c) (off19 c) rfl rfl rfl) $$ HR HI HW HL HO
  iintro ⟨HF, HW, HO⟩
  iapply (rs_wait fa fb K 1 2 15 c rfl rfl (by decide) (by decide)) $$ HR HF1 HO
  iintro ⟨HF1, HS, HB, HO⟩
  iapply (load_kept fa fb 1 2 c (off20 c)) $$ HW1; iintro HW1
  iapply (load_landed fa fb 1 2 c rfl) $$ HS; iintro HS
  iapply (load_kept fa fb 1 2 c (off20 c)) $$ HW1; iintro HW1
  iapply wp_done
  iapply Hk
  isplitr; · ipureintro; show k0_pay30 _ _ = _; exact (shapeCast_self _ _).trans rfl
  iframe

/-- Part 18: stream 1 stores the sum of round 2 and sends round 3; stream 2 receives round 3. -/
theorem part18 (c : Dev nD) (v2 v328 v441 v443 : BitVec 32) (v : Vec F S192x512 .bf16) (hv : v = sumOf fa fb 1 2 c) (Q : _ → sProp 𝕄) :
    records fa fb K ⊢ iprop(kept fa fb 1 2 c -∗ idle 0 1 1 3 c -∗ land 1 3 c -∗ fly 0 1 2 3 c -∗ owN 15 c
      -∗ (∀ r, (kept fa fb 1 3 c ∗ fly 0 1 1 3 c ∗ landed fa fb 2 3 c ∗ spent 0 1 2 3 c ∗ back 2 3 c ∗ owN 16 c) -∗ Q r)
      -∗ WP c (run (k0_part18 (F := F)) c v2 v328 v441 v443 v) Q) := by
  rw [k0_part18_eq_skeleton]; unfold run k0_part18_skel
  simp only [Prog.lift, Prog.bind_op, Prog.bind_ret, Prog.pure_eq_ret]
  iintro #HR HW HI HL HF2 HO Hk
  iapply (store_added fa fb 1 2 c (off20 c) hv) $$ HW; iintro HW
  ihave HW := (held_three fa fb 1 c) $$ HW
  iapply (rs_send fa fb K 1 3 15 rfl c (dev16 c) (off21 c) rfl rfl rfl) $$ HR HI HW HL HO
  iintro ⟨HF, HW, HO⟩
  iapply (rs_wait fa fb K 2 3 16 c rfl rfl (by decide) (by decide)) $$ HR HF2 HO
  iintro ⟨HF2, HS, HB, HO⟩
  iapply wp_done
  iapply Hk
  iframe

/-- Part 19: stream 2 adds round 3, applies the activation to its own chunk and sends it. -/
theorem part19 (c : Dev nD) (v2 v441 w : BitVec 32) (Q : _ → sProp 𝕄) :
    records fa fb K ⊢ iprop(kept fa fb 2 3 c -∗ landed fa fb 2 3 c -∗ idle 2 3 2 0 c -∗ back 2 3 c -∗ owN 16 c
      -∗ (∀ r, (landed fa fb 2 3 c ∗ fly 2 3 2 0 c ∗ owN 17 c) -∗ Q r)
      -∗ WP c (run (k0_part19 (F := F)) c v2 v441 w) Q) := by
  rw [k0_part19_eq_skeleton]; unfold run k0_part19_skel
  simp only [Prog.lift, Prog.bind_op, Prog.bind_ret, Prog.pure_eq_ret]
  iintro #HR HW HS HI HB HO Hk
  iapply (add_step fa fb 2 3 c (off22 c) rfl (p := k0_pay31) (fun _ _ => shapeCast_self _ _)) $$ HW HS
  iintro ⟨HW, HS⟩
  iapply (act_step fa fb 2 c (off22 c) (p := k0_pay32) (fun _ => shapeCast_self _ _)) $$ HW; iintro HW
  iapply (ag_send fa fb K 2 0 3 rfl 16 rfl c (dev17 c) (off23 c) rfl rfl) $$ HR HI HW HB HO
  iintro ⟨HF, HO⟩
  iapply wp_done
  iapply Hk
  iframe

/-- Part 20: stream 1 receives round 3, adds it and computes the activation. -/
theorem part20 (c : Dev nD) (v515 v517 : BitVec 32) (Q : _ → sProp 𝕄) :
    records fa fb K ⊢ iprop(kept fa fb 1 3 c -∗ fly 0 1 1 3 c -∗ owN 17 c
      -∗ (∀ v : FVec F S96x512 .bf16, (⌜v = actOf fa fb 1 c⌝ ∗ added fa fb 1 3 c ∗ landed fa fb 1 3 c ∗ spent 0 1 1 3 c ∗ back 1 3 c ∗ owN 17 c)
        -∗ Q v)
      -∗ WP c (run (k0_part20 (F := F)) c v515 v517) Q) := by
  rw [k0_part20_eq_skeleton]; unfold run k0_part20_skel
  simp only [Prog.lift, Prog.bind_op, Prog.bind_ret, Prog.pure_eq_ret]
  iintro #HR HW HF HO Hk
  iapply (rs_wait fa fb K 1 3 17 c rfl rfl (by decide) (by decide)) $$ HR HF HO
  iintro ⟨HF, HS, HB, HO⟩
  iapply (add_step fa fb 1 3 c (off24 c) rfl (p := k0_pay33) (fun _ _ => shapeCast_self _ _)) $$ HW HS
  iintro ⟨HW, HS⟩
  iapply (load_added fa fb 1 c (off24 c)) $$ HW; iintro HW
  iapply wp_done
  iapply Hk
  isplitr; · ipureintro; rfl
  iframe

/-- Part 21: stream 1 stores the activation of its own chunk and sends it; stream 0 receives round 3 and computes the sum. -/
theorem part21 (c : Dev nD) (v2 v478 v480 v515 : BitVec 32) (u : Vec F S96x512 .bf16) (hu : u = actOf fa fb 1 c) (Q : _ → sProp 𝕄) :
    records fa fb K ⊢ iprop(added fa fb 1 3 c -∗ idle 2 3 1 0 c -∗ back 1 3 c -∗ kept fa fb 0 3 c -∗ fly 0 1 0 3 c -∗ owN 17 c
      -∗ (∀ r, (⌜r.2.1 = sumOf fa fb 0 3 c⌝ ∗ fly 2 3 1 0 c ∗ kept fa fb 0 3 c ∗ landed fa fb 0 3 c ∗ spent 0 1 0 3 c ∗ back 0 3 c ∗ owN 18 c)
        -∗ Q r)
      -∗ WP c (run (k0_part21 (F := F)) c v2 v478 v480 v515 u) Q) := by
  rw [k0_part21_eq_skeleton]; unfold run k0_part21_skel
  simp only [Prog.lift, Prog.bind_op, Prog.bind_ret, Prog.pure_eq_ret]
  iintro #HR HW HI HB HW0 HF0 HO Hk
  iapply (load_added fa fb 1 c (off24 c)) $$ HW; iintro HW
  iapply (store_final fa fb 1 c (off24 c) ((shapeCast_self _ _).trans hu)) $$ HW; iintro HW
  iapply (ag_send fa fb K 1 0 3 rfl 17 rfl c (dev18 c) (off25 c) rfl rfl) $$ HR HI HW HB HO
  iintro ⟨HF, HO⟩
  iapply (rs_wait fa fb K 0 3 18 c rfl rfl (by decide) (by decide)) $$ HR HF0 HO
  iintro ⟨HF0, HS, HB, HO⟩
  iapply (load_kept fa fb 0 3 c (off26 c)) $$ HW0; iintro HW0
  iapply (load_landed fa fb 0 3 c rfl) $$ HS; iintro HS
  iapply wp_done
  iapply Hk
  isplitr; · ipureintro; rfl
  iframe

/-- Part 22: stream 0 stores the sum of round 3, applies the activation to its own chunk and sends it. -/
theorem part22 (c : Dev nD) (v2 v478 w : BitVec 32) (v : Vec F S96x576 .bf16) (hv : v = sumOf fa fb 0 3 c) (Q : _ → sProp 𝕄) :
    records fa fb K ⊢ iprop(kept fa fb 0 3 c -∗ idle 2 3 0 0 c -∗ back 0 3 c -∗ owN 18 c
      -∗ (∀ r, (fly 2 3 0 0 c ∗ owN 19 c) -∗ Q r)
      -∗ WP c (run (k0_part22 (F := F)) c v2 v478 v w) Q) := by
  rw [k0_part22_eq_skeleton]; unfold run k0_part22_skel
  simp only [Prog.lift, Prog.bind_op, Prog.bind_ret, Prog.pure_eq_ret]
  iintro #HR HW HI HB HO Hk
  iapply (load_kept fa fb 0 3 c (off26 c)) $$ HW; iintro HW
  iapply (store_added fa fb 0 3 c (off26 c) ((shapeCast_self _ _).trans hv)) $$ HW; iintro HW
  iapply (act_step fa fb 0 c (off26 c) (p := k0_pay38) (fun _ => shapeCast_self _ _)) $$ HW; iintro HW
  iapply (ag_send fa fb K 0 0 3 rfl 18 rfl c (dev19 c) (off27 c) rfl rfl) $$ HR HI HW HB HO
  iintro ⟨HF, HO⟩
  iapply wp_done
  iapply Hk
  iframe

end Cert.KernelIdeal.Prf
-- ==== Proof.IdealDoubling.lean ====
/-
# The last four rounds, part by part

Each of the body's parts 23 to 30: a stream's final half goes to the peer, the peer's comes back.
-/
module

public import proofs.«01_k».proof.Proof.IdealRound
public import proofs.«01_k».proof.Proof.IdealWords

@[expose] public section

noncomputable section

namespace Cert.KernelIdeal.Prf

open Cert.KernelIdeal Cert.KernelIdeal.Gen Cert.Bands Cert.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (fa : (c : Dev nD) → Buf (Elt F) ((xM : Memref sig .tc .vmem S1536x768 .bf16).view.loc (c : Thread nD τ)))
  (fb : (c : Dev nD) → Buf (Elt F) ((yM : Memref sig .tc .vmem S768x1536 .bf16).view.loc (c : Thread nD τ)))
variable (K : Dev nD × CI → ℕ)

/-- Part 23: the third stream's first doubling ends and its second starts; the second stream's first transfer has left. -/
theorem part23 (c : Dev nD) (v2 v441 v564 v611 : BitVec 32) (Q : _ → sProp 𝕄) :
    records fa fb K ⊢ iprop(fly 2 3 2 0 c -∗ idle 2 3 2 1 c -∗ back 2 2 c -∗ fly 2 3 1 0 c -∗ owN 19 c
      -∗ (∀ r, (spent 2 3 2 0 c ∗ fly 2 3 2 1 c ∗ half 2 3 1 0 c ∗ final fa fb 1 3 c ∗ owN 20 c) -∗ Q r)
      -∗ WP c (run (k0_part23 (F := F)) c v2 v441 v564 v611) Q) := by
  rw [k0_part23_eq_skeleton]; unfold run k0_part23_skel
  simp only [Prog.lift, Prog.bind_op, Prog.bind_ret, Prog.pure_eq_ret]
  iintro #HR HF HI HB HG HO Hk
  iapply (ag_wait fa fb K 2 0 3 rfl 19 c rfl rfl (by decide) (by decide)) $$ HR HF HO
  iintro ⟨HF, HW, HX, HO⟩
  ihave HW := (final_two fa fb 2 c) $$ HW HX
  iapply (ag_send fa fb K 2 1 2 rfl 19 rfl c (dev20 c) (off28 c) rfl rfl) $$ HR HI HW HB HO
  iintro ⟨HF2, HO⟩
  iapply (ag_wait_send fa fb K 1 0 3 rfl 20 c rfl (by decide)) $$ HR HG HO
  iintro ⟨HG, HV, HO⟩
  iapply wp_done
  iapply Hk
  iframe

/-- Part 24: the second stream's first doubling ends and its second starts; the first stream's first ends. -/
theorem part24 (c : Dev nD) (v2 v515 v658 : BitVec 32) (Q : _ → sProp 𝕄) :
    records fa fb K ⊢ iprop(half 2 3 1 0 c -∗ final fa fb 1 3 c -∗ idle 2 3 1 1 c -∗ back 1 2 c -∗ fly 2 3 0 0 c -∗ owN 20 c
      -∗ (∀ r, (spent 2 3 1 0 c ∗ fly 2 3 1 1 c ∗ spent 2 3 0 0 c ∗ final fa fb 0 2 c ∗ owN 21 c) -∗ Q r)
      -∗ WP c (run (k0_part24 (F := F)) c v2 v515 v658) Q) := by
  rw [k0_part24_eq_skeleton]; unfold run k0_part24_skel
  simp only [Prog.lift, Prog.bind_op, Prog.bind_ret, Prog.pure_eq_ret]
  iintro #HR HG HV HI HB HF HO Hk
  iapply (ag_wait_recv fa fb K 1 0 3 rfl 20 c rfl (by decide)) $$ HR HG HO
  iintro ⟨HG, HX, HO⟩
  ihave HV := (final_two fa fb 1 c) $$ HV HX
  iapply (ag_send fa fb K 1 1 2 rfl 20 rfl c (dev21 c) (off29 c) rfl rfl) $$ HR HI HV HB HO
  iintro ⟨HG2, HO⟩
  iapply (ag_wait fa fb K 0 0 3 rfl 21 c rfl rfl (by decide) (by decide)) $$ HR HF HO
  iintro ⟨HF, HW, HX, HO⟩
  ihave HW := (final_two fa fb 0 c) $$ HW HX
  iapply wp_done
  iapply Hk
  iframe

/-- Part 25: the first stream's second doubling starts; the third stream's second ends. -/
theorem part25 (c : Dev nD) (v2 v478 v680 v683 v728 : BitVec 32) (Q : _ → sProp 𝕄) :
    records fa fb K ⊢ iprop(final fa fb 0 2 c -∗ idle 2 3 0 1 c -∗ back 0 2 c -∗ fly 2 3 2 1 c -∗ owN 21 c
      -∗ (∀ r, (fly 2 3 0 1 c ∗ spent 2 3 2 1 c ∗ final fa fb 2 1 c ∗ owN 22 c) -∗ Q r)
      -∗ WP c (run (k0_part25 (F := F)) c v2 v478 v680 v683 v728) Q) := by
  rw [k0_part25_eq_skeleton]; unfold run k0_part25_skel
  simp only [Prog.lift, Prog.bind_op, Prog.bind_ret, Prog.pure_eq_ret]
  iintro #HR HW HI HB HF HO Hk
  iapply (ag_send fa fb K 0 1 2 rfl 21 rfl c (dev22 c) (off30 c) rfl rfl) $$ HR HI HW HB HO
  iintro ⟨HG, HO⟩
  iapply (ag_wait fa fb K 2 1 2 rfl 22 c rfl rfl (by decide) (by decide)) $$ HR HF HO
  iintro ⟨HF, HV, HX, HO⟩
  ihave HV := (final_one fa fb 2 c) $$ HV HX
  iapply wp_done
  iapply Hk
  iframe

/-- Part 26: the third stream's third doubling starts; the first stream's second ends. -/
theorem part26 (c : Dev nD) (v2 v730 v733 v757 w : BitVec 32) (Q : _ → sProp 𝕄) :
    records fa fb K ⊢ iprop(final fa fb 2 1 c -∗ idle 2 3 2 2 c -∗ back 2 1 c -∗ fly 2 3 0 1 c -∗ owN 22 c
      -∗ (∀ r, (fly 2 3 2 2 c ∗ spent 2 3 0 1 c ∗ final fa fb 0 1 c ∗ owN 23 c) -∗ Q r)
      -∗ WP c (run (k0_part26 (F := F)) c v2 v730 v733 v757 w) Q) := by
  rw [k0_part26_eq_skeleton]; unfold run k0_part26_skel
  simp only [Prog.lift, Prog.bind_op, Prog.bind_ret, Prog.pure_eq_ret]
  iintro #HR HW HI HB HF HO Hk
  iapply (ag_send fa fb K 2 2 1 rfl 22 rfl c (dev23 c) (off31 c) rfl rfl) $$ HR HI HW HB HO
  iintro ⟨HG, HO⟩
  iapply (ag_wait fa fb K 0 1 2 rfl 23 c rfl rfl (by decide) (by decide)) $$ HR HF HO
  iintro ⟨HF, HV, HX, HO⟩
  ihave HV := (final_one fa fb 0 c) $$ HV HX
  iapply wp_done
  iapply Hk
  iframe

/-- Part 27: the first stream's third doubling starts; the second stream's second ends and its third starts. -/
theorem part27 (c : Dev nD) (v2 v705 v708 : BitVec 32) (Q : _ → sProp 𝕄) :
    records fa fb K ⊢ iprop(final fa fb 0 1 c -∗ idle 2 3 0 2 c -∗ back 0 1 c -∗ fly 2 3 1 1 c -∗ idle 2 3 1 2 c -∗ back 1 1 c -∗ owN 23 c
      -∗ (∀ r, (fly 2 3 0 2 c ∗ spent 2 3 1 1 c ∗ fly 2 3 1 2 c ∗ owN 25 c) -∗ Q r)
      -∗ WP c (run (k0_part27 (F := F)) c v2 v705 v708) Q) := by
  rw [k0_part27_eq_skeleton]; unfold run k0_part27_skel
  simp only [Prog.lift, Prog.bind_op, Prog.bind_ret, Prog.pure_eq_ret]
  iintro #HR HW HI HB HF HJ HC HO Hk
  iapply (ag_send fa fb K 0 2 1 rfl 23 rfl c (dev24 c) (off32 c) rfl rfl) $$ HR HI HW HB HO
  iintro ⟨HG, HO⟩
  iapply (ag_wait fa fb K 1 1 2 rfl 24 c rfl rfl (by decide) (by decide)) $$ HR HF HO
  iintro ⟨HF, HV, HX, HO⟩
  ihave HV := (final_one fa fb 1 c) $$ HV HX
  iapply (ag_send fa fb K 1 2 1 rfl 24 rfl c (dev25 c) (off33 c) rfl rfl) $$ HR HJ HV HC HO
  iintro ⟨HH, HO⟩
  iapply wp_done
  iapply Hk
  iframe

/-- Part 28: the second stream's third doubling ends and its last starts. -/
theorem part28 (c : Dev nD) (v2 v807 v810 : BitVec 32) (Q : _ → sProp 𝕄) :
    records fa fb K ⊢ iprop(fly 2 3 1 2 c -∗ idle 2 3 1 3 c -∗ back 1 0 c -∗ owN 25 c
      -∗ (∀ r, (spent 2 3 1 2 c ∗ fly 2 3 1 3 c ∗ owN 26 c) -∗ Q r)
      -∗ WP c (run (k0_part28 (F := F)) c v2 v807 v810) Q) := by
  rw [k0_part28_eq_skeleton]; unfold run k0_part28_skel
  simp only [Prog.lift, Prog.bind_op, Prog.bind_ret, Prog.pure_eq_ret]
  iintro #HR HF HI HB HO Hk
  iapply (ag_wait fa fb K 1 2 1 rfl 25 c rfl rfl (by decide) (by decide)) $$ HR HF HO
  iintro ⟨HF, HV, HX, HO⟩
  ihave HV := (final_zero fa fb 1 c) $$ HV HX
  iapply (ag_send fa fb K 1 3 0 rfl 25 rfl c (dev26 c) (off34 c) rfl rfl) $$ HR HI HV HB HO
  iintro ⟨HG, HO⟩
  iapply wp_done
  iapply Hk
  iframe

/-- Part 29: the first stream's third doubling ends and its last starts; the third stream's third transfer has left. -/
theorem part29 (c : Dev nD) (v2 v760 v782 v785 : BitVec 32) (Q : _ → sProp 𝕄) :
    records fa fb K ⊢ iprop(fly 2 3 0 2 c -∗ idle 2 3 0 3 c -∗ back 0 0 c -∗ fly 2 3 2 2 c -∗ owN 26 c
      -∗ (∀ r, (spent 2 3 0 2 c ∗ fly 2 3 0 3 c ∗ half 2 3 2 2 c ∗ final fa fb 2 1 c ∗ owN 27 c) -∗ Q r)
      -∗ WP c (run (k0_part29 (F := F)) c v2 v760 v782 v785) Q) := by
  rw [k0_part29_eq_skeleton]; unfold run k0_part29_skel
  simp only [Prog.lift, Prog.bind_op, Prog.bind_ret, Prog.pure_eq_ret]
  iintro #HR HF HI HB HG HO Hk
  iapply (ag_wait fa fb K 0 2 1 rfl 26 c rfl rfl (by decide) (by decide)) $$ HR HF HO
  iintro ⟨HF, HV, HX, HO⟩
  ihave HV := (final_zero fa fb 0 c) $$ HV HX
  iapply (ag_send fa fb K 0 3 0 rfl 26 rfl c (dev27 c) (off35 c) rfl rfl) $$ HR HI HV HB HO
  iintro ⟨HH, HO⟩
  iapply (ag_wait_send fa fb K 2 2 1 rfl 27 c rfl (by decide)) $$ HR HG HO
  iintro ⟨HG, HV, HO⟩
  iapply wp_done
  iapply Hk
  iframe

/-- Part 30: the third stream's last two doublings end: its working buffer is final. -/
theorem part30 (c : Dev nD) (v2 v757 v875 w : BitVec 32) (Q : _ → sProp 𝕄) :
    records fa fb K ⊢ iprop(half 2 3 2 2 c -∗ final fa fb 2 1 c -∗ idle 2 3 2 3 c -∗ back 2 0 c -∗ owN 27 c
      -∗ (∀ r, (spent 2 3 2 2 c ∗ spent 2 3 2 3 c ∗ whole fa fb 2 c ∗ owN 28 c) -∗ Q r)
      -∗ WP c (run (k0_part30 (F := F)) c v2 v757 v875 w) Q) := by
  rw [k0_part30_eq_skeleton]; unfold run k0_part30_skel
  simp only [Prog.lift, Prog.bind_op, Prog.bind_ret, Prog.pure_eq_ret]
  iintro #HR HG HV HI HB HO Hk
  iapply (ag_wait_recv fa fb K 2 2 1 rfl 27 c rfl (by decide)) $$ HR HG HO
  iintro ⟨HG, HX, HO⟩
  ihave HV := (final_zero fa fb 2 c) $$ HV HX
  iapply (ag_send fa fb K 2 3 0 rfl 27 rfl c (dev28 c) (off36 c) rfl rfl) $$ HR HI HV HB HO
  iintro ⟨HF, HO⟩
  iapply (ag_wait fa fb K 2 3 0 rfl 28 c rfl rfl (by decide) (by decide)) $$ HR HF HO
  iintro ⟨HF, HW, HX, HO⟩
  ihave HW := (final_all fa fb 2 c) $$ HW HX
  iapply wp_done
  iapply Hk
  iframe

end Cert.KernelIdeal.Prf
-- ==== Proof.IdealCopy.lean ====
/-
# The result

The body's parts 31 to 36 copy each stream's final working buffer, chunk by chunk, to its tiles of the result.
-/
module

public import proofs.«01_k».proof.Proof.IdealRound
public import proofs.«01_k».proof.Proof.IdealWords

@[expose] public section

noncomputable section

namespace Cert.KernelIdeal.Prf

open Cert.KernelIdeal Cert.KernelIdeal.Gen Cert.Bands Cert.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (fa : (c : Dev nD) → Buf (Elt F) ((xM : Memref sig .tc .vmem S1536x768 .bf16).view.loc (c : Thread nD τ)))
  (fb : (c : Dev nD) → Buf (Elt F) ((yM : Memref sig .tc .vmem S768x1536 .bf16).view.loc (c : Thread nD τ)))
variable (K : Dev nD × CI → ℕ)

/-! ## The tiles of the result -/

/-- The first column of each stream. -/
def co (s : Fin 3) : ℕ :=
  match s with
  | 0 => 0
  | 1 => 576
  | 2 => 1088

/-- The row of a stream's working buffer that row `r` of the result comes from. -/
def src (s : Fin 3) (r : ℕ) : ℕ := 96 * kp s 3 (⟨r / 96 % 16, Nat.mod_lt _ (by decide)⟩ : Fin 16) + r % 96

/-- The result, by row and column. -/
def outF (r k : ℕ) : Elt F .bf16 :=
  if k < 576 then Fn fa fb 0 (src 0 r) k else if k < 1088 then Fn fa fb 1 (src 1 r) (k - 576) else Fn fa fb 2 (src 2 r) (k - 1088)

/-- The number of the tile, in the order of the copies, that an entry of the result lies in. -/
def tileNo (r k : ℕ) : ℕ := (if k < 576 then 32 else if k < 1088 then 16 else 0) + r / 96

/-- The tile of stream `s` in row block `q` is the `n`-th copied. -/
def nth (s : Fin 3) (q : Fin 16) : ℕ :=
  match s with
  | 0 => 32 + q.val
  | 1 => 16 + q.val
  | 2 => q.val

/-- The entries of tile number `nth s q` are those of row block `q` in stream `s`'s columns. -/
theorem tileNo_iff (s : Fin 3) (q : Fin 16) (r k : ℕ) (hr : r < 1536) (hk : k < 1536) :
    tileNo r k = nth s q ↔ (96 * q.val ≤ r ∧ r < 96 * q.val + 96) ∧ co s ≤ k ∧ k < co s + wd s := by
  have := q.isLt
  unfold tileNo
  match s with
  | 0 => simp only [nth, co, wd]; split_ifs <;> omega
  | 1 => simp only [nth, co, wd]; split_ifs <;> omega
  | 2 => simp only [nth, co, wd]; split_ifs <;> omega

/-- Within a tile the source rows of the working buffer are consecutive. -/
theorem src_tile (s : Fin 3) (q : Fin 16) (r : ℕ) (hr : r < 96) : src s (96 * q.val + r) = 96 * kp s 3 q + r := by
  unfold src
  have h1 : (96 * q.val + r) / 96 % 16 = q.val := by have := q.isLt; omega
  have h2 : (96 * q.val + r) % 96 = r := by omega
  simp only [h1, h2]

/-- On a tile the result is the final contents of the stream's working buffer at the source rows. -/
theorem outF_tile (s : Fin 3) (q : Fin 16) (r k : ℕ) (hr : r < 96) (hk : k < wd s) :
    outF fa fb (96 * q.val + r) (co s + k) = Fn fa fb s (96 * kp s 3 q + r) k := by
  unfold outF
  match s, hk with
  | 0, hk =>
    simp only [wd] at hk
    simp only [co, Nat.zero_add, src_tile 0 q r hr]
    rw [if_pos hk]
  | 1, hk =>
    simp only [wd] at hk
    simp only [co, src_tile 1 q r hr]
    rw [if_neg (by omega), if_pos (by omega), Nat.add_sub_cancel_left]
  | 2, hk =>
    simp only [wd] at hk
    simp only [co, src_tile 2 q r hr]
    rw [if_neg (by omega), if_neg (by omega), Nat.add_sub_cancel_left]

/-- The result's buffer once its first `n` tiles are copied. -/
def outR (n : ℕ) (c : Dev nD) : sProp 𝕄 :=
  iprop(∃ g : Buf (Elt F) ((oM : Memref sig .tc .vmem S1536x1536 .bf16).view.loc (c : Thread nD τ)),
    ⌜∀ i : S1536x1536.Idx, tileNo (i 0).val (i 1).val < n → (oM : Memref sig .tc .vmem S1536x1536 .bf16).view.read (Elt F) g i = outF fa fb (i 0).val (i 1).val⌝
      ∗ ((oM : Memref sig .tc .vmem S1536x1536 .bf16).view.loc (c : Thread nD τ) ↦{fullShare} g))

/-- Loading a chunk of a final working buffer. -/
theorem load_chunk (s : Fin 3) (q : Fin 16) (c : Dev nD) {off : Fin 2 → ℕ} (hoff : off = ![96 * kp s 3 q, 0])
    {inb : ∀ k, off k + (S2 96 (wd s)).size k ≤ (S2 1536 (wd s)).size k}
    {hl : (wk s).view.LoadsAt (Rect.unit (s := S2 1536 (wd s)) off (S2 96 (wd s)).size inb).toLoadRect}
    {α : Type} {Q : α → sProp 𝕄} {kt : ((S2 96 (wd s)).Idx → Elt F .bf16) → Prog (TpuEff nD τ sig (Elt F) Λ₀ .tc) α} :
    whole fa fb s c ⊢ iprop((whole fa fb s c -∗ WP c (kt (vec 96 (Fn fa fb s) (96 * kp s 3 q))) Q)
      -∗ WP c (.op (.load (wk s) (Rect.unit (s := S2 1536 (wd s)) off (S2 96 (wd s)).size inb).toLoadRect hl) kt) Q) :=
  wp_load_rows (wk s) c 𝒱₀ none Set.univ hoff (Nat.zero_le _)
    (by have := kp_le s 3 q; have h : hh 3 = 1 := rfl; omega)

/-- Loading a tile of the result: what is read is not used. -/
theorem load_tile (n : ℕ) (c : Dev nD) {r : LoadRect S1536x1536} {hl : (oM : Memref sig .tc .vmem S1536x1536 .bf16).view.LoadsAt r}
    {α : Type} {Q : α → sProp 𝕄} {kt : (r.shape.Idx → Elt F .bf16) → Prog (TpuEff nD τ sig (Elt F) Λ₀ .tc) α} :
    outR fa fb n c ⊢ iprop((∀ v, outR fa fb n c -∗ WP c (kt v) Q) -∗ WP c (.op (.load oM r hl) kt) Q) := by
  unfold outR
  iintro ⟨%g, %hg, H⟩ Hk
  iapply (wp_load 𝒱₀ (c : Thread nD τ) none Set.univ (m := oM) (r := r) (Finset.subset_univ _)) $$ H
  iintro H
  iapply Hk
  iexists g
  isplitr
  · ipureintro; exact hg
  · iexact H

/-- Storing the next tile. -/
theorem store_tile (s : Fin 3) (q : Fin 16) (n : ℕ) (hn : n = nth s q) (c : Dev nD) {off : Fin 2 → ℕ} (hoff : off = ![96 * q.val, co s])
    {inb : ∀ k, off k + (S2 96 (wd s)).size k ≤ S1536x1536.size k} {v : (S2 96 (wd s)).Idx → Elt F .bf16}
    (hv : v = vec 96 (Fn fa fb s) (96 * kp s 3 q))
    {hx : ((oM : Memref sig .tc .vmem S1536x1536 .bf16).access (Rect.unit (s := S1536x1536) off (S2 96 (wd s)).size inb)).Stores Finset.univ}
    {hm : (Finset.univ : Finset (S2 96 (wd s)).Idx) = Finset.univ ∨ ∀ a, (Rect.unit (s := S1536x1536) off (S2 96 (wd s)).size inb).stride a = 1}
    {α : Type} {Q : α → sProp 𝕄} {kt : PUnit → Prog (TpuEff nD τ sig (Elt F) Λ₀ .tc) α} :
    outR fa fb n c ⊢ iprop((outR fa fb (n + 1) c -∗ WP c (kt ⟨⟩) Q)
      -∗ WP c (.op (.store oM (Rect.unit (s := S1536x1536) off (S2 96 (wd s)).size inb) v Finset.univ hx hm) kt) Q) := by
  subst hn hv
  unfold outR
  iintro ⟨%g, %hg, H⟩ Hk
  iapply (wp_store 𝒱₀ (c : Thread nD τ) none Set.univ (m := oM) (r := Rect.unit (s := S1536x1536) off (S2 96 (wd s)).size inb) (Finset.subset_univ _)) $$ H
  iintro H
  iapply Hk
  iexists _
  isplitr
  swap
  · iexact H
  ipureintro
  intro i hi
  have h0 : (i 0).val < 1536 := (i 0).isLt
  have h1 : (i 1).val < 1536 := (i 1).isLt
  have hrow : ∀ x : (S2 96 (wd s)).Idx, (((Rect.unit (s := S1536x1536) off (S2 96 (wd s)).size inb).emb x) 0).val = 96 * q.val + (x 0).val := by
    intro x; subst hoff; simp [Rect.emb_apply]
  have hcol : ∀ x : (S2 96 (wd s)).Idx, (((Rect.unit (s := S1536x1536) off (S2 96 (wd s)).size inb).emb x) 1).val = co s + (x 1).val := by
    intro x; subst hoff; simp [Rect.emb_apply]
  by_cases ht : tileNo (i 0).val (i 1).val = nth s q
  · obtain ⟨⟨a0, a1⟩, b0, b1⟩ := (tileNo_iff s q _ _ h0 h1).mp ht
    obtain ⟨x, hx0, hx1⟩ : ∃ x : (S2 96 (wd s)).Idx, (x 0).val = (i 0).val - 96 * q.val ∧ (x 1).val = (i 1).val - co s :=
      ⟨Fin.cons ⟨(i 0).val - 96 * q.val, by simp; omega⟩ (Fin.cons ⟨(i 1).val - co s, by simp; omega⟩ finZeroElim), rfl, rfl⟩
    have hxi : (Rect.unit (s := S1536x1536) off (S2 96 (wd s)).size inb).emb x = i := by
      funext k
      apply Fin.ext
      match k with
      | 0 => exact (hrow x).trans (by omega)
      | 1 => exact (hcol x).trans (by omega)
    have e0 : (i 0).val = 96 * q.val + (x 0).val := by omega
    have e1 : (i 1).val = co s + (x 1).val := by omega
    rw [e0, e1, outF_tile fa fb s q _ _ (by omega) (by omega)]
    conv_lhs => rw [← hxi]
    exact View.read_slice_write_emb (v := (oM : Memref sig .tc .vmem S1536x1536 .bf16).view) (Val := Elt F) (Rect.unit (s := S1536x1536) off (S2 96 (wd s)).size inb) g _ (Finset.mem_univ x)
  · rw [← hg i (by omega)]
    refine View.read_slice_write_of_not_mem (v := (oM : Memref sig .tc .vmem S1536x1536 .bf16).view) (Val := Elt F) (Rect.unit (s := S1536x1536) off (S2 96 (wd s)).size inb) g _ _ fun hmem => ht ?_
    obtain ⟨x, -, hxi⟩ := Finset.mem_map.mp hmem
    have hx0 : (x 0).val < 96 := (x 0).isLt
    have hx1 : (x 1).val < wd s := (x 1).isLt
    refine (tileNo_iff s q _ _ h0 h1).mpr ?_
    have e0 := hrow x
    have e1 := hcol x
    rw [hxi] at e0 e1
    omega

/-- Copying the next tile. -/
theorem copy_tile (s : Fin 3) (q : Fin 16) (n : ℕ) (hn : n = nth s q) (c : Dev nD) {ow oo : Fin 2 → ℕ} (how : ow = ![96 * kp s 3 q, 0]) (hoo : oo = ![96 * q.val, co s])
    {inb : ∀ k, ow k + (S2 96 (wd s)).size k ≤ (S2 1536 (wd s)).size k} {ino : ∀ k, oo k + (S2 96 (wd s)).size k ≤ S1536x1536.size k}
    {hl : (wk s).view.LoadsAt (Rect.unit (s := S2 1536 (wd s)) ow (S2 96 (wd s)).size inb).toLoadRect}
    {ho : (oM : Memref sig .tc .vmem S1536x1536 .bf16).view.LoadsAt (Rect.unit (s := S1536x1536) oo (S2 96 (wd s)).size ino).toLoadRect}
    {hx : ((oM : Memref sig .tc .vmem S1536x1536 .bf16).access (Rect.unit (s := S1536x1536) oo (S2 96 (wd s)).size ino)).Stores Finset.univ}
    {hm : (Finset.univ : Finset (S2 96 (wd s)).Idx) = Finset.univ ∨ ∀ a, (Rect.unit (s := S1536x1536) oo (S2 96 (wd s)).size ino).stride a = 1}
    {α : Type} {Q : α → sProp 𝕄} {kt : PUnit → Prog (TpuEff nD τ sig (Elt F) Λ₀ .tc) α} :
    whole fa fb s c ⊢ iprop(outR fa fb n c -∗ ((whole fa fb s c ∗ outR fa fb (n + 1) c) -∗ WP c (kt ⟨⟩) Q)
      -∗ WP c (.op (.load (wk s) (Rect.unit (s := S2 1536 (wd s)) ow (S2 96 (wd s)).size inb).toLoadRect hl) fun v =>
          .op (.load oM (Rect.unit (s := S1536x1536) oo (S2 96 (wd s)).size ino).toLoadRect ho) fun _ =>
          .op (.store oM (Rect.unit (s := S1536x1536) oo (S2 96 (wd s)).size ino) v Finset.univ hx hm) kt) Q) := by
  iintro HW HR Hk
  iapply (load_chunk fa fb s q c how) $$ HW; iintro HW
  iapply (load_tile fa fb n c) $$ HR; iintro %_ HR
  iapply (store_tile fa fb s q n hn c hoo rfl) $$ HR; iintro HR
  iapply Hk
  isplitl [HW]; · iexact HW
  iexact HR

/-! ## Parts 31 to 36 -/
/-- Part 31: the first eight tiles of the third stream are copied, and the next chunk is loaded. -/
theorem part31 (c : Dev nD) (Q : _ → sProp 𝕄) :
    whole fa fb 2 c ⊢ iprop(outR fa fb 0 c -∗ (∀ v : Vec F S96x448 .bf16, (⌜v = vec 96 (Fn fa fb 2) (96 * kp 2 3 8)⌝ ∗ whole fa fb 2 c ∗ outR fa fb 8 c) -∗ Q v)
      -∗ WP c (run (k0_part31 (F := F))) Q) := by
  rw [k0_part31_eq_skeleton]; unfold run k0_part31_skel
  simp only [Prog.lift, Prog.bind_op, Prog.bind_ret, Prog.pure_eq_ret]
  iintro HW HR Hk
  iapply (copy_tile fa fb 2 0 0 rfl c rfl rfl) $$ HW HR; iintro ⟨HW, HR⟩
  iapply (copy_tile fa fb 2 1 1 rfl c rfl rfl) $$ HW HR; iintro ⟨HW, HR⟩
  iapply (copy_tile fa fb 2 2 2 rfl c rfl rfl) $$ HW HR; iintro ⟨HW, HR⟩
  iapply (copy_tile fa fb 2 3 3 rfl c rfl rfl) $$ HW HR; iintro ⟨HW, HR⟩
  iapply (copy_tile fa fb 2 4 4 rfl c rfl rfl) $$ HW HR; iintro ⟨HW, HR⟩
  iapply (copy_tile fa fb 2 5 5 rfl c rfl rfl) $$ HW HR; iintro ⟨HW, HR⟩
  iapply (copy_tile fa fb 2 6 6 rfl c rfl rfl) $$ HW HR; iintro ⟨HW, HR⟩
  iapply (copy_tile fa fb 2 7 7 rfl c rfl rfl) $$ HW HR; iintro ⟨HW, HR⟩
  iapply (load_chunk fa fb 2 8 c rfl) $$ HW; iintro HW
  iapply wp_done
  iapply Hk $$ %(vec (w := wd 2) 96 (Fn fa fb 2) (96 * kp 2 3 8))
  isplitr; · ipureintro; rfl
  iframe

/-- Part 32: the third stream's other tiles are copied. -/
theorem part32 (c : Dev nD) (v : Vec F S96x448 .bf16) (hv : v = vec 96 (Fn fa fb 2) (96 * kp 2 3 8)) (Q : _ → sProp 𝕄) :
    whole fa fb 2 c ⊢ iprop(outR fa fb 8 c -∗ (∀ r, (whole fa fb 2 c ∗ outR fa fb 16 c) -∗ Q r)
      -∗ WP c (run (k0_part32 (F := F)) c v) Q) := by
  rw [k0_part32_eq_skeleton]; unfold run k0_part32_skel
  simp only [Prog.lift, Prog.bind_op, Prog.bind_ret, Prog.pure_eq_ret]
  iintro HW HR Hk
  iapply (load_tile fa fb 8 c) $$ HR; iintro %_ HR
  iapply (store_tile fa fb 2 8 8 rfl c rfl hv) $$ HR; iintro HR
  iapply (copy_tile fa fb 2 9 9 rfl c rfl rfl) $$ HW HR; iintro ⟨HW, HR⟩
  iapply (copy_tile fa fb 2 10 10 rfl c rfl rfl) $$ HW HR; iintro ⟨HW, HR⟩
  iapply (copy_tile fa fb 2 11 11 rfl c rfl rfl) $$ HW HR; iintro ⟨HW, HR⟩
  iapply (copy_tile fa fb 2 12 12 rfl c rfl rfl) $$ HW HR; iintro ⟨HW, HR⟩
  iapply (copy_tile fa fb 2 13 13 rfl c rfl rfl) $$ HW HR; iintro ⟨HW, HR⟩
  iapply (copy_tile fa fb 2 14 14 rfl c rfl rfl) $$ HW HR; iintro ⟨HW, HR⟩
  iapply (copy_tile fa fb 2 15 15 rfl c rfl rfl) $$ HW HR; iintro ⟨HW, HR⟩
  iapply wp_done
  iapply Hk
  iframe

/-- Part 33: the second stream's last doubling ends; six of its tiles are copied, and the next chunk is loaded. -/
theorem part33 (c : Dev nD) (w : BitVec 32) (Q : _ → sProp 𝕄) :
    records fa fb K ⊢ iprop(fly 2 3 1 3 c -∗ owN 28 c -∗ outR fa fb 16 c -∗ (∀ v : Vec F S96x512 .bf16, (⌜v = vec 96 (Fn fa fb 1) (96 * kp 1 3 6)⌝ ∗ spent 2 3 1 3 c ∗ owN 28 c ∗ whole fa fb 1 c ∗ outR fa fb 22 c) -∗ Q v)
      -∗ WP c (run (k0_part33 (F := F)) c w) Q) := by
  rw [k0_part33_eq_skeleton]; unfold run k0_part33_skel
  simp only [Prog.lift, Prog.bind_op, Prog.bind_ret, Prog.pure_eq_ret]
  iintro #HR' HF HO HR Hk
  iapply (ag_wait fa fb K 1 3 0 rfl 28 c rfl rfl (by decide) (by decide)) $$ HR' HF HO
  iintro ⟨HF, HW, HX, HO⟩
  ihave HW := (final_all fa fb 1 c) $$ HW HX
  iapply (copy_tile fa fb 1 0 16 rfl c rfl rfl) $$ HW HR; iintro ⟨HW, HR⟩
  iapply (copy_tile fa fb 1 1 17 rfl c rfl rfl) $$ HW HR; iintro ⟨HW, HR⟩
  iapply (copy_tile fa fb 1 2 18 rfl c rfl rfl) $$ HW HR; iintro ⟨HW, HR⟩
  iapply (copy_tile fa fb 1 3 19 rfl c rfl rfl) $$ HW HR; iintro ⟨HW, HR⟩
  iapply (copy_tile fa fb 1 4 20 rfl c rfl rfl) $$ HW HR; iintro ⟨HW, HR⟩
  iapply (copy_tile fa fb 1 5 21 rfl c rfl rfl) $$ HW HR; iintro ⟨HW, HR⟩
  iapply (load_chunk fa fb 1 6 c rfl) $$ HW; iintro HW
  iapply wp_done
  iapply Hk $$ %(vec (w := wd 1) 96 (Fn fa fb 1) (96 * kp 1 3 6))
  isplitr; · ipureintro; rfl
  iframe

/-- Part 34: the second stream's tiles up to the last but one are copied. -/
theorem part34 (c : Dev nD) (v : Vec F S96x512 .bf16) (hv : v = vec 96 (Fn fa fb 1) (96 * kp 1 3 6)) (Q : _ → sProp 𝕄) :
    whole fa fb 1 c ⊢ iprop(outR fa fb 22 c -∗ (∀ r, (whole fa fb 1 c ∗ outR fa fb 31 c) -∗ Q r)
      -∗ WP c (run (k0_part34 (F := F)) v) Q) := by
  rw [k0_part34_eq_skeleton]; unfold run k0_part34_skel
  simp only [Prog.lift, Prog.bind_op, Prog.bind_ret, Prog.pure_eq_ret]
  iintro HW HR Hk
  iapply (load_tile fa fb 22 c) $$ HR; iintro %_ HR
  iapply (store_tile fa fb 1 6 22 rfl c rfl hv) $$ HR; iintro HR
  iapply (copy_tile fa fb 1 7 23 rfl c rfl rfl) $$ HW HR; iintro ⟨HW, HR⟩
  iapply (copy_tile fa fb 1 8 24 rfl c rfl rfl) $$ HW HR; iintro ⟨HW, HR⟩
  iapply (copy_tile fa fb 1 9 25 rfl c rfl rfl) $$ HW HR; iintro ⟨HW, HR⟩
  iapply (copy_tile fa fb 1 10 26 rfl c rfl rfl) $$ HW HR; iintro ⟨HW, HR⟩
  iapply (copy_tile fa fb 1 11 27 rfl c rfl rfl) $$ HW HR; iintro ⟨HW, HR⟩
  iapply (copy_tile fa fb 1 12 28 rfl c rfl rfl) $$ HW HR; iintro ⟨HW, HR⟩
  iapply (copy_tile fa fb 1 13 29 rfl c rfl rfl) $$ HW HR; iintro ⟨HW, HR⟩
  iapply (copy_tile fa fb 1 14 30 rfl c rfl rfl) $$ HW HR; iintro ⟨HW, HR⟩
  iapply wp_done
  iapply Hk
  iframe

/-- Part 35: the second stream's last tile is copied; the first stream's last doubling ends, four of its tiles are copied, and the next chunk is loaded. -/
theorem part35 (c : Dev nD) (w : BitVec 32) (Q : _ → sProp 𝕄) :
    records fa fb K ⊢ iprop(whole fa fb 1 c -∗ fly 2 3 0 3 c -∗ owN 28 c -∗ outR fa fb 31 c -∗ (∀ v : Vec F S96x576 .bf16, (⌜v = vec 96 (Fn fa fb 0) (96 * kp 0 3 4)⌝ ∗ whole fa fb 1 c ∗ spent 2 3 0 3 c ∗ owN 28 c ∗ whole fa fb 0 c ∗ outR fa fb 36 c) -∗ Q v)
      -∗ WP c (run (k0_part35 (F := F)) c w) Q) := by
  rw [k0_part35_eq_skeleton]; unfold run k0_part35_skel
  simp only [Prog.lift, Prog.bind_op, Prog.bind_ret, Prog.pure_eq_ret]
  iintro #HR' HV HF HO HR Hk
  iapply (copy_tile fa fb 1 15 31 rfl c rfl rfl) $$ HV HR; iintro ⟨HV, HR⟩
  iapply (ag_wait fa fb K 0 3 0 rfl 28 c rfl rfl (by decide) (by decide)) $$ HR' HF HO
  iintro ⟨HF, HW, HX, HO⟩
  ihave HW := (final_all fa fb 0 c) $$ HW HX
  iapply (copy_tile fa fb 0 0 32 rfl c rfl rfl) $$ HW HR; iintro ⟨HW, HR⟩
  iapply (copy_tile fa fb 0 1 33 rfl c rfl rfl) $$ HW HR; iintro ⟨HW, HR⟩
  iapply (copy_tile fa fb 0 2 34 rfl c rfl rfl) $$ HW HR; iintro ⟨HW, HR⟩
  iapply (copy_tile fa fb 0 3 35 rfl c rfl rfl) $$ HW HR; iintro ⟨HW, HR⟩
  iapply (load_chunk fa fb 0 4 c rfl) $$ HW; iintro HW
  iapply wp_done
  iapply Hk $$ %(vec (w := wd 0) 96 (Fn fa fb 0) (96 * kp 0 3 4))
  isplitr; · ipureintro; rfl
  iframe

/-- Part 36: the first stream's tiles up to the thirteenth are copied. -/
theorem part36 (c : Dev nD) (v : Vec F S96x576 .bf16) (hv : v = vec 96 (Fn fa fb 0) (96 * kp 0 3 4)) (Q : _ → sProp 𝕄) :
    whole fa fb 0 c ⊢ iprop(outR fa fb 36 c -∗ (∀ r, (whole fa fb 0 c ∗ outR fa fb 45 c) -∗ Q r)
      -∗ WP c (run (k0_part36 (F := F)) v) Q) := by
  rw [k0_part36_eq_skeleton]; unfold run k0_part36_skel
  simp only [Prog.lift, Prog.bind_op, Prog.bind_ret, Prog.pure_eq_ret]
  iintro HW HR Hk
  iapply (load_tile fa fb 36 c) $$ HR; iintro %_ HR
  iapply (store_tile fa fb 0 4 36 rfl c rfl hv) $$ HR; iintro HR
  iapply (copy_tile fa fb 0 5 37 rfl c rfl rfl) $$ HW HR; iintro ⟨HW, HR⟩
  iapply (copy_tile fa fb 0 6 38 rfl c rfl rfl) $$ HW HR; iintro ⟨HW, HR⟩
  iapply (copy_tile fa fb 0 7 39 rfl c rfl rfl) $$ HW HR; iintro ⟨HW, HR⟩
  iapply (copy_tile fa fb 0 8 40 rfl c rfl rfl) $$ HW HR; iintro ⟨HW, HR⟩
  iapply (copy_tile fa fb 0 9 41 rfl c rfl rfl) $$ HW HR; iintro ⟨HW, HR⟩
  iapply (copy_tile fa fb 0 10 42 rfl c rfl rfl) $$ HW HR; iintro ⟨HW, HR⟩
  iapply (copy_tile fa fb 0 11 43 rfl c rfl rfl) $$ HW HR; iintro ⟨HW, HR⟩
  iapply (copy_tile fa fb 0 12 44 rfl c rfl rfl) $$ HW HR; iintro ⟨HW, HR⟩
  iapply wp_done
  iapply Hk
  iframe

end Cert.KernelIdeal.Prf
-- ==== Proof.IdealBody.lean ====
/-
# The body

One device's body, part after part.
-/
module

public import proofs.«01_k».proof.Proof.IdealStart
public import proofs.«01_k».proof.Proof.IdealHalving
public import proofs.«01_k».proof.Proof.IdealDoubling
public import proofs.«01_k».proof.Proof.IdealCopy

@[expose] public section

noncomputable section

namespace Cert.KernelIdeal.Prf

open Cert.KernelIdeal Cert.KernelIdeal.Gen Cert.Bands Cert.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (fa : (c : Dev nD) → Buf (Elt F) ((xM : Memref sig .tc .vmem S1536x768 .bf16).view.loc (c : Thread nD τ)))
  (fb : (c : Dev nD) → Buf (Elt F) ((yM : Memref sig .tc .vmem S768x1536 .bf16).view.loc (c : Thread nD τ)))
variable (K : Dev nD × CI → ℕ)

/-- The transfers of kinds `k` and `k'` of stream `s` before any has started, and after all have ended. -/
def idles (k k' : Fin 4) (s : Fin 3) (c : Dev nD) : sProp 𝕄 :=
  iprop(idle (F := F) k k' s 0 c ∗ idle k k' s 1 c ∗ idle k k' s 2 c ∗ idle k k' s 3 c)
/-- The semaphores of the transfers of kinds `k` and `k'` of stream `s`, all at zero. -/
def spents (k k' : Fin 4) (s : Fin 3) (c : Dev nD) : sProp 𝕄 :=
  iprop(spent (F := F) k k' s 0 c ∗ spent k k' s 1 c ∗ spent k k' s 2 c ∗ spent k k' s 3 c)

/-- All the transfers of a device. -/
def allIdle (c : Dev nD) : sProp 𝕄 :=
  iprop((idles (F := F) 0 1 0 c ∗ idles 0 1 1 c ∗ idles 0 1 2 c) ∗ idles 2 3 0 c ∗ idles 2 3 1 c ∗ idles 2 3 2 c)
/-- All the transfer semaphores of a device at zero. -/
def allSpent (c : Dev nD) : sProp 𝕄 :=
  iprop((spents (F := F) 0 1 0 c ∗ spents 0 1 1 c ∗ spents 0 1 2 c) ∗ spents 2 3 0 c ∗ spents 2 3 1 c ∗ spents 2 3 2 c)

/-- The landing buffer of stream `s` after the four rounds. -/
def allLanded (s : Fin 3) (c : Dev nD) : sProp 𝕄 :=
  iprop(landed fa fb s 0 c ∗ landed fa fb s 1 c ∗ landed fa fb s 2 c ∗ landed fa fb s 3 c)

/-- What is left once the body has run: every semaphore at zero, nothing owed, and the buffers. -/
def ended (c : Dev nD) : sProp 𝕄 :=
  iprop((semVal (barCell c) 0 ∗ allSpent c) ∗ owN 28 c ∗ (hasX fa c ∗ hasY fb c ∗ outR fa fb 48 c)
    ∗ (whole fa fb 0 c ∗ whole fa fb 1 c ∗ whole fa fb 2 c) ∗ allLanded fa fb 0 c ∗ allLanded fa fb 1 c ∗ allLanded fa fb 2 c)

/-- Running one program and then another. -/
theorem then_run (c : Dev nD) {α β : Type} (p : Prog (TpuEff nD τ sig (Elt F) Λ₀ .tc) α) (k : α → Prog (TpuEff nD τ sig (Elt F) Λ₀ .tc) β) (Q : β → sProp 𝕄) :
    WP c p (fun a => WP c (k a) Q) ⊢ WP c (p >>= k) Q := by
  unfold WP
  rw [wp_bind]

set_option maxHeartbeats 4000000 in
set_option maxRecDepth 65536 in
/-- The body, from its start to its end. -/
theorem body_run (c : Dev nD) (Q : PUnit → sProp 𝕄) :
    records fa fb K ⊢ iprop(gate c -∗ allIdle c -∗ owN 0 c -∗ (hasX fa c ∗ hasY fb c ∗ outR fa fb 0 c)
      -∗ (blank 0 c ∗ blank 1 c ∗ blank 2 c) -∗ (ended fa fb c -∗ Q ⟨⟩) -∗ WP c (run (cc0_body (F := F))) Q) := by
  rw [cc0_body_eq_skeleton]; unfold run cc0_body_skel allIdle idles
  iintro #HR gate ⟨⟨⟨idle000, idle001, idle002, idle003⟩, ⟨idle010, idle011, idle012, idle013⟩, ⟨idle020, idle021, idle022, idle023⟩⟩, ⟨idle200, idle201, idle202, idle203⟩, ⟨idle210, idle211, idle212, idle213⟩, ⟨idle220, idle221, idle222, idle223⟩⟩ ow ⟨X, Y, out⟩ ⟨blank0, blank1, blank2⟩ Hk
  iapply (then_run c)
  iapply (part1 fa fb K c) $$ HR gate ow X
  iintro %r ⟨%h, bar, lands, X, ow⟩
  obtain ⟨d0, v2, v17, v19, v21, v23⟩ := r
  obtain ⟨rfl, h17, h19, h21, h23⟩ := h
  dsimp only
  unfold allLand
  icases lands with ⟨⟨land00, land11, land22⟩, ⟨land01, land10, land23⟩, ⟨land02, land13, land20⟩, land03, land12, land21⟩
  iapply (then_run c)
  iapply (part2 fa fb c _ _ _ _ h17 h19 h21 h23) $$ X Y blank0
  iintro %r ⟨X, Y, held00⟩
  iapply (then_run c)
  iapply (part3 fa fb K c _) $$ HR held00 idle000 land00 ow X
  iintro %r ⟨%h, fly000, kept00, X, ow⟩
  obtain ⟨v64, v66, v76, v78, v80, v82, v84, v85⟩ := r
  obtain ⟨h76, h78, h80, h82, h84, h85⟩ := h
  dsimp only
  iapply (then_run c)
  iapply (part4 fa fb c _ _ _ _ _ _ _ h76 h78 h80 h82 h84 h85) $$ X Y blank1
  iintro %r ⟨X, Y, held10⟩
  obtain ⟨v116, c1⟩ := r
  dsimp only
  iapply (then_run c)
  iapply (part5 fa fb K c _ _ _) $$ HR held10 idle010 land10 ow X
  iintro %r ⟨%h, fly010, kept10, X, ow⟩
  obtain ⟨v121, v123, v133, v135, v137, v139, v141, v143, v145, v146⟩ := r
  obtain ⟨h133, h135, h137, h139, h141, h143, h145, h146⟩ := h
  dsimp only
  iapply (then_run c)
  iapply (part6 fa fb c _ _ _ _ _ _ _ _ _ h133 h135 h137 h139 h141 h143 h145 h146) $$ X Y blank2
  iintro %r ⟨X, Y, held20⟩
  obtain ⟨v176, v177, c0⟩ := r
  dsimp only
  iapply (then_run c)
  iapply (part7 fa fb K c _ _ _ _) $$ HR held20 idle020 land20 ow
  iintro %r ⟨%h, kept20, landed20, spent020, back20, ow⟩
  obtain ⟨v178, v203, v206⟩ := r
  have h203 := h; clear h
  dsimp only
  iapply (then_run c)
  iapply (part8 fa fb K c _ _ _ _ _ h203) $$ HR kept20 idle021 land21 fly010 ow
  iintro %r ⟨kept21, fly021, landed10, spent010, back10, ow⟩
  obtain ⟨v215, v217⟩ := r
  dsimp only
  iapply (then_run c)
  iapply (part9 fa fb K c _ _) $$ HR kept10 landed10 idle011 land11 ow
  iintro %r ⟨landed10, kept11, fly011, ow⟩
  obtain ⟨v254, v256⟩ := r
  dsimp only
  iapply (then_run c)
  iapply (part10 fa fb K c _ _ _) $$ HR kept00 fly000 ow
  iintro %r ⟨added00, landed00, spent000, back00, ow⟩
  obtain ⟨v291, v293⟩ := r
  dsimp only
  iapply (then_run c)
  iapply (part11 fa fb K c _ _ _) $$ HR added00 idle001 land01 kept11 fly011 ow
  iintro %r ⟨kept01, fly001, added11, landed11, spent011, back11, ow⟩
  obtain ⟨v326, v328⟩ := r
  dsimp only
  iapply (then_run c)
  iapply (part12 fa fb K c _ _ _ _) $$ HR added11 idle012 land12 kept01 fly001 ow
  iintro %r ⟨%h, kept12, fly012, kept01, landed01, spent001, back01, ow⟩
  obtain ⟨v330, v353⟩ := r
  have h353 := h; clear h
  dsimp only
  iapply (then_run c)
  iapply (part13 fa fb K c _ _ _ _ h353) $$ HR kept01 idle002 land02 fly021 ow
  iintro %r ⟨kept02, fly002, landed21, spent021, back21, ow⟩
  obtain ⟨v365, v367, c96⟩ := r
  dsimp only
  iapply (then_run c)
  iapply (part14 fa fb K c _ _ _) $$ HR kept21 landed21 idle022 land22 ow
  iintro %r ⟨landed21, kept22, fly022, ow⟩
  obtain ⟨v404, v406⟩ := r
  dsimp only
  iapply (then_run c)
  iapply (part15 fa fb K c _ _ _) $$ HR kept22 fly022 ow
  iintro %r ⟨added22, landed22, spent022, back22, ow⟩
  obtain ⟨v441, v443⟩ := r
  dsimp only
  iapply (then_run c)
  iapply (part16 fa fb K c _ _ _) $$ HR added22 idle023 land23 kept02 fly002 ow
  iintro %r ⟨kept23, fly023, added02, landed02, spent002, back02, ow⟩
  obtain ⟨v476, v478, c96⟩ := r
  dsimp only
  iapply (then_run c)
  iapply (part17 fa fb K c _ _ _ _ _) $$ HR added02 idle003 land03 kept12 fly012 ow
  iintro %r ⟨%h, kept03, fly003, kept12, landed12, spent012, back12, ow⟩
  obtain ⟨v480, v508⟩ := r
  have h508 := h; clear h
  dsimp only
  iapply (then_run c)
  iapply (part18 fa fb K c _ _ _ _ _ h508) $$ HR kept12 idle013 land13 fly023 ow
  iintro %r ⟨kept13, fly013, landed23, spent023, back23, ow⟩
  obtain ⟨v515, v517, v536⟩ := r
  dsimp only
  iapply (then_run c)
  iapply (part19 fa fb K c _ _ _) $$ HR kept23 landed23 idle220 back23 ow
  iintro %r ⟨landed23, fly220, ow⟩
  iapply (then_run c)
  iapply (part20 fa fb K c _ _) $$ HR kept13 fly013 ow
  iintro %r ⟨%h, added13, landed13, spent013, back13, ow⟩
  have h603 := h; clear h
  iapply (then_run c)
  iapply (part21 fa fb K c _ _ _ _ _ h603) $$ HR added13 idle210 back13 kept03 fly003 ow
  iintro %r ⟨%h, fly210, kept03, landed03, spent003, back03, ow⟩
  obtain ⟨v611, v634, c96⟩ := r
  have h634 := h; clear h
  dsimp only
  iapply (then_run c)
  iapply (part22 fa fb K c _ _ _ _ h634) $$ HR kept03 idle200 back03 ow
  iintro %r ⟨fly200, ow⟩
  iapply (then_run c)
  iapply (part23 fa fb K c _ _ _ _) $$ HR fly220 idle221 back22 fly210 ow
  iintro %r ⟨spent220, fly221, half210, final13, ow⟩
  obtain ⟨v680, v683⟩ := r
  dsimp only
  iapply (then_run c)
  iapply (part24 fa fb K c _ _ _) $$ HR half210 final13 idle211 back12 fly200 ow
  iintro %r ⟨spent210, fly211, spent200, final02, ow⟩
  obtain ⟨v705, v708, v728⟩ := r
  dsimp only
  iapply (then_run c)
  iapply (part25 fa fb K c _ _ _ _ _) $$ HR final02 idle201 back02 fly221 ow
  iintro %r ⟨fly201, spent221, final21, ow⟩
  obtain ⟨v730, v733, v757, c96⟩ := r
  dsimp only
  iapply (then_run c)
  iapply (part26 fa fb K c _ _ _ _ _) $$ HR final21 idle222 back21 fly201 ow
  iintro %r ⟨fly222, spent201, final01, ow⟩
  obtain ⟨v760, v782, v785⟩ := r
  dsimp only
  iapply (then_run c)
  iapply (part27 fa fb K c _ _ _) $$ HR final01 idle202 back01 fly211 idle212 back11 ow
  iintro %r ⟨fly202, spent211, fly212, ow⟩
  obtain ⟨v807, v810⟩ := r
  dsimp only
  iapply (then_run c)
  iapply (part28 fa fb K c _ _ _) $$ HR fly212 idle213 back10 ow
  iintro %r ⟨spent212, fly213, ow⟩
  iapply (then_run c)
  iapply (part29 fa fb K c _ _ _ _) $$ HR fly202 idle203 back00 fly222 ow
  iintro %r ⟨spent202, fly203, half222, final21, ow⟩
  obtain ⟨v862, v875, c0⟩ := r
  dsimp only
  iapply (then_run c)
  iapply (part30 fa fb K c _ _ _ _) $$ HR half222 final21 idle223 back20 ow
  iintro %r ⟨spent222, spent223, whole2, ow⟩
  iapply (then_run c)
  iapply (part31 fa fb c) $$ whole2 out
  iintro %r ⟨%h, whole2, out⟩
  have h922 := h; clear h
  iapply (then_run c)
  iapply (part32 fa fb c _ h922) $$ whole2 out
  iintro %r ⟨whole2, out⟩
  iapply (then_run c)
  iapply (part33 fa fb K c _) $$ HR fly213 ow out
  iintro %r ⟨%h, spent213, ow, whole1, out⟩
  have h960 := h; clear h
  iapply (then_run c)
  iapply (part34 fa fb c _ h960) $$ whole1 out
  iintro %r ⟨whole1, out⟩
  iapply (then_run c)
  iapply (part35 fa fb K c _) $$ HR whole1 fly203 ow out
  iintro %r ⟨%h, whole1, spent203, ow, whole0, out⟩
  have h998 := h; clear h
  iapply (then_run c)
  iapply (part36 fa fb c _ h998) $$ whole0 out
  iintro %r ⟨whole0, out⟩
  simp only [Prog.lift, Prog.bind_op, Prog.bind_ret, Prog.pure_eq_ret]
  iapply (copy_tile fa fb 0 13 45 rfl c rfl rfl) $$ whole0 out; iintro ⟨whole0, out⟩
  iapply (copy_tile fa fb 0 14 46 rfl c rfl rfl) $$ whole0 out; iintro ⟨whole0, out⟩
  iapply (copy_tile fa fb 0 15 47 rfl c rfl rfl) $$ whole0 out; iintro ⟨whole0, out⟩
  iapply wp_done
  iapply Hk
  unfold ended allSpent spents allLanded
  iframe

end Cert.KernelIdeal.Prf
-- ==== Proof.IdealStage.lean ====
/-
# The kernel's own buffers

The working and landing buffers as bands of rows, whole before the body and whole after it.
-/
module

public import proofs.«01_k».proof.Proof.IdealBody

@[expose] public section

noncomputable section

namespace Cert.KernelIdeal.Prf

open Cert.KernelIdeal Cert.KernelIdeal.Gen Cert.Bands Cert.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (fa : (c : Dev nD) → Buf (Elt F) ((xM : Memref sig .tc .vmem S1536x768 .bf16).view.loc (c : Thread nD τ)))
  (fb : (c : Dev nD) → Buf (Elt F) ((yM : Memref sig .tc .vmem S768x1536 .bf16).view.loc (c : Thread nD τ)))
variable (K : Dev nD × CI → ℕ)

/-! ## Bands with any contents -/

section Any
variable {n w : ℕ} (M : Memref sig .tc .vmem (S2 n w) .bf16) (c : Dev nD)

/-- A band with any contents is cut in two. -/
theorem anyRows_split (a h₁ h₂ : ℕ) : anyRows (F := F) M c a (h₁ + h₂) ⊢ iprop(anyRows M c a h₁ ∗ anyRows M c (a + h₁) h₂) := by
  unfold anyRows
  iintro ⟨%f, H⟩
  ihave H := (rows_split M c a h₁ h₂ f) $$ H
  icases H with ⟨H1, H2⟩
  isplitl [H1]
  · iexists f; iexact H1
  · iexists f; iexact H2

/-- Two neighbouring bands with any contents make one. -/
theorem anyRows_join (a h₁ h₂ : ℕ) : iprop(anyRows (F := F) M c a h₁ ∗ anyRows M c (a + h₁) h₂) ⊢ anyRows M c a (h₁ + h₂) := by
  unfold anyRows
  iintro ⟨⟨%f, H1⟩, ⟨%f', H2⟩⟩
  iexists fun r k => if r < a + h₁ then f r k else f' r k
  iapply (rows_join M c a h₁ h₂ _)
  isplitl [H1]
  · iapply (rows_congr M c (f := f) (fun r k _ h => by rw [if_pos h]))
    iexact H1
  · iapply (rows_congr M c (f := f') (fun r k h _ => by rw [if_neg (by omega)]))
    iexact H2

/-- A whole buffer is the band of all its rows. -/
theorem any_of_whole (hM : M.IsWhole) :
    iprop(∃ g : Buf (Elt F) (M.view.loc (c : Thread nD τ)), (M.view.loc (c : Thread nD τ)) ↦{fullShare} g) ⊢ (anyRows M c 0 n : sProp 𝕄) := by
  iintro ⟨%g, H⟩
  unfold anyRows
  iexists tab zero16 (M.view.read (Elt F) g)
  iapply (rows_of_whole M c hM g _ (fun i => (tab_idx zero16 _ i).symm)) $$ H

/-- The band of all rows is the whole buffer. -/
theorem whole_of_any (hM : M.IsWhole) :
    (anyRows M c 0 n : sProp 𝕄) ⊢ iprop(∃ g : Buf (Elt F) (M.view.loc (c : Thread nD τ)), (M.view.loc (c : Thread nD τ)) ↦{fullShare} g) := by
  unfold anyRows
  iintro ⟨%f, H⟩
  ihave H := (whole_of_rows M c hM f) $$ H
  icases H with ⟨%g, -, H⟩
  iexists g; iexact H

end Any

/-! ## A landing buffer is the bands of the four rounds -/

/-- The bands of the four rounds in the landing buffer of stream `s`. -/
def bands (s : Fin 3) (c : Dev nD) : sProp 𝕄 :=
  iprop(anyRows (F := F) (sg s) c (96 * so 0) (96 * hh 0) ∗ anyRows (sg s) c (96 * so 1) (96 * hh 1)
    ∗ anyRows (sg s) c (96 * so 2) (96 * hh 2) ∗ anyRows (sg s) c (96 * so 3) (96 * hh 3))

/-- A landing buffer cut into the bands of the four rounds. -/
theorem bands_of_any (s : Fin 3) (c : Dev nD) : anyRows (F := F) (sg s) c 0 1440 ⊢ bands s c := by
  unfold bands
  iintro H
  ihave H := (anyRows_split (sg s) c 0 768 672) $$ H
  icases H with ⟨H0, H⟩
  ihave H := (anyRows_split (sg s) c (0 + 768) 384 288) $$ H
  icases H with ⟨H1, H⟩
  ihave H := (anyRows_split (sg s) c (0 + 768 + 384) 192 96) $$ H
  icases H with ⟨H2, H3⟩
  isplitl [H0]; · iexact H0
  isplitl [H1]; · iexact H1
  isplitl [H2]; · iexact H2
  iexact H3

/-- The bands of the four rounds put together. -/
theorem any_of_bands (s : Fin 3) (c : Dev nD) : bands (F := F) s c ⊢ anyRows (sg s) c 0 1440 := by
  unfold bands
  iintro ⟨H0, H1, H2, H3⟩
  iapply (anyRows_join (sg s) c 0 768 672)
  isplitl [H0]; · iexact H0
  iapply (anyRows_join (sg s) c (0 + 768) 384 288)
  isplitl [H1]; · iexact H1
  iapply (anyRows_join (sg s) c (0 + 768 + 384) 192 96)
  isplitl [H2]; · iexact H2
  iexact H3

/-- The bands of the three landing buffers, by the neighbour that sends to them. -/
theorem lands_of_bands (c : Dev nD) :
    iprop(bands (F := F) 0 c ∗ bands 1 c ∗ bands 2 c) ⊢ iprop(lands 0 c ∗ lands 1 c ∗ lands 2 c ∗ lands 3 c) := by
  unfold bands lands
  iintro ⟨⟨A0, A1, A2, A3⟩, ⟨B0, B1, B2, B3⟩, C0, C1, C2, C3⟩
  isplitl [A0 B1 C2]
  · isplitl [A0]; · iexact A0
    isplitl [B1]; · iexact B1
    iexact C2
  isplitl [A1 B0 C3]
  · isplitl [A1]; · iexact A1
    isplitl [B0]; · iexact B0
    iexact C3
  isplitl [A2 B3 C0]
  · isplitl [A2]; · iexact A2
    isplitl [B3]; · iexact B3
    iexact C0
  · isplitl [A3]; · iexact A3
    isplitl [B2]; · iexact B2
    iexact C1

/-- What landed in a stream's landing buffer is the whole of it. -/
theorem any_of_landed (s : Fin 3) (c : Dev nD) : allLanded fa fb s c ⊢ (anyRows (F := F) (sg s) c 0 1440) := by
  unfold allLanded landed
  iintro ⟨H0, H1, H2, H3⟩
  iapply (any_of_bands s c)
  unfold bands anyRows
  isplitl [H0]; · iexists _; iexact H0
  isplitl [H1]; · iexists _; iexact H1
  isplitl [H2]; · iexists _; iexact H2
  iexists _; iexact H3

/-- The final working buffer, contents forgotten. -/
theorem any_of_final (s : Fin 3) (c : Dev nD) : whole fa fb s c ⊢ (anyRows (F := F) (wk s) c 0 1536) := by
  unfold whole anyRows
  iintro H; iexists _; iexact H

/-- The six buffers of the kernel's own, whole at any contents. -/
def sixBufs (c : Dev nD) : sProp 𝕄 :=
  iprop(anyRows (F := F) (wk 0) c 0 1536 ∗ anyRows (wk 1) c 0 1536 ∗ anyRows (wk 2) c 0 1536
    ∗ anyRows (sg 0) c 0 1440 ∗ anyRows (sg 1) c 0 1440 ∗ anyRows (sg 2) c 0 1440)

/-- The kernel's own buffers as the launch hands them over. -/
theorem sixBufs_of_rest (c : Dev nD) :
    (Pipeline.scopedRest (Ix := Unit) (Name := ℕ) (U := UU) (Lvl := ℕ) (Val := Elt F) spec0 c : sProp 𝕄) ⊢ sixBufs c := by
  rw [scopedRest0_eq]; unfold sixBufs
  exact BI.sep_mono (any_of_whole (wk 0) c (wk_whole 0)) (BI.sep_mono (any_of_whole (wk 1) c (wk_whole 1))
    (BI.sep_mono (any_of_whole (wk 2) c (wk_whole 2)) (BI.sep_mono (any_of_whole (sg 0) c (sg_whole 0))
    (BI.sep_mono (any_of_whole (sg 1) c (sg_whole 1)) (any_of_whole (sg 2) c (sg_whole 2))))))

/-- And as the launch takes them back. -/
theorem rest_of_sixBufs (c : Dev nD) :
    sixBufs c ⊢ (Pipeline.scopedRest (Ix := Unit) (Name := ℕ) (U := UU) (Lvl := ℕ) (Val := Elt F) spec0 c : sProp 𝕄) := by
  rw [scopedRest0_eq]; unfold sixBufs
  exact BI.sep_mono (whole_of_any (wk 0) c (wk_whole 0)) (BI.sep_mono (whole_of_any (wk 1) c (wk_whole 1))
    (BI.sep_mono (whole_of_any (wk 2) c (wk_whole 2)) (BI.sep_mono (whole_of_any (sg 0) c (sg_whole 0))
    (BI.sep_mono (whole_of_any (sg 1) c (sg_whole 1)) (whole_of_any (sg 2) c (sg_whole 2))))))

end Cert.KernelIdeal.Prf
-- ==== Proof.IdealDeal.lean ====
/-
# What each device starts with

The tokens of the duties go to the devices that pay them, and the credit to the devices that are paid.
-/
module

public import proofs.«01_k».proof.Proof.IdealBody

@[expose] public section

noncomputable section

namespace Cert.KernelIdeal.Prf

open Cert.KernelIdeal Cert.KernelIdeal.Gen Cert.Bands Cert.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (fa : (c : Dev nD) → Buf (Elt F) ((xM : Memref sig .tc .vmem S1536x768 .bf16).view.loc (c : Thread nD τ)))
  (fb : (c : Dev nD) → Buf (Elt F) ((yM : Memref sig .tc .vmem S768x1536 .bf16).view.loc (c : Thread nD τ)))
variable (K : Dev nD × CI → ℕ)

/-! ## Lists of conjuncts -/

/-- Four conjuncts written out. -/
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- Three conjuncts written out. -/
theorem bigSep_three (Φ : Fin 3 → sProp 𝕄) : bigSep Finset.univ Φ = iprop(Φ 0 ∗ Φ 1 ∗ Φ 2) :=
  bigSep_univ_eq_bigSepL [0, 1, 2] (by decide) (by decide) Φ

/-- One conjunct for each round of each stream. -/
def grid (Φ : Fin 3 → Fin 4 → sProp 𝕄) : sProp 𝕄 := bigSep Finset.univ fun s : Fin 3 => bigSep Finset.univ fun j : Fin 4 => Φ s j

/-- The grid written out. -/
theorem grid_eq (Φ : Fin 3 → Fin 4 → sProp 𝕄) :
    grid Φ = iprop((Φ 0 0 ∗ Φ 0 1 ∗ Φ 0 2 ∗ Φ 0 3) ∗ (Φ 1 0 ∗ Φ 1 1 ∗ Φ 1 2 ∗ Φ 1 3) ∗ Φ 2 0 ∗ Φ 2 1 ∗ Φ 2 2 ∗ Φ 2 3) := by
  unfold grid; rw [bigSep_three, bigSep_four, bigSep_four, bigSep_four]

/-- A grid of pairs is a pair of grids. -/
theorem grid_sep (Φ Ψ : Fin 3 → Fin 4 → sProp 𝕄) : grid (fun s j => iprop(Φ s j ∗ Ψ s j)) = iprop(grid Φ ∗ grid Ψ) := by
  unfold grid
  rw [← bigSep_sep']
  exact bigSep_congr fun s _ => bigSep_sep' _ _ _

/-- A grid follows from a grid, entry by entry. -/
theorem grid_mono {Φ Ψ : Fin 3 → Fin 4 → sProp 𝕄} (h : ∀ s j, Φ s j ⊢ Ψ s j) : grid Φ ⊢ grid Ψ :=
  bigSep_mono fun s _ => bigSep_mono fun j _ => h s j

/-- The four kinds of one transfer side by side. -/
theorem bigSep_kinds (Φ : Fin 4 → Fin 3 → Fin 4 → sProp 𝕄) :
    (bigSep Finset.univ fun i : Fin 4 × Fin 3 × Fin 4 => Φ i.1 i.2.1 i.2.2)
      = iprop(grid (fun s j => iprop(Φ 0 s j ∗ Φ 1 s j)) ∗ grid (fun s j => iprop(Φ 2 s j ∗ Φ 3 s j))) := by
  have h (k : Fin 4) : (bigSep Finset.univ fun p : Fin 3 × Fin 4 => Φ k p.1 p.2) = grid (Φ k) := by
    unfold grid; rw [bigSep_univ_prod]
  rw [bigSep_univ_prod, bigSep_four, grid_sep, grid_sep]
  dsimp only
  rw [h, h, h, h]
  have e1 (A B C D : sProp 𝕄) : iprop(A ∗ B ∗ C ∗ D) ⊢ iprop((A ∗ B) ∗ C ∗ D) := by
    iintro ⟨H0, H1, H2, H3⟩
    isplitl [H0 H1]
    · isplitl [H0] <;> iassumption
    · isplitl [H2] <;> iassumption
  have e2 (A B C D : sProp 𝕄) : iprop((A ∗ B) ∗ C ∗ D) ⊢ iprop(A ∗ B ∗ C ∗ D) := by
    iintro ⟨⟨H0, H1⟩, H2, H3⟩
    isplitl [H0]; · iexact H0
    isplitl [H1]; · iexact H1
    isplitl [H2] <;> iassumption
  exact Entails.antisymm (e1 _ _ _ _) (e2 _ _ _ _)

/-- The barrier's conjunct apart from the transfers'. -/
theorem bigSep_cells (Φ : CI → sProp 𝕄) : bigSep Finset.univ Φ = iprop(Φ none ∗ bigSep Finset.univ fun i => Φ (some i)) := by
  rw [bigSep_univ_at Φ none, show (Finset.univ.erase none : Finset CI) = Finset.univ.map ⟨some, Option.some_injective _⟩ from by
    ext x; cases x <;> simp, bigSep_map]
  rfl

/-- Something persistent can be used on every conjunct. -/
theorem bigSep_using {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  have e : iprop((bigSep S fun _ => R) ∗ bigSep S Φ) ⊢ bigSep S Ψ := by
    rw [← bigSep_sep']; exact bigSep_mono h
  iintro ⟨HR, H⟩
  iapply e
  isplitl [HR]
  · iapply (BI.bigSep_of_persistent S R) $$ HR
  · iexact H

/-! ## The tokens -/

/-- The duties of a device's cells: four at its barrier and one at each transfer cell. -/
abbrev TI : Type := Fin 4 ⊕ (Fin 4 × Fin 3 × Fin 4)

/-- The duty as cell, round and name. -/
abbrev tokAt (x : TI) (c : Dev nD) : GSem nD τ sig × ℕ × Fin 4 :=
  match x with
  | .inl d => (barCell c, 0, d)
  | .inr i => (kcell (c, some i), 0, 0)

/-- The device that pays a duty of device `c`, as a permutation of the devices. -/
def payer (x : TI) : Dev nD ≃ Dev nD :=
  match x with
  | .inl d => prEquiv d
  | .inr (0, s, j) => Equiv.refl _
  | .inr (1, s, j) => prEquiv (dir s j)
  | .inr (2, s, j) => Equiv.refl _
  | .inr (3, s, j) => prEquiv (dir s j.rev)

/-- Different names are different cells. -/
theorem kcell_inj : Function.Injective (kcell : Dev nD × CI → GSem nD τ sig) := by
  rintro ⟨c, i⟩ ⟨c', i'⟩ h
  have h1 : c = c' := congrArg (fun g : GSem nD τ sig => g.1.1) h
  have h2 : i = i' := csem_inj (congrArg Prod.snd h)
  rw [h1, h2]

/-- Different names are different duties. -/
theorem tokAt_inj : Function.Injective (fun p : Dev nD × TI => tokAt p.2 p.1) := by
  rintro ⟨c, x⟩ ⟨c', x'⟩ h
  have hg : (tokAt x c).1 = (tokAt x' c').1 := congrArg (fun y : GSem nD τ sig × ℕ × Fin 4 => y.1) h
  have hd : (tokAt x c).2.2 = (tokAt x' c').2.2 := congrArg (fun y : GSem nD τ sig × ℕ × Fin 4 => y.2.2) h
  cases x with
  | inl d => cases x' with
    | inl d' =>
      have := kcell_inj (a₁ := (c, none)) (a₂ := (c', none)) hg
      cases this
      cases (show d = d' from hd)
      rfl
    | inr i' => exact absurd (kcell_inj (a₁ := (c, none)) (a₂ := (c', some i')) hg) (by simp)
  | inr i => cases x' with
    | inl d' => exact absurd (kcell_inj (a₁ := (c, some i)) (a₂ := (c', none)) hg) (by simp)
    | inr i' =>
      have := kcell_inj (a₁ := (c, some i)) (a₂ := (c', some i')) hg
      cases this
      rfl

/-- The token of one duty. -/
def tok (x : TI) (c : Dev nD) : sProp 𝕄 := dutyTok ER (tokAt x c).1 (tokAt x c).2.1 (tokAt x c).2.2

/-- Every token goes to the device that pays. -/
theorem toks_deal : (bigSep Finset.univ fun c : Dev nD => bigSep Finset.univ fun x : TI => tok (F := F) x c)
    = bigSep Finset.univ fun c : Dev nD => bigSep Finset.univ fun x : TI => tok (F := F) x (payer x c) := by
  rw [bigSep_univ_comm, bigSep_univ_comm (fun (c : Dev nD) (x : TI) => tok (F := F) x (payer x c))]
  exact bigSep_congr fun x _ => bigSep_univ_equiv (payer x) _

/-- What a device needs for one transfer beside the credit. -/
def bare (k k' : Fin 4) (s : Fin 3) (j : Fin 4) (c : Dev nD) : sProp 𝕄 :=
  iprop((tok (F := F) (.inr (k, s, j)) (payer (.inr (k, s, j)) c) ∗ atPos ER (dmaCell k s j c) 0 ∅ 0)
    ∗ tok (.inr (k', s, j)) (payer (.inr (k', s, j)) c) ∗ atPos ER (dmaCell k' s j c) 0 ∅ 0)

/-- What a device starts with, beside the credit. -/
def dealt (c : Dev nD) : sProp 𝕄 :=
  iprop(((dutyTok ER (barCell (pr 0 c)) 0 0 ∗ dutyTok ER (barCell (pr 1 c)) 0 1 ∗ dutyTok ER (barCell (pr 2 c)) 0 2 ∗ dutyTok ER (barCell (pr 3 c)) 0 3)
      ∗ atPos ER (barCell c) 0 ∅ 0)
    ∗ grid (fun s j => bare (F := F) 0 1 s j c) ∗ grid (fun s j => bare 2 3 s j c))

/-- The positions of a device's cells and the tokens it pays with, sorted by transfer. -/
theorem dealt_of (c : Dev nD) :
    iprop((bigSep Finset.univ fun i : CI => atPos ER (kcell (c, i)) 0 ∅ 0) ∗ bigSep Finset.univ fun x : TI => tok (F := F) x (payer x c))
      ⊢ dealt c := by
  rw [bigSep_cells, show (bigSep Finset.univ fun x : TI => tok (F := F) x (payer x c))
      = iprop((bigSep Finset.univ fun d : Fin 4 => tok (F := F) (.inl d) (payer (.inl d) c))
        ∗ bigSep Finset.univ fun i : Fin 4 × Fin 3 × Fin 4 => tok (F := F) (.inr i) (payer (.inr i) c)) from bigSep_univ_sum _, bigSep_four]
  have h : iprop((bigSep Finset.univ fun i : Fin 4 × Fin 3 × Fin 4 => tok (F := F) (.inr i) (payer (.inr i) c))
      ∗ (bigSep Finset.univ fun i : Fin 4 × Fin 3 × Fin 4 => atPos ER (kcell (c, some i)) 0 ∅ 0))
      ⊢ iprop(grid (fun s j => bare (F := F) 0 1 s j c) ∗ grid (fun s j => bare 2 3 s j c)) := by
    rw [← bigSep_sep']
    exact Entails.of_eq (bigSep_kinds fun k s j => iprop(tok (F := F) (.inr (k, s, j)) (payer (.inr (k, s, j)) c) ∗ atPos ER (dmaCell k s j c) 0 ∅ 0))
  unfold dealt
  iintro ⟨⟨Hb, Ha⟩, Ht, Hk⟩
  isplitl [Hb Ht]
  · isplitl [Ht]; · iexact Ht
    iexact Hb
  iapply h
  isplitl [Hk] <;> iassumption

/-! ## The credit -/

/-- The cell of device `c` that another device's payment of the same name goes to. -/
def mine (c : Dev nD) : It → GSem nD τ sig
  | .bar k => barCell c
  | .rs s j => dmaCell 1 s j c
  | .ag s j => dmaCell 3 s j c

/-- The credit for one payment. -/
def credOf (c : Dev nD) (i : It) : sProp 𝕄 := cred (tallyAt (mine c i) () (amt i))

/-- What all devices together owe under one name is, at each device, the credit for one payment. -/
theorem credOf_one (c : Dev nD) (i : It) : (Pipeline.launchCred (fun d => tallyAt (tgt d i) () (amt i)) c : sProp 𝕄) ⊢ credOf c i := by
  cases i with
  | bar k => exact Pipeline.launchCred_tallyAt _ (pr k) (pr k) (pr_pr k) (pr_pr k) () _ c
  | rs s j => exact Pipeline.launchCred_tallyAt _ (pe s j) (pe s j) (pr_pr _) (pr_pr _) () _ c
  | ag s j => exact Pipeline.launchCred_tallyAt _ (pe s j.rev) (pe s j.rev) (pr_pr _) (pr_pr _) () _ c

/-- The credit for the payments in a list. -/
def credsOf (c : Dev nD) : List It → sProp 𝕄
  | [] => iprop(emp)
  | i :: l => iprop(credsOf c l ∗ credOf c i)

/-- The same for a list of payments. -/
theorem credsOf_launch (c : Dev nD) (l : List It) : (Pipeline.launchCred (fun d => tl d l) c : sProp 𝕄) ⊢ credsOf c l := by
  induction l with
  | nil => exact Entails.of_eq (Pipeline.launchCred_zero c)
  | cons i l ih =>
    unfold tl credsOf
    rw [Pipeline.launchCred_add (fun d => tl d l) (fun d => tallyAt (tgt d i) () (amt i)) c]
    iintro ⟨H, H1⟩
    isplitl [H]
    · iapply ih $$ H
    · iapply (credOf_one c i) $$ H1

/-- The four barrier payments make one credit of four. -/
theorem bar_credit (c : Dev nD) :
    iprop(credOf (F := F) c (.bar 0) ∗ credOf c (.bar 1) ∗ credOf c (.bar 2) ∗ credOf c (.bar 3)) ⊢ cred (tallyAt (barCell c) () 4) := by
  have h (a b : ℕ) : iprop(cred (tallyAt (barCell c) () a) ∗ cred (tallyAt (barCell c) () b)) ⊢ (cred (tallyAt (barCell c) () (a + b)) : sProp 𝕄) := by
    rw [← tallyAt_add]; exact (cred_add _ _).2
  unfold credOf
  iintro ⟨H0, H1, H2, H3⟩
  iapply (h 1 3)
  isplitl [H0]; · iexact H0
  iapply (h 1 2)
  isplitl [H1]; · iexact H1
  iapply (h 1 1)
  isplitl [H2]; · iexact H2
  iexact H3

set_option maxHeartbeats 1000000 in
/-- The credit for all payments, sorted by transfer. -/
theorem credsOf_pays (c : Dev nD) :
    credsOf (F := F) c pays ⊢ iprop(cred (tallyAt (barCell c) () 4) ∗ grid (fun s j => credOf c (.rs s j)) ∗ grid (fun s j => credOf c (.ag s j))) := by
  rw [grid_eq, grid_eq]
  dsimp only [pays, credsOf]
  iintro H
  icases H with ⟨⟨⟨⟨⟨⟨⟨⟨⟨⟨⟨⟨⟨⟨⟨⟨⟨⟨⟨⟨⟨⟨⟨⟨⟨⟨⟨⟨-, ag23⟩, ag03⟩, ag13⟩, ag12⟩, ag02⟩, ag22⟩, ag01⟩, ag11⟩, ag21⟩, ag00⟩, ag10⟩, ag20⟩, rs13⟩, rs03⟩, rs23⟩, rs22⟩, rs02⟩, rs12⟩, rs01⟩, rs11⟩, rs21⟩, rs20⟩, rs10⟩, rs00⟩, b3⟩, b2⟩, b1⟩, b0⟩
  isplitl [b0 b1 b2 b3]
  · iapply (bar_credit c)
    iframe
  iframe

/-- With its credit a transfer is ready. -/
theorem idle_of_bare₁ (c : Dev nD) (s : Fin 3) (j : Fin 4) : iprop(bare (F := F) 0 1 s j c ∗ credOf c (.rs s j)) ⊢ idle 0 1 s j c := by
  unfold bare credOf idle
  iintro ⟨⟨⟨H1, H2⟩, H3, H4⟩, H5⟩
  ihave H1 := (Entails.of_eq (show tok (F := F) (.inr (0, s, j)) (payer (.inr (0, s, j)) c) = dutyTok ER (dmaCell 0 s j c) 0 0 from rfl)) $$ H1
  ihave H3 := (Entails.of_eq (show tok (F := F) (.inr (1, s, j)) (payer (.inr (1, s, j)) c) = dutyTok ER (dmaCell 1 s j (pe s (lvl 0 j) c)) 0 0 from rfl)) $$ H3
  isplitl [H1]; · iexact H1
  isplitl [H3]; · iexact H3
  isplitl [H2]; · iexact H2
  isplitl [H4]; · iexact H4
  iexact H5

/-- The same for the last four rounds. -/
theorem idle_of_bare₂ (c : Dev nD) (s : Fin 3) (j : Fin 4) : iprop(bare (F := F) 2 3 s j c ∗ credOf c (.ag s j)) ⊢ idle 2 3 s j c := by
  unfold bare credOf idle
  iintro ⟨⟨⟨H1, H2⟩, H3, H4⟩, H5⟩
  ihave H1 := (Entails.of_eq (show tok (F := F) (.inr (2, s, j)) (payer (.inr (2, s, j)) c) = dutyTok ER (dmaCell 2 s j c) 0 0 from rfl)) $$ H1
  ihave H3 := (Entails.of_eq (show tok (F := F) (.inr (3, s, j)) (payer (.inr (3, s, j)) c) = dutyTok ER (dmaCell 3 s j (pe s (lvl 2 j) c)) 0 0 from rfl)) $$ H3
  isplitl [H1]; · iexact H1
  isplitl [H3]; · iexact H3
  isplitl [H2]; · iexact H2
  isplitl [H4]; · iexact H4
  iexact H5

/-- The transfers of two kinds before they start, stream by stream. -/
theorem grid_idles (k k' : Fin 4) (c : Dev nD) : grid (fun s j => idle (F := F) k k' s j c) = iprop(idles k k' 0 c ∗ idles k k' 1 c ∗ idles k k' 2 c) := by
  rw [grid_eq]; rfl

/-- The semaphores of two kinds at zero, stream by stream. -/
theorem grid_spents (k k' : Fin 4) (c : Dev nD) : grid (fun s j => spent (F := F) k k' s j c) = iprop(spents k k' 0 c ∗ spents k k' 1 c ∗ spents k k' 2 c) := by
  rw [grid_eq]; rfl

/-- What a device was dealt and its credit are what its body starts from. -/
theorem ready (c : Dev nD) :
    iprop(dealt (F := F) c ∗ Pipeline.launchCred (fun d => tl d pays) c ∗ lands 0 c ∗ lands 1 c ∗ lands 2 c ∗ lands 3 c)
      ⊢ iprop(gate c ∗ allIdle c) := by
  have h1 : iprop(grid (fun s j => bare (F := F) 0 1 s j c) ∗ grid (fun s j => credOf c (.rs s j))) ⊢ iprop(idles 0 1 0 c ∗ idles 0 1 1 c ∗ idles 0 1 2 c) := by
    rw [← grid_sep, ← grid_idles]; exact grid_mono fun s j => idle_of_bare₁ c s j
  have h2 : iprop(grid (fun s j => bare (F := F) 2 3 s j c) ∗ grid (fun s j => credOf c (.ag s j))) ⊢ iprop(idles 2 3 0 c ∗ idles 2 3 1 c ∗ idles 2 3 2 c) := by
    rw [← grid_sep, ← grid_idles]; exact grid_mono fun s j => idle_of_bare₂ c s j
  unfold dealt gate allIdle
  iintro ⟨⟨⟨Ht, Hp⟩, Hb1, Hb2⟩, Hc, Hl⟩
  ihave Hc := (credsOf_launch c pays) $$ Hc
  ihave Hc := (credsOf_pays c) $$ Hc
  icases Hc with ⟨Hc, Hc1, Hc2⟩
  isplitl [Ht Hl Hc Hp]
  · isplitl [Ht]; · iexact Ht
    isplitl [Hl]; · iexact Hl
    isplitl [Hc] <;> iassumption
  isplitl [Hb1 Hc1]
  · iapply h1; isplitl [Hb1] <;> iassumption
  · iapply h2; isplitl [Hb2] <;> iassumption

/-- The transfer semaphores after the body are the kernel's own semaphores at zero. -/
theorem ownSems_of_spent (c : Dev nD) :
    allSpent c ⊢ (Pipeline.ownSems0 (Ix := Unit) (Name := ℕ) (U := UU) (Lvl := ℕ) (Val := Elt F) (τ := τ) osem c : sProp 𝕄) := by
  unfold allSpent Pipeline.ownSems0
  rw [bigSep_kinds (fun k s j => (semVal (dmaCell k s j c) 0 : sProp 𝕄)), ← grid_spents]
  exact Entails.of_eq (congrArg (fun X => iprop(_ ∗ X)) (grid_spents 2 3 c).symm)

/-- The only semaphore that is not the kernel's own is the barrier. -/
theorem barSem_eq (c : Dev nD) : (unscopedSems0 c : sProp 𝕄) = semVal (barCell c) 0 := by
  unfold unscopedSems0; rw [bigSep_eq_bigSepL_of_eq [SemLoc.reg barS] (by decide) (by decide)]; rfl

/-- All semaphores of a device at zero, as its cells. -/
theorem cells_of_sems (c : Dev nD) :
    iprop(Pipeline.ownSems0 (Ix := Unit) (Name := ℕ) (U := UU) (Lvl := ℕ) (Val := Elt F) (τ := τ) osem c ∗ unscopedSems0 c)
      ⊢ (bigSep Finset.univ fun i : CI => semVal (kcell (c, i)) 0 : sProp 𝕄) := by
  rw [bigSep_cells, barSem_eq]
  unfold Pipeline.ownSems0
  iintro ⟨H1, H2⟩
  isplitl [H2]
  · iexact H2
  · iexact H1

end Cert.KernelIdeal.Prf
-- ==== Proof.IdealLaunch.lean ====
/-
# The launch

From the body to the run of the whole kernel on its sixteen devices: what is dealt at launch, the invariants, and
what the arrays hold at the end.
-/
module

public import proofs.«01_k».proof.Proof.IdealStage
public import proofs.«01_k».proof.Proof.IdealDeal
public import proofs.«01_k».proof.Proof.Gen.KernelIdeal.Points
public import Idealize.ShloMosaic.Lib.Quiescent
public import Idealize.ShloMosaic.Lib.Pipeline.CollectiveSegs

@[expose] public section

noncomputable section

namespace Cert.KernelIdeal.Prf

open Cert.KernelIdeal Cert.KernelIdeal.Gen Cert.Bands Cert.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (m : (ℓ : Loc nD τ sig) → Buf (Elt F) ℓ) (ρ : Dev nD → PrngReg)

/-! ## The contents -/

/-- The operands each device is given. -/
def lhs (c : Dev nD) : Buf (Elt F) ((xM : Memref sig .tc .vmem S1536x768 .bf16).view.loc (c : Thread nD τ)) :=
  (win0_0.blk t0_0).view.read (Elt F) (m ((c : Thread nD τ).loc main_arg0))
/-- The right operand each device is given. -/
def rhs (c : Dev nD) : Buf (Elt F) ((yM : Memref sig .tc .vmem S768x1536 .bf16).view.loc (c : Thread nD τ)) :=
  (win0_1.blk t0_0).view.read (Elt F) (m ((c : Thread nD τ).loc main_arg1))

/-- The result, the same on every device. -/
def outAt : (cc0_stg2_0 : Ref sig .tc).ty.Contents (Elt F) := fun i => outF (lhs m) (rhs m) (i 0).val (i 1).val

/-- Once all forty-eight tiles are written the result buffer holds the result. -/
theorem outR_all (c : Dev nD) :
    outR (lhs m) (rhs m) 48 c ⊢ iprop(∃ f : Buf (Elt F) ((c : Thread nD τ).loc cc0_stg2_0), ⌜f = outAt m⌝ ∗ (((c : Thread nD τ).loc cc0_stg2_0) ↦{fullShare} f)) := by
  unfold outR
  iintro ⟨%g, %hg, H⟩
  iexists g
  isplitr
  · ipureintro
    funext i
    have h0 : (i 0).val < 1536 := (i 0).isLt
    refine hg i ?_
    show tileNo (i 0).val (i 1).val < 48
    unfold tileNo
    split <;> [skip; split] <;> omega
  · iexact H

/-! ## What the kernel holds between its two ends -/

/-- What a device starts from beside its buffers. -/
def start (c : Dev nD) : sProp 𝕄 :=
  iprop((∃ K, records (F := F) (lhs m) (rhs m) K) ∗ dealt c ∗ Pipeline.launchCred (fun d => tl d pays) c)

/-- What a device holds when the body starts. -/
def before (c : Dev nD) : sProp 𝕄 := iprop(start m c ∗ sixBufs c)
/-- What a device holds when the body has ended. -/
def finished (c : Dev nD) : sProp 𝕄 := iprop(semVal (barCell c) 0 ∗ allSpent (F := F) c ∗ sixBufs c)

/-- The windows' contents, and what the kernel holds and owes before and after its one point. -/
def dats (_ : Fin 1) (c : Dev nD) : Pipeline.Dat τ (Elt F) Unit ℕ UU ℕ cfg0 c where
  A w := m ((cfg0.win w).arr.view.loc (c : Thread nD τ))
  after w _ := match w with
    | ⟨0, _⟩ => lhs m c
    | ⟨1, _⟩ => rhs m c
    | ⟨2, _⟩ => outAt m
  Φ t := match t with
    | ⟨0, _⟩ => before m c
    | ⟨_ + 1, _⟩ => finished c
  q _ := fullShare
  owed t := match t with
    | ⟨0, _⟩ => tl c pays
    | ⟨_ + 1, _⟩ => 0

/-- Three windows written out. -/
theorem windows (Φ : Fin cfg0.W → sProp 𝕄) : bigSep Finset.univ Φ = iprop(Φ (0 : Fin 3) ∗ Φ (1 : Fin 3) ∗ Φ (2 : Fin 3)) := bigSep_W0 Φ

/-- Owning a whole buffer at given contents. -/
theorem owns_buffer (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A whole buffer at contents `X`. -/
abbrev holds (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-- Everything a device holds when the body starts. -/
def bodyPre (c : Dev nD) : sProp 𝕄 :=
  iprop(before m c ∗ (dats m 0 c).owesAt () t0_0.castSucc
    ∗ (∃ d, holds c cc0_stg0_0 ((dats m 0 c).before (0 : Fin 3) t0_0 d))
    ∗ (∃ d, holds c cc0_stg1_0 ((dats m 0 c).before (1 : Fin 3) t0_0 d))
    ∗ (∃ d, holds c cc0_stg2_0 ((dats m 0 c).before (2 : Fin 3) t0_0 d)))

/-- Everything it holds when the body has ended. -/
def bodyPost (c : Dev nD) : sProp 𝕄 :=
  iprop(finished c ∗ (dats m 0 c).owesAt () t0_0.succ
    ∗ holds c cc0_stg0_0 (lhs m c) ∗ holds c cc0_stg1_0 (rhs m c) ∗ holds c cc0_stg2_0 (outAt m))

set_option maxHeartbeats 1000000 in
/-- The body leads from the one to the other. -/
theorem body_leads (c : Dev nD) : bodyPre m c ⊢ WP c (run (cc0_body (F := F))) (fun _ => bodyPost m c) := by
  unfold bodyPre before start sixBufs
  iintro ⟨⟨⟨⟨%K, #HR⟩, Hd, Hc⟩, W0, W1, W2, S0, S1, S2⟩, Ho, ⟨%dx, %gx, %hx, Hx⟩, ⟨%dy, %gy, %hy, Hy⟩, ⟨%dz, %gz, -, Hz⟩⟩
  have hx' : gx = lhs m c := by rw [hx]; unfold Pipeline.Dat.before; rw [if_pos (fetch0_0 t0_0)]; rfl
  have hy' : gy = rhs m c := by rw [hy]; unfold Pipeline.Dat.before; rw [if_pos (fetch0_1 t0_0)]; rfl
  subst hx' hy'
  unfold Pipeline.Dat.owesAt Pipeline.owesWithin
  icases Ho with ⟨%W, %hW, Ho⟩
  ihave S0 := (bands_of_any 0 c) $$ S0
  ihave S1 := (bands_of_any 1 c) $$ S1
  ihave S2 := (bands_of_any 2 c) $$ S2
  ihave Hl := (lands_of_bands c) $$ [S0 S1 S2]
  · isplitl [S0]; · iexact S0
    isplitl [S1] <;> iassumption
  ihave Hg := (ready c) $$ [Hd Hc Hl]
  · isplitl [Hd]; · iexact Hd
    isplitl [Hc] <;> iassumption
  icases Hg with ⟨Hg, Hi⟩
  iapply (body_run (lhs m) (rhs m) K c (fun _ => bodyPost m c)) $$ HR Hg Hi [Ho] [Hx Hy Hz] [W0 W1 W2]
  · unfold owN ow
    iexists W; iexact Ho
  · unfold hasX hasY
    isplitl [Hx]; · iexact Hx
    isplitl [Hy]; · iexact Hy
    unfold outR
    iexists gz
    isplitr
    · ipureintro; intro i hi; exact absurd hi (Nat.not_lt_zero _)
    · iexact Hz
  · unfold blank
    isplitl [W0]; · iexact W0
    isplitl [W1] <;> iassumption
  · unfold ended bodyPost finished Pipeline.Dat.owesAt Pipeline.owesWithin sixBufs owN ow
    unfold hasX hasY
    iintro ⟨⟨Hb, Hs⟩, ⟨%W', Ho⟩, ⟨Hx, Hy, Hz⟩, ⟨W0, W1, W2⟩, S0, S1, S2⟩
    isplitl [Hb Hs W0 W1 W2 S0 S1 S2]
    · isplitl [Hb]; · iexact Hb
      isplitl [Hs]; · iexact Hs
      isplitl [W0]; · iapply (any_of_final (lhs m) (rhs m) 0 c) $$ W0
      isplitl [W1]; · iapply (any_of_final (lhs m) (rhs m) 1 c) $$ W1
      isplitl [W2]; · iapply (any_of_final (lhs m) (rhs m) 2 c) $$ W2
      isplitl [S0]; · iapply (any_of_landed (lhs m) (rhs m) 0 c) $$ S0
      isplitl [S1]; · iapply (any_of_landed (lhs m) (rhs m) 1 c) $$ S1
      iapply (any_of_landed (lhs m) (rhs m) 2 c) $$ S2
    isplitl [Ho]
    · iexists W'
      isplitr
      · ipureintro; exact fun _ _ => Or.inl trivial
      · iexact Ho
    isplitl [Hx]
    · iexists lhs m c
      isplitr
      · ipureintro; rfl
      · iexact Hx
    isplitl [Hy]
    · iexists rhs m c
      isplitr
      · ipureintro; rfl
      · iexact Hy
    iapply (outR_all m c) $$ Hz

set_option maxRecDepth 65536 in
/-- The body at its one point. -/
theorem body_obligation (c : Dev nD) : Pipeline.BodyObligation (dats (F := F) m 0 c) (defs₀ (F := F)) 𝒱₀ () Set.univ := fun t => by
  rw [fin_N0 t]
  rw [windows, windows]
  simp only [owns_buffer]
  exact body_leads m c

/-! ## The launch -/

/-- The transfer semaphores are the kernel's own and no window's. -/
theorem ownSemFacts : Pipeline.OwnSemFacts cfg0.spec osem := by decide +kernel

/-- Every window's array is held whole. -/
theorem share_full (c : Dev nD) (w : Fin cfg0.W) : (dats m 0 c).share w = fullShare := by unfold Pipeline.Dat.share; split <;> rfl

/-- All cells of all devices. -/
def cells : Finset (GSem nD τ sig) := Finset.univ.map ⟨kcell, kcell_inj⟩
/-- All duties of all devices. -/
def toks : Finset (GSem nD τ sig × ℕ × Fin 4) := Finset.univ.map ⟨fun p : Dev nD × TI => tokAt p.2 p.1, tokAt_inj⟩

/-- The state the launch begins with. -/
def u₀ : UU := (initOf (Pipeline.cells cfgs cellOf_inj) (Pipeline.launchToks cfgs cellOf_inj), initOf cells toks)

/-- What each device is given of the kernel's own state at launch. -/
def given (c : Dev nD) : sProp 𝕄 :=
  iprop((bigSep Finset.univ fun i : CI => roundState ER (rd (lhs m) (rhs m)) (kcell (c, i)) 0)
    ∗ (bigSep Finset.univ fun i : CI => reached ER (kcell (c, i)) 0)
    ∗ (bigSep Finset.univ fun i : CI => atPos ER (kcell (c, i)) 0 ∅ 0)
    ∗ bigSep Finset.univ fun x : TI => tok x c)

/-- What that becomes once the invariants are made. -/
def given' (c : Dev nD) : sProp 𝕄 :=
  iprop((∃ K : Dev nD × CI → ℕ, (bigSep Finset.univ fun ci : Dev nD × CI => cellInv ER (rd (lhs m) (rhs m)) (K ci) (kcell ci))
      ∗ bigSep Finset.univ fun ci : Dev nD × CI => reached ER (kcell ci) 0) ∗ dealt c)

/-- The launch gives each device the rounds, positions and tokens of its own cells. -/
theorem fund_cells : BI.own (ER (initOf cells toks)) ⊢ (|==> bigSep Finset.univ (given m) : sProp 𝕄) := by
  have hX (Φ : GSem nD τ sig → sProp 𝕄) : bigSep cells Φ = bigSep Finset.univ fun c : Dev nD => bigSep Finset.univ fun i : CI => Φ (kcell (c, i)) := by
    unfold cells; rw [bigSep_map, bigSep_univ_prod]; rfl
  have hT : bigSep toks (fun x => (dutyTok ER x.1 x.2.1 x.2.2 : sProp 𝕄)) = bigSep Finset.univ fun c : Dev nD => bigSep Finset.univ fun x : TI => tok x c := by
    unfold toks; rw [bigSep_map, bigSep_univ_prod]; rfl
  iintro HX
  imod (Rounds.fund ER (rd (lhs m) (rhs m)) cells toks) $$ HX with ⟨Hst, Hr, Hat, Htok⟩
  imodintro
  ihave Hst := (Entails.of_eq (hX fun g => roundState ER (rd (lhs m) (rhs m)) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold given; simp only [bigSep_sep']
  isplitl [Hst]; · iexact Hst
  isplitl [Hr]; · iexact Hr
  isplitl [Hat]; · iexact Hat
  iexact Htok

/-- The invariants of one device's cells. -/
theorem cells_alloc (c : Dev nD) :
    iprop(Pipeline.ownSems0 (Ix := Unit) (Name := ℕ) (U := UU) (Lvl := ℕ) (Val := Elt F) (τ := τ) osem c ∗ unscopedSems0 c ∗ given m c)
      ⊢ |={Set.univ}=> iprop((bigSep Finset.univ fun i : CI => iprop(∃ κ : ℕ, cellInv ER (rd (lhs m) (rhs m)) κ (kcell (c, i))))
          ∗ (bigSep Finset.univ fun i : CI => reached ER (kcell (c, i)) 0)
          ∗ (bigSep Finset.univ fun i : CI => atPos ER (kcell (c, i)) 0 ∅ 0) ∗ bigSep Finset.univ fun x : TI => tok x c) := by
  have h : iprop((bigSep Finset.univ fun i : CI => semVal (kcell (c, i)) 0) ∗ bigSep Finset.univ fun i : CI => roundState ER (rd (lhs m) (rhs m)) (kcell (c, i)) 0)
      ⊢ (|={Set.univ}=> bigSep Finset.univ fun i : CI => iprop(∃ κ : ℕ, cellInv ER (rd (lhs m) (rhs m)) κ (kcell (c, i))) : sProp 𝕄) := by
    rw [← bigSep_sep']
    exact (bigSep_mono fun i _ => (Rounds.body_intro ER (rd (lhs m) (rhs m)) (kcell (c, i))).trans inv_alloc).trans (bigSep_fupd _ _)
  unfold given
  iintro ⟨Hos, Hus, Hst, Hr, Hat, Htok⟩
  ihave Hv := (cells_of_sems (F := F) c) $$ [Hos Hus]
  · isplitl [Hos] <;> iassumption
  imod h $$ [Hv Hst] with Hinv
  · isplitl [Hv] <;> iassumption
  imodintro
  isplitl [Hinv]; · iexact Hinv
  isplitl [Hr]; · iexact Hr
  isplitl [Hat] <;> iassumption

/-- All the invariants for every device, and the tokens to those who pay. -/
theorem share_out :
    (bigSep Finset.univ fun c : Dev nD => iprop((bigSep Finset.univ fun i : CI => iprop(∃ κ : ℕ, cellInv ER (rd (lhs m) (rhs m)) κ (kcell (c, i))))
          ∗ (bigSep Finset.univ fun i : CI => reached ER (kcell (c, i)) 0)
          ∗ (bigSep Finset.univ fun i : CI => atPos ER (kcell (c, i)) 0 ∅ 0) ∗ bigSep Finset.univ fun x : TI => tok x c) : sProp 𝕄)
      ⊢ bigSep Finset.univ (given' m) := by
  rw [bigSep_sep', bigSep_sep', bigSep_sep', ← bigSep_univ_prod (fun ci : Dev nD × CI => iprop(∃ κ : ℕ, cellInv ER (rd (lhs m) (rhs m)) κ (kcell ci))),
    ← bigSep_univ_prod (fun ci : Dev nD × CI => (reached ER (kcell ci) 0 : sProp 𝕄)), toks_deal]
  iintro ⟨HI, #HR, Hat, Htok⟩
  ihave HK := (BI.bigSep_exists_pi Finset.univ (fun (ci : Dev nD × CI) (κ : ℕ) => (cellInv ER (rd (lhs m) (rhs m)) κ (kcell ci) : sProp 𝕄))) $$ HI
  icases HK with ⟨%K, #HI⟩
  iapply (bigSep_using (R := iprop((bigSep Finset.univ fun ci : Dev nD × CI => cellInv ER (rd (lhs m) (rhs m)) (K ci) (kcell ci))
      ∗ bigSep Finset.univ fun ci : Dev nD × CI => reached ER (kcell ci) 0)) (Φ := fun c : Dev nD => dealt c) fun c _ => by
    unfold given'
    iintro ⟨H, Hd⟩
    isplitl [H]
    · iexists K; iexact H
    · iexact Hd)
  isplitr
  · isplitl; · iexact HI
    iexact HR
  · iapply ((Entails.of_eq (bigSep_sep' Finset.univ (fun c : Dev nD => bigSep Finset.univ fun i : CI => (atPos ER (kcell (c, i)) 0 ∅ 0 : sProp 𝕄))
      (fun c => bigSep Finset.univ fun x : TI => tok (F := F) x (payer x c))).symm).trans (bigSep_mono fun c _ => dealt_of c))
    isplitl [Hat] <;> iassumption

/-- All devices' invariants made at once. -/
theorem made : (bigSep Finset.univ fun c => iprop(Pipeline.ownSems0 (Ix := Unit) (Name := ℕ) (U := UU) (Lvl := ℕ) (Val := Elt F) (τ := τ) osem c ∗ unscopedSems0 c ∗ given m c) : sProp 𝕄)
    ⊢ |={Set.univ}=> bigSep Finset.univ (given' m) :=
  ((bigSep_mono fun c _ => cells_alloc m c).trans (bigSep_fupd _ _)).trans (BI.fupd_mono (share_out m))

/-- What a device starts from. -/
theorem start_intro (c : Dev nD) :
    iprop(Pipeline.unscopedRestP Pipeline.Prefetch.none cfg0.spec c (fun b => m ((c : Thread nD τ).loc b)) ∗ levAts L lv
        ∗ Pipeline.launchCred (fun d => tl d pays) c ∗ prngReg c (ρ c) ∗ given' m c)
      ⊢ |={Set.univ}=> iprop(start m c ∗ emp) := by
  unfold given' start records
  iintro ⟨-, Hlev, Hcr, -, ⟨%K, HI, HR⟩, Hd⟩
  imodintro
  isplitl
  · isplitl [Hlev HI HR]
    · iexists K
      isplitl [HI]; · iexact HI
      isplitl [HR] <;> iassumption
    isplitl [Hd] <;> iassumption
  · iempintro

/-- With the kernel's own buffers that is what the body starts from. -/
theorem before_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = before m c from rfl]
  unfold before
  iintro ⟨Hs, -, Hr⟩
  isplitl [Hs]; · iexact Hs
  iapply (sixBufs_of_rest c) $$ Hr

/-- The body gives back the semaphores and the buffers. -/
theorem finished_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = finished c from rfl, barSem_eq]
  unfold finished
  iintro ⟨Hb, Hs, Hr⟩
  isplitl [Hb]; · iexact Hb
  isplitl [Hs]
  · iapply (ownSems_of_spent c) $$ Hs
  · iapply (rest_of_sixBufs c) $$ Hr

/-- The pipeline's own waits are allowed at both ends. -/
theorem waits (c : Dev nD) : (levAts L lv : sProp 𝕄) ⊢ Pipeline.cellsWaits cfgs (dats m) () 0 c :=
  Pipeline.cellsWaits_intro cfgs (dats m) () 0 c fun w s t => by
    have hlv : lv ((c : Thread nD τ), SemLoc.dma ((cfg0.spec w).sem s)) () ≤ 0 := by fin_cases w <;> fin_cases s <;> exact Nat.le_refl 0
    rcases t with ⟨_ | _, ht⟩
    · exact mayWait c _ pays hlv (by decide)
    · exact mayWait c _ [] hlv (by decide)

/-! ## The run -/

/-- What a window's array holds at the end. -/
def endA (c : Dev nD) (w : Fin cfg0.W) : Buf (Elt F) ((cfg0.win w).arr.view.loc (c : Thread nD τ)) := (dats m 0 c).arrAt w cfg0.N

set_option maxRecDepth 65536 in
/-- From any memory with zero counters every weakly fair execution of the kernel on the sixteen devices ends, with
    every window's array at `endA` and every counter at zero. -/
theorem run_kernel : θ_run defs (onTc (τ := τ) (main (F := F))) ⟨m, fun _ => 0, ρ⟩
    (fun r => (∀ c : Dev nD, ∀ w : Fin cfg0.W, r.2.mem ((cfg0.win w).arr.view.loc (c : Thread nD τ)) = endA m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0)
    (hshare := share_full m) (hdistinct := winFacts0.arr_inj)
    (O₀ := fun d => tl d pays) (howed₀ := fun _ => rfl) (howedN := fun _ => rfl)
    (L := L) (lv := lv) (hL := L_of_ne) (hwaits := waits m)
    (G := given m) (G' := given' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := made m)
    (hA := fun _ _ => rfl) (hpf := fun _ k => k.elim0)
    (X := start m) (Y := fun c => unscopedSems0 c) (Z := fun _ => iprop(emp))
    (hX := start_intro m ρ) (hin := before_intro m) (hout := finished_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operands are as they were. -/
theorem endA_lhs (c : Dev nD) : endA m c (0 : Fin 3) = m ((c : Thread nD τ).loc main_arg0) :=
  (dats (F := F) m 0 c).arrAt_in (0 : Fin 3) rfl _
/-- The right operand is as it was. -/
theorem endA_rhs (c : Dev nD) : endA m c (1 : Fin 3) = m ((c : Thread nD τ).loc main_arg1) :=
  (dats (F := F) m 0 c).arrAt_in (1 : Fin 3) rfl _

/-- The result array is what the body left. -/
theorem endA_out (c : Dev nD) : endA m c (2 : Fin 3) = outAt m := by
  have h : (win0_2.blk t0_0).view.read (Elt F) (endA m c (2 : Fin 3)) = outAt m := by
    unfold endA
    rw [show cfg0.N = (t0_0 : Fin cfg0.N).val + 1 from rfl, (dats m 0 c).arrAt_succ (2 : Fin 3) t0_0]
    rw [if_pos (flush0_2 t0_0)]
    exact View.read_write_univ _ _
  have hz : (fun a => (win0_2.index t0_0) a * main_v1.ty.shape.size a) = fun _ => 0 := funext fun a => by fin_cases a <;> decide
  have hr := fun f => Memref.read_access_unit_zero (Elt F) main_v1 hz (fun a => by fin_cases a <;> decide) f
  exact (hr _).symm.trans h
/-- The left operand's one block is the whole array. -/
theorem lhs_eq (c : Dev nD) : lhs m c = m ((c : Thread nD τ).loc main_arg0) := by
  have hz : (fun a => (win0_0.index t0_0) a * main_arg0.ty.shape.size a) = fun _ => 0 := funext fun a => by fin_cases a <;> decide
  exact Memref.read_access_unit_zero (Elt F) main_arg0 hz (fun a => by fin_cases a <;> decide) _
/-- The right operand's one block is the whole array. -/
theorem rhs_eq (c : Dev nD) : rhs m c = m ((c : Thread nD τ).loc main_arg1) := by
  have hz : (fun a => (win0_1.index t0_0) a * main_arg1.ty.shape.size a) = fun _ => 0 := funext fun a => by fin_cases a <;> decide
  exact Memref.read_access_unit_zero (Elt F) main_arg1 hz (fun a => by fin_cases a <;> decide) _

end Cert.KernelIdeal.Prf
-- ==== Proof.ValueProd.lean ====
/-
# What one device's products are

At exact arithmetic, an entry of a stream's working buffer before any exchange is the inner product of a row of the
device's left operand and a column of its right one. The buffer keeps the rows in blocks of 96, in the order in which
the devices own them.
-/
module

public import proofs.«01_k».proof.Proof.IdealCopy
public import Idealize.ShloMosaic.Lib.MatmulPlain
public import Idealize.ShloMosaic.Lib.IdealHost
public import Idealize.ShloMosaic.Lib.Pipeline.Value

@[expose] public section

noncomputable section

namespace Cert.KernelIdeal.Prf

open Cert.KernelIdeal Cert.KernelIdeal.Gen Cert.Bands Cert.Mesh
open Idealize.ShloMosaic Idealize.ShloMosaic.ValueIdx
open Idealize.ShloMosaic.TcCoe
open scoped BigOperators

/-- Sixteen blocks of 96 rows, as a list. -/
def blocks (f : Fin 16 → Vec Ideal S96x768 .bf16) : List ((s : Shape) × (s.Idx → Elt Ideal .bf16)) :=
  [⟨S96x768, f 0⟩, ⟨S96x768, f 1⟩, ⟨S96x768, f 2⟩, ⟨S96x768, f 3⟩, ⟨S96x768, f 4⟩, ⟨S96x768, f 5⟩, ⟨S96x768, f 6⟩, ⟨S96x768, f 7⟩, ⟨S96x768, f 8⟩, ⟨S96x768, f 9⟩, ⟨S96x768, f 10⟩, ⟨S96x768, f 11⟩, ⟨S96x768, f 12⟩, ⟨S96x768, f 13⟩, ⟨S96x768, f 14⟩, ⟨S96x768, f 15⟩]

/-- The list by number. -/
theorem blocks_eq (f : Fin 16 → Vec Ideal S96x768 .bf16) :
    blocks f = List.ofFn fun n : Fin 16 => (⟨S96x768, f n⟩ : (s : Shape) × (s.Idx → Elt Ideal .bf16)) := by
  simp only [List.ofFn_succ, List.ofFn_zero]; rfl

/-- Sixteen blocks of 96 rows, one under the other, read at an entry. -/
theorem stack_apply (f : Fin 16 → Vec Ideal S96x768 .bf16)
    (xs : List ((s : Shape) × (s.Idx → Elt Ideal .bf16))) (hx : xs = blocks f)
    (h : Shape.Concatenates (xs.map (·.1)) S1536x768 0) (r : Fin 1536) (i : Fin 768) :
    concatenate S1536x768 0 xs h (ix2 r i) = f ⟨r.val / 96, by omega⟩ (ix2 ⟨r.val % 96, Nat.mod_lt _ (by decide)⟩ i) := by
  rw [blocks_eq] at hx
  subst hx
  exact concatenate_ofFn_apply (s₁ := S96x768) (t := S1536x768) 0 f h rfl 96 rfl (ix2 r i) ⟨r.val / 96, by omega⟩ rfl
    (ix2 ⟨r.val % 96, Nat.mod_lt _ (by decide)⟩ i) rfl (by
      intro b hb
      match b with
      | ⟨0, _⟩ => exact absurd rfl hb
      | ⟨1, _⟩ => rfl)

/-- The product of such a stack and a block of columns, onto zeros, read at an entry. -/
theorem stackMul_apply {w : ℕ} (d : DotDims S1536x768 ⟨2, ![768, w]⟩ ⟨2, ![1536, w]⟩) (hd : d = DotDims.plain 1536 768 w)
    (f : Fin 16 → Vec Ideal S96x768 .bf16) (B : FVec Ideal ⟨2, ![768, w]⟩ .bf16)
    (xs : List ((s : Shape) × (s.Idx → Elt Ideal .bf16))) (hx : xs = blocks f)
    (h : Shape.Concatenates (xs.map (·.1)) S1536x768 0) (r : Fin 1536) (k : Fin w) :
    FloatOps.matmul (F := Ideal) d none (φ₁ := .bf16) (φ₂ := .bf16) (concatenate S1536x768 0 xs h) B (constant ⟨2, ![1536, w]⟩ .f32 0x00000000#32) (ix2 r k)
      = ∑ i : Fin 768, (f ⟨r.val / 96, by omega⟩ (ix2 ⟨r.val % 96, Nat.mod_lt _ (by decide)⟩ i) : EReal) * (B (ix2 i k) : EReal) := by
  subst hd
  refine (Ideal.matmul_plain_apply none _ B _ r k).trans ?_
  show Ideal.ofBits .f32 0x00000000#32 + _ = _
  rw [Ideal.ofBits_zero_f32, zero_add]
  refine Finset.sum_congr rfl fun i _ => ?_
  rw [stack_apply f xs hx]

/-- The chunk a device owns lies within the rows. -/
theorem own_rows (s : Fin 3) (n : Fin 16) : ∀ k, (![96 * (own s n.val).val, 0] : Fin 2 → ℕ) k + S96x768.size k ≤ S1536x768.size k := by
  intro k
  have h := (own s n.val).isLt
  match k with
  | ⟨0, _⟩ => show 96 * (own s n.val).val + 96 ≤ 1536; omega
  | ⟨1, _⟩ => show 0 + 768 ≤ 768; omega

/-- The inner product of row `r` of `X` and column `k` of `Y`. -/
def dotOf (X : S1536x768.Idx → EReal) (Y : S768x1536.Idx → EReal) (r k : Fin 1536) : EReal :=
  ∑ i : Fin 768, X (ix2 r i) * Y (ix2 i k)

variable (fa : (c : Dev nD) → Buf (Elt Ideal) ((xM : Memref sig .tc .vmem S1536x768 .bf16).view.loc (c : Thread nD τ)))
  (fb : (c : Dev nD) → Buf (Elt Ideal) ((yM : Memref sig .tc .vmem S768x1536 .bf16).view.loc (c : Thread nD τ)))

/-- The inner product of row `r` of device `c`'s left operand and column `k` of its right one. -/
def dotAt (c : Dev nD) (r k : Fin 1536) : EReal := dotOf (fa c) (fb c) r k

/-- The row of the left operand that row `r` of a stream's buffer is of. -/
def rowOf (s : Fin 3) (r : Fin 1536) : Fin 1536 :=
  ⟨96 * (own s (r.val / 96)).val + r.val % 96, by have := (own s (r.val / 96)).isLt; omega⟩

/-- An entry of the chunk a device owns. -/
theorem ach_apply (c : Dev nD) (s : Fin 3) (r : Fin 1536) (i : Fin 768) :
    ach fa c (96 * (own s (r.val / 96)).val) (own_rows s ⟨r.val / 96, by omega⟩) (ix2 ⟨r.val % 96, Nat.mod_lt _ (by decide)⟩ i)
      = fa c (ix2 (rowOf s r) i) := by
  show fa c _ = fa c _
  congr 1
  funext a
  apply Fin.ext
  match a with
  | ⟨0, _⟩ => show 96 * (own s (r.val / 96)).val + 1 * (r.val % 96) = 96 * (own s (r.val / 96)).val + r.val % 96; omega
  | ⟨1, _⟩ => show 0 + 1 * i.val = i.val; omega

/-- An entry of the first block of columns. -/
theorem bch0_apply (c : Dev nD) (i : Fin 768) (k : Fin 576) : bch0 fb c (ix2 i k) = fb c (ix2 i ⟨0 + k.val, by omega⟩) := by
  show fb c _ = fb c _
  congr 1
  funext a
  apply Fin.ext
  match a with
  | ⟨0, _⟩ => show 0 + 1 * i.val = i.val; omega
  | ⟨1, _⟩ => show 0 + 1 * k.val = 0 + k.val; omega

/-- An entry of the second block of columns. -/
theorem bch1_apply (c : Dev nD) (i : Fin 768) (k : Fin 512) : bch1 fb c (ix2 i k) = fb c (ix2 i ⟨576 + k.val, by omega⟩) := by
  show fb c _ = fb c _
  congr 1
  funext a
  apply Fin.ext
  match a with
  | ⟨0, _⟩ => show 0 + 1 * i.val = i.val; omega
  | ⟨1, _⟩ => show 576 + 1 * k.val = 576 + k.val; omega

/-- An entry of the third block of columns. -/
theorem bch2_apply (c : Dev nD) (i : Fin 768) (k : Fin 448) : bch2 fb c (ix2 i k) = fb c (ix2 i ⟨1088 + k.val, by omega⟩) := by
  show fb c _ = fb c _
  congr 1
  funext a
  apply Fin.ext
  match a with
  | ⟨0, _⟩ => show 0 + 1 * i.val = i.val; omega
  | ⟨1, _⟩ => show 1088 + 1 * k.val = 1088 + k.val; omega

/-- A chunk, cast to its own shape, is named by its first row. -/
theorem ach_congr (c : Dev nD) {a b : ℕ} (ha : ∀ k, (![a, 0] : Fin 2 → ℕ) k + S96x768.size k ≤ S1536x768.size k)
    (hb : ∀ k, (![b, 0] : Fin 2 → ℕ) k + S96x768.size k ≤ S1536x768.size k) (h : a = b) :
    shapeCast S96x768 (ach fa c a ha) shapeCasts_S96x768_S96x768 = ach fa c b hb := by
  subst h; exact shapeCast_self _ _

/-- The chunks of the left operand in the order of a stream. -/
abbrev chunks (s : Fin 3) (c : Dev nD) (n : Fin 16) : Vec Ideal S96x768 .bf16 :=
  ach fa c (96 * (own s n.val).val) (own_rows s n)

/-- The first product, read at an entry. -/
theorem prod0_apply (c : Dev nD) (r : Fin 1536) (k : Fin 576) :
    (prod0 fa fb c (ix2 r k) : EReal) = dotAt fa fb c (rowOf 0 r) ⟨0 + k.val, by omega⟩ := by
  unfold prod0 k0_pay5 k0_pay1 k0_pay2 k0_pay3 k0_pay4
  simp only [shapeCast_self]
  refine (stackMul_apply dot_S1536x768_S768x576_S1536x576_1_0_0_1_n_n rfl (chunks fa 0 c) (bch0 fb c) _ (by
    unfold blocks chunks
    repeat' first | exact congrArg (Sigma.mk S96x768) (ach_congr fa c _ _ (by decide)) | exact rfl | refine congrArg₂ List.cons ?_ ?_) _ r k).trans ?_
  exact Finset.sum_congr rfl fun i _ => congr (congrArg _ (ach_apply fa c 0 r i)) (bch0_apply fb c i k)

/-- The second product, read at an entry. -/
theorem prod1_apply (c : Dev nD) (r : Fin 1536) (k : Fin 512) :
    (prod1 fa fb c (ix2 r k) : EReal) = dotAt fa fb c (rowOf 1 r) ⟨576 + k.val, by omega⟩ := by
  unfold prod1 k0_pay11 k0_pay6 k0_pay7 k0_pay8 k0_pay9 k0_pay10
  simp only [shapeCast_self]
  refine (stackMul_apply dot_S1536x768_S768x512_S1536x512_1_0_0_1_n_n rfl (chunks fa 1 c) (bch1 fb c) _ (by
    unfold blocks chunks
    repeat' first | exact congrArg (Sigma.mk S96x768) (ach_congr fa c _ _ (by decide)) | exact rfl | refine congrArg₂ List.cons ?_ ?_) _ r k).trans ?_
  exact Finset.sum_congr rfl fun i _ => congr (congrArg _ (ach_apply fa c 1 r i)) (bch1_apply fb c i k)

/-- The third product, read at an entry. -/
theorem prod2_apply (c : Dev nD) (r : Fin 1536) (k : Fin 448) :
    (prod2 fa fb c (ix2 r k) : EReal) = dotAt fa fb c (rowOf 2 r) ⟨1088 + k.val, by omega⟩ := by
  unfold prod2 k0_pay19 k0_pay12 k0_pay13 k0_pay14 k0_pay15 k0_pay16 k0_pay17 k0_pay18
  simp only [shapeCast_self]
  refine (stackMul_apply dot_S1536x768_S768x448_S1536x448_1_0_0_1_n_n rfl (chunks fa 2 c) (bch2 fb c) _ (by
    unfold blocks chunks
    repeat' first | exact congrArg (Sigma.mk S96x768) (ach_congr fa c _ _ (by decide)) | exact rfl | refine congrArg₂ List.cons ?_ ?_) _ r k).trans ?_
  exact Finset.sum_congr rfl fun i _ => congr (congrArg _ (ach_apply fa c 2 r i)) (bch2_apply fb c i k)

/-- The last column of a stream. -/
theorem co_wd (s : Fin 3) : co s + wd s ≤ 1536 := by revert s; decide

/-- A stream's working buffer before any exchange, read at an entry. -/
theorem V0_apply (s : Fin 3) (c : Dev nD) (r : Fin 1536) (k : Fin (wd s)) :
    (V0 fa fb s c r.val k.val : EReal) = dotAt fa fb c (rowOf s r) ⟨co s + k.val, by have := co_wd s; omega⟩ := by
  match s with
  | 0 => exact (tab_idx zero16 (prod0 fa fb c) (ix2 r k)).trans (prod0_apply fa fb c r k)
  | 1 => exact (tab_idx zero16 (prod1 fa fb c) (ix2 r k)).trans (prod1_apply fa fb c r k)
  | 2 => exact (tab_idx zero16 (prod2 fa fb c) (ix2 r k)).trans (prod2_apply fa fb c r k)

end Cert.KernelIdeal.Prf
-- ==== Proof.ValueTotal.lean ====
/-
# What the exchange computes

At exact arithmetic the order of a sum does not matter, so after four rounds every entry of a working buffer is the sum
of that entry over the sixteen devices. The result is that sum, activated, with the rows back in their own order.
-/
module

public import proofs.«01_k».proof.Proof.ValueProd

@[expose] public section

noncomputable section

namespace Cert.KernelIdeal.Prf

open Cert.KernelIdeal Cert.KernelIdeal.Gen Cert.Bands Cert.Mesh
open Idealize.ShloMosaic Idealize.ShloMosaic.ValueIdx
open Idealize.ShloMosaic.TcCoe
open scoped BigOperators

/-! ## Which devices a partial sum is over -/

/-- The devices whose products a device's partial sums hold after `j` rounds. -/
def heard (s : Fin 3) : ℕ → Fin 16 → Finset (Fin 16)
  | 0, c => {c}
  | j + 1, c => heard s j c ∪ heard s j (pe s ⟨j % 4, Nat.mod_lt _ (by decide)⟩ c)

/-- In no round does a device hear of a product twice. -/
theorem heard_disjoint (s : Fin 3) (j : Fin 4) (c : Fin 16) :
    Disjoint (heard s j.val c) (heard s j.val (pe s ⟨j.val % 4, Nat.mod_lt _ (by decide)⟩ c)) := by
  revert s j c; decide

/-- After four rounds a device has heard of all. -/
theorem heard_all (s : Fin 3) (c : Fin 16) : heard s 4 c = Finset.univ := by
  revert s c; decide

variable (fa : (c : Dev nD) → Buf (Elt Ideal) ((xM : Memref sig .tc .vmem S1536x768 .bf16).view.loc (c : Thread nD τ)))
  (fb : (c : Dev nD) → Buf (Elt Ideal) ((yM : Memref sig .tc .vmem S768x1536 .bf16).view.loc (c : Thread nD τ)))

/-- A partial sum is the sum of the products heard of. -/
theorem V_sum (s : Fin 3) (r k : ℕ) (j : ℕ) (hj : j ≤ 4) (c : Fin 16) :
    (V fa fb j s c r k : EReal) = ∑ d ∈ heard s j c, (V0 fa fb s d r k : EReal) := by
  induction j generalizing c with
  | zero => exact (Finset.sum_singleton _ _).symm
  | succ j ih =>
    show (V fa fb j s c r k : EReal) + (V fa fb j s (pe s ⟨j % 4, Nat.mod_lt _ (by decide)⟩ c) r k : EReal) = _
    rw [ih (by omega), ih (by omega)]
    exact (Finset.sum_union (heard_disjoint s ⟨j, by omega⟩ c)).symm

/-! ## The result -/

/-- The activation at exact arithmetic. -/
theorem act_eq (x : EReal) : (act (F := Ideal) x : EReal) = Ideal.div x (1 + Ideal.exp (-x)) := by
  show Ideal.div x (Ideal.ofBits .f32 0x3F800000#32 + Ideal.exp (Ideal.ofBits .f32 0x00000000#32 - x)) = _
  rw [Ideal.ofBits_zero_f32, Ideal.ofBits_one_f32, zero_sub]

/-- The sum over the devices of the inner products of row `r` and column `k`. -/
def total (r k : Fin 1536) : EReal := ∑ d : Fin 16, dotAt fa fb d r k

/-- The rows of a stream's buffer, read back in order, are those of the operand. -/
theorem rowOf_src (s : Fin 3) (r : Fin 1536) (h : src s r.val < 1536) : rowOf s ⟨src s r.val, h⟩ = r := by
  have hq : r.val / 96 % 16 = r.val / 96 := Nat.mod_eq_of_lt (by omega)
  have e := own_kp s (⟨r.val / 96 % 16, Nat.mod_lt _ (by decide)⟩ : Fin 16)
  have hd : src s r.val / 96 = kp s 3 (⟨r.val / 96 % 16, Nat.mod_lt _ (by decide)⟩ : Fin 16) := by unfold src; omega
  have hm : src s r.val % 96 = r.val % 96 := by unfold src; omega
  apply Fin.ext
  show 96 * (own s (src s r.val / 96)).val + src s r.val % 96 = r.val
  rw [hd, hm, e]
  show 96 * (r.val / 96 % 16) + r.val % 96 = r.val
  omega

/-- A chunk's number is below sixteen. -/
theorem kp_lt (s : Fin 3) (c : Fin 16) : kp s 3 c < 16 := by revert s c; decide

/-- Such a row lies in the buffer. -/
theorem src_lt (s : Fin 3) (r : Fin 1536) : src s r.val < 1536 := by
  have := kp_lt s (⟨r.val / 96 % 16, Nat.mod_lt _ (by decide)⟩ : Fin 16)
  unfold src
  omega

/-- A stream's final buffer, read at the row that row `r` of the result comes from. -/
theorem Fn_apply (s : Fin 3) (r : Fin 1536) (k : Fin (wd s)) :
    (Fn fa fb s (src s r.val) k.val : EReal)
      = Ideal.div (total fa fb r ⟨co s + k.val, by have := co_wd s; omega⟩)
          (1 + Ideal.exp (-(total fa fb r ⟨co s + k.val, by have := co_wd s; omega⟩))) := by
  unfold Fn
  rw [act_eq, V_sum fa fb s _ _ 4 (Nat.le_refl _), heard_all]
  have e : (∑ d : Fin 16, (V0 fa fb s d (src s r.val) k.val : EReal))
      = total fa fb r ⟨co s + k.val, by have := co_wd s; omega⟩ :=
    Finset.sum_congr rfl fun d _ =>
      (V0_apply fa fb s d ⟨src s r.val, src_lt s r⟩ k).trans (by rw [rowOf_src])
  rw [e]

/-- **The result at an entry**: the sum over the devices of the inner products, activated. -/
theorem outF_apply (r k : Fin 1536) :
    (outF fa fb r.val k.val : EReal) = Ideal.div (total fa fb r k) (1 + Ideal.exp (-(total fa fb r k))) := by
  have key : ∀ (s : Fin 3) (j : ℕ) (hj : j < wd s) (h : co s + j = k.val),
      (Fn fa fb s (src s r.val) j : EReal) = Ideal.div (total fa fb r k) (1 + Ideal.exp (-(total fa fb r k))) := by
    intro s j hj h
    have e := Fn_apply fa fb s r ⟨j, hj⟩
    rwa [show (⟨co s + j, by have := co_wd s; omega⟩ : Fin 1536) = k from Fin.ext h] at e
  unfold outF
  split
  · rename_i h; exact key 0 _ h (Nat.zero_add _)
  · split
    · rename_i h1 h2; exact key 1 _ (show _ < 512 by omega) (show 576 + _ = _ by omega)
    · rename_i h1 h2; exact key 2 _ (show _ < 448 by omega) (show 1088 + _ = _ by omega)

end Cert.KernelIdeal.Prf
-- ==== Proof.ValueEq.lean ====
/-
# The kernel's result is the reference's

The reference contracts over 12288 positions at once; each device contracts over its own 768 of them. The sixteen
partial sums add up to the whole one, and both programs then apply the same activation.
-/
module

public import proofs.«01_k».proof.Proof.ValueTotal
public import proofs.«01_k».proof.Proof.Gen.ReferenceIdeal
public import Idealize.ShloMosaic.Lib.Layout
public import Idealize.ShloMosaic.Lib.StackMember

@[expose] public section

noncomputable section

namespace Cert.KernelIdeal.Prf

open Cert.KernelIdeal Cert.KernelIdeal.Gen Cert.Bands Cert.Mesh
open Idealize.ShloMosaic Idealize.ShloMosaic.ValueIdx
open Idealize.ShloMosaic.TcCoe
open scoped BigOperators

/-- The shape of the whole left operand. -/
abbrev WA : Shape := ⟨2, ![1536, 12288]⟩
/-- The shape of the whole right operand. -/
abbrev WB : Shape := ⟨2, ![12288, 1536]⟩

/-- A sum over 12288 positions, by the device that holds each. -/
theorem sum_split (g : Fin 12288 → EReal) :
    ∑ j : Fin 12288, g j = ∑ d : Fin 16, ∑ i : Fin 768, g ⟨d.val * 768 + i.val, by omega⟩ := by
  rw [← Fintype.sum_prod_type' (f := fun (d : Fin 16) (i : Fin 768) => g ⟨d.val * 768 + i.val, by omega⟩)]
  refine (Fintype.sum_equiv (finProdFinEquiv (m := 16) (n := 768)) _ _ fun x => ?_).symm
  congr 1
  apply Fin.ext
  show x.1.val * 768 + x.2.val = x.2.val + 768 * x.1.val
  omega

/-- The devices' inner products add up to the whole operands' one. -/
theorem total_blocks (A : WA.Idx → EReal) (B : WB.Idx → EReal) (r k : Fin 1536) :
    ∑ d : Fin 16, dotOf (Layout.block ⟨2, ![1536, 768]⟩ WA 1 16 d A) (Layout.block ⟨2, ![768, 1536]⟩ WB 0 16 d B) r k
      = ∑ j : Fin 12288, A (ix2 r j) * B (ix2 j k) := by
  rw [sum_split]
  refine Finset.sum_congr rfl fun d _ => Finset.sum_congr rfl fun i _ => ?_
  have ea : (Layout.block ⟨2, ![1536, 768]⟩ WA 1 16 d A) (ix2 r i) = A (ix2 r ⟨d.val * 768 + i.val, by omega⟩) := by
    rw [Layout.block_apply]
    congr 1
    funext a
    apply Fin.ext
    match a with
    | ⟨0, _⟩ => rfl
    | ⟨1, _⟩ => rfl
  have eb : (Layout.block ⟨2, ![768, 1536]⟩ WB 0 16 d B) (ix2 i k) = B (ix2 ⟨d.val * 768 + i.val, by omega⟩ k) := by
    rw [Layout.block_apply]
    congr 1
    funext a
    apply Fin.ext
    match a with
    | ⟨0, _⟩ => rfl
    | ⟨1, _⟩ => rfl
  rw [ea, eb]

/-- The reference's activation of a whole array. -/
def refAct (z : FVec Ideal Cert.ReferenceIdeal.S1536x1536 .bf16) : FVec Ideal Cert.ReferenceIdeal.S1536x1536 .bf16 :=
  Host.divf z (addf (broadcastInDim Cert.ReferenceIdeal.S1536x1536 ![] Cert.ReferenceIdeal.Gen.bcast_S_S1536x1536
    (constant Cert.ReferenceIdeal.S_ .bf16 0x3F80#16)) (Host.exp (Host.negf z)))

/-- That activation at an entry. -/
theorem refAct_apply (z : FVec Ideal Cert.ReferenceIdeal.S1536x1536 .bf16) (i : Cert.ReferenceIdeal.S1536x1536.Idx) :
    (refAct z i : EReal) = Ideal.div (z i) (1 + Ideal.exp (-(z i : EReal))) := by
  show Ideal.div (z i) (Ideal.ofBits .bf16 0x3F80#16 + Ideal.exp (-(z i : EReal))) = _
  rw [Ideal.ofBits_one_bf16]

/-- The reference's product of whole operands, rounded to 16 bits. -/
def refMul (A : FVec Ideal WA .bf16) (B : FVec Ideal WB .bf16) : FVec Ideal Cert.ReferenceIdeal.S1536x1536 .bf16 :=
  truncf .bf16 (Host.dotGeneral Cert.ReferenceIdeal.dot_S1536x12288_S12288x1536_S1536x1536_1_0_0_1_n_n none A B)
    Cert.ReferenceIdeal.Gen.bitsLt_bf16_f32

/-- What the reference computes of whole operands. -/
def refOut (A : FVec Ideal WA .bf16) (B : FVec Ideal WB .bf16) : FVec Ideal Cert.ReferenceIdeal.S1536x1536 .bf16 :=
  refAct (refMul A B)

/-- **The reference's result at an entry**: the inner product over all positions, activated. -/
theorem refOut_apply (A : FVec Ideal WA .bf16) (B : FVec Ideal WB .bf16) (r k : Fin 1536) :
    (refOut A B (ix2 r k) : EReal)
      = Ideal.div (∑ j : Fin 12288, (A (ix2 r j) : EReal) * B (ix2 j k))
          (1 + Ideal.exp (-(∑ j : Fin 12288, (A (ix2 r j) : EReal) * B (ix2 j k)))) := by
  have ez : (refMul A B (ix2 r k) : EReal) = ∑ j : Fin 12288, (A (ix2 r j) : EReal) * B (ix2 j k) :=
    StackMember.dotGeneral_plain_apply none A B r k
  unfold refOut
  rw [refAct_apply, ez]

variable (fa : (c : Dev nD) → Buf (Elt Ideal) ((xM : Memref sig .tc .vmem S1536x768 .bf16).view.loc (c : Thread nD τ)))
  (fb : (c : Dev nD) → Buf (Elt Ideal) ((yM : Memref sig .tc .vmem S768x1536 .bf16).view.loc (c : Thread nD τ)))

/-- **The equation**: where the devices' operands are the blocks of `A` and of `B`, the kernel's result is the
reference's of `A` and `B`, entry by entry. -/
theorem out_eq_ref (A : FVec Ideal WA .bf16) (B : FVec Ideal WB .bf16)
    (ha : ∀ c : Dev nD, fa c = Layout.block ⟨2, ![1536, 768]⟩ WA 1 16 c A)
    (hb : ∀ c : Dev nD, fb c = Layout.block ⟨2, ![768, 1536]⟩ WB 0 16 c B) (i : (⟨2, ![1536, 1536]⟩ : Shape).Idx) :
    outF fa fb (i 0).val (i 1).val = refOut A B i := by
  have et : total fa fb (i 0) (i 1) = ∑ j : Fin 12288, (A (ix2 (i 0) j) : EReal) * B (ix2 j (i 1)) := by
    rw [← total_blocks A B (i 0) (i 1)]
    refine Finset.sum_congr rfl fun d _ => ?_
    unfold dotAt
    rw [ha d, hb d]
  have e1 := outF_apply fa fb (i 0) (i 1)
  have e2 := refOut_apply A B (i 0) (i 1)
  rw [et, ← e2] at e1
  rw [eq_ix2 i]
  exact e1

end Cert.KernelIdeal.Prf
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.BitsLaunch
public import proofs.«01_k».proof.Proof.IdealLaunch
public import proofs.«01_k».proof.Proof.ValueEq
public import Idealize.ShloMosaic.Lib.Quiescent
public import Idealize.ShloMosaic.Adequacy
public import Idealize.ShloMosaic.Init

@[expose] public section

noncomputable section

namespace Cert.Proof

open Idealize.ShloMosaic Idealize.SL.Sem

set_option maxRecDepth 65536 in
/-- The kernel as printed runs to its end from every memory, leaves both operands as they were and
leaves every semaphore counter at zero. -/
theorem kernel_frame : Cert.quiescent_Kernel (hKernel := Cert.Kernel.Gen.facts) := fun m ρ _ =>
  (θ_run _ _ _).mono
    (fun _ h => ⟨fun c => ⟨(h.1 c (0 : Fin 3)).trans (Cert.Kernel.Prf.endA_lhs m c),
      (h.1 c (1 : Fin 3)).trans (Cert.Kernel.Prf.endA_rhs m c)⟩, h.2⟩)
    (Cert.Kernel.Prf.run_kernel (F := Bits) m ρ)

set_option maxRecDepth 65536 in
/-- The same of the kernel read at exact arithmetic. -/
theorem ideal_frame : Cert.quiescent_KernelIdeal (hKernelIdeal := Cert.KernelIdeal.Gen.facts) :=
  fun m ρ _ => (θ_run _ _ _).mono
    (fun _ h => ⟨fun c => ⟨(h.1 c (0 : Fin 3)).trans (Cert.KernelIdeal.Prf.endA_lhs m c),
      (h.1 c (1 : Fin 3)).trans (Cert.KernelIdeal.Prf.endA_rhs m c)⟩, h.2⟩)
    (Cert.KernelIdeal.Prf.run_kernel (F := Ideal) m ρ)

/-- The reference runs to its end from every memory, leaves both operands as they were, and has no
semaphore to leave raised. -/
theorem reference_frame :
    Cert.quiescent_ReferenceIdeal (hReferenceIdeal := Cert.ReferenceIdeal.Gen.facts) :=
  fun m ρ _ => (θ_run _ _ _).mono
    (fun r h => ⟨fun c => (h c).2, Idealize.ShloMosaic.sem_eq_zero_of_no_sems (by decide) r.2⟩)
    (Cert.ReferenceIdeal.Value.run (F := Ideal) m ρ)

set_option maxRecDepth 65536 in
/-- Kernel and reference compute the same function at exact arithmetic: where the devices' operands are
the blocks of the reference's, every device's result is the reference's whole result. -/
theorem same_function : Cert.algebraic_KernelIdeal_ReferenceIdeal
    (hKernelIdeal := Cert.KernelIdeal.Gen.facts) (hReferenceIdeal := Cert.ReferenceIdeal.Gen.facts) := by
  intro m g m' g' _ hm
  refine ⟨Cert.KernelIdeal.Prf.outAt (F := Ideal) m, (θ_run _ _ _).mono ?_ (Cert.KernelIdeal.Prf.run_kernel (F := Ideal) m g),
    (θ_run _ _ _).mono ?_ (Cert.ReferenceIdeal.Value.run (F := Ideal) m' g')⟩
  · exact fun _ h c => ⟨(h.1 c (2 : Fin 3)).trans (Cert.KernelIdeal.Prf.endA_out m c),
      (h.1 c (0 : Fin 3)).trans (Cert.KernelIdeal.Prf.endA_lhs m c),
      (h.1 c (1 : Fin 3)).trans (Cert.KernelIdeal.Prf.endA_rhs m c)⟩
  · refine fun r h => ⟨(h 0).1.trans ?_, (h 0).2⟩
    refine Eq.symm (funext fun i => ?_)
    exact Cert.KernelIdeal.Prf.out_eq_ref _ _ _ _
      (fun c => (Cert.KernelIdeal.Prf.lhs_eq m c).trans (hm c).1)
      (fun c => (Cert.KernelIdeal.Prf.rhs_eq m c).trans (hm c).2) i

/-- Everything this certificate claims. -/
theorem claim : Cert.Claim :=
  ⟨Cert.Kernel.Gen.facts, Cert.KernelIdeal.Gen.facts, Cert.ReferenceIdeal.Gen.facts,
    kernel_frame, ideal_frame, reference_frame, trivial, same_function⟩

end Cert.Proof

end
